-- ==== Defs.lean ====
def Pre_Kernel [hPre_names_experts : Cert.Pre_names_experts.Facts] (m : (ℓ : Loc Cert.Kernel.nD Cert.Kernel.τ Cert.Kernel.sig) → Buf (Elt Bits) ℓ) : Prop :=
  ∀ c : Dev Cert.Kernel.nD,
    (Cert.Pre_names_experts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_names_experts : Cert.Pre_names_experts.Facts] (m : (ℓ : Loc Cert.KernelIdeal.nD Cert.KernelIdeal.τ Cert.KernelIdeal.sig) → Buf (Elt Ideal) ℓ) : Prop :=
  ∀ c : Dev Cert.KernelIdeal.nD,
    (Cert.Pre_names_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_names_experts : Cert.Pre_names_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_names_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def quiescent_Kernel [hKernel : Cert.Kernel.Facts] [hPre_names_experts : Cert.Pre_names_experts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_names_experts : Cert.Pre_names_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_names_experts : Cert.Pre_names_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3)
      ∧ r.2.mem ((c.tc : Thread Cert.Join.nD Cert.Join.τ).loc Cert.Join.main_arg4) = m ((c.tc : Thread Cert.Join.nD Cert.Join.τ).loc Cert.Join.main_arg4)
      ∧ r.2.mem ((c.tc : Thread Cert.Join.nD Cert.Join.τ).loc Cert.Join.main_arg5) = m ((c.tc : Thread Cert.Join.nD Cert.Join.τ).loc Cert.Join.main_arg5)
      ∧ r.2.mem ((c.tc : Thread Cert.Join.nD Cert.Join.τ).loc Cert.Join.main_arg6) = m ((c.tc : Thread Cert.Join.nD Cert.Join.τ).loc Cert.Join.main_arg6)
      ∧ r.2.mem ((c.tc : Thread Cert.Join.nD Cert.Join.τ).loc Cert.Join.main_arg7) = m ((c.tc : Thread Cert.Join.nD Cert.Join.τ).loc Cert.Join.main_arg7)
      ∧ r.2.mem ((c.tc : Thread Cert.Join.nD Cert.Join.τ).loc Cert.Join.main_arg8) = m ((c.tc : Thread Cert.Join.nD Cert.Join.τ).loc Cert.Join.main_arg8)
      ∧ r.2.mem ((c.tc : Thread Cert.Join.nD Cert.Join.τ).loc Cert.Join.main_arg9) = m ((c.tc : Thread Cert.Join.nD Cert.Join.τ).loc Cert.Join.main_arg9)
      ∧ r.2.mem ((c.tc : Thread Cert.Join.nD Cert.Join.τ).loc Cert.Join.main_arg10) = m ((c.tc : Thread Cert.Join.nD Cert.Join.τ).loc Cert.Join.main_arg10))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
      ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
      ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
      ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
      ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8)
      ∧ r.2.mem ((c.tc : Thread Cert.JoinIdeal.nD Cert.JoinIdeal.τ).loc Cert.JoinIdeal.main_arg9) = m ((c.tc : Thread Cert.JoinIdeal.nD Cert.JoinIdeal.τ).loc Cert.JoinIdeal.main_arg9)
      ∧ r.2.mem ((c.tc : Thread Cert.JoinIdeal.nD Cert.JoinIdeal.τ).loc Cert.JoinIdeal.main_arg10) = m ((c.tc : Thread Cert.JoinIdeal.nD Cert.JoinIdeal.τ).loc Cert.JoinIdeal.main_arg10))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3)
      ∧ r.2.mem ((c.tc : Thread Cert.JoinRefIdeal.nD Cert.JoinRefIdeal.τ).loc Cert.JoinRefIdeal.main_arg4) = m ((c.tc : Thread Cert.JoinRefIdeal.nD Cert.JoinRefIdeal.τ).loc Cert.JoinRefIdeal.main_arg4)
      ∧ r.2.mem ((c.tc : Thread Cert.JoinRefIdeal.nD Cert.JoinRefIdeal.τ).loc Cert.JoinRefIdeal.main_arg5) = m ((c.tc : Thread Cert.JoinRefIdeal.nD Cert.JoinRefIdeal.τ).loc Cert.JoinRefIdeal.main_arg5)
      ∧ r.2.mem ((c.tc : Thread Cert.JoinRefIdeal.nD Cert.JoinRefIdeal.τ).loc Cert.JoinRefIdeal.main_arg6) = m ((c.tc : Thread Cert.JoinRefIdeal.nD Cert.JoinRefIdeal.τ).loc Cert.JoinRefIdeal.main_arg6)
      ∧ r.2.mem ((c.tc : Thread Cert.JoinRefIdeal.nD Cert.JoinRefIdeal.τ).loc Cert.JoinRefIdeal.main_arg7) = m ((c.tc : Thread Cert.JoinRefIdeal.nD Cert.JoinRefIdeal.τ).loc Cert.JoinRefIdeal.main_arg7)
      ∧ r.2.mem ((c.tc : Thread Cert.JoinRefIdeal.nD Cert.JoinRefIdeal.τ).loc Cert.JoinRefIdeal.main_arg8) = m ((c.tc : Thread Cert.JoinRefIdeal.nD Cert.JoinRefIdeal.τ).loc Cert.JoinRefIdeal.main_arg8)
      ∧ r.2.mem ((c.tc : Thread Cert.JoinRefIdeal.nD Cert.JoinRefIdeal.τ).loc Cert.JoinRefIdeal.main_arg9) = m ((c.tc : Thread Cert.JoinRefIdeal.nD Cert.JoinRefIdeal.τ).loc Cert.JoinRefIdeal.main_arg9)
      ∧ r.2.mem ((c.tc : Thread Cert.JoinRefIdeal.nD Cert.JoinRefIdeal.τ).loc Cert.JoinRefIdeal.main_arg10) = m ((c.tc : Thread Cert.JoinRefIdeal.nD Cert.JoinRefIdeal.τ).loc Cert.JoinRefIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_names_experts : Cert.Pre_names_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)) →
    ∃ (v0 : (c : Dev Cert.SampleIdeal.nD) → Buf (Elt Ideal) ((c.tc : Thread Cert.SampleIdeal.nD Cert.SampleIdeal.τ).loc Cert.SampleIdeal.main_v26)) (v1 : (c : Dev Cert.SampleIdeal.nD) → Buf (Elt Ideal) ((c.tc : Thread Cert.SampleIdeal.nD Cert.SampleIdeal.τ).loc Cert.SampleIdeal.main_v27)) (v2 : (c : Dev Cert.SampleIdeal.nD) → Buf (Elt Ideal) ((c.tc : Thread Cert.SampleIdeal.nD Cert.SampleIdeal.τ).loc Cert.SampleIdeal.main_v28)) (v3 : (c : Dev Cert.SampleIdeal.nD) → Buf (Elt Ideal) ((c.tc : Thread Cert.SampleIdeal.nD Cert.SampleIdeal.τ).loc Cert.SampleIdeal.main_v29)) (v4 : (c : Dev Cert.SampleIdeal.nD) → Buf (Elt Ideal) ((c.tc : Thread Cert.SampleIdeal.nD Cert.SampleIdeal.τ).loc Cert.SampleIdeal.main_v17_0)) (v5 : (c : Dev Cert.SampleIdeal.nD) → Buf (Elt Ideal) ((c.tc : Thread Cert.SampleIdeal.nD Cert.SampleIdeal.τ).loc Cert.SampleIdeal.main_v17_1)) (v6 : (c : Dev Cert.SampleIdeal.nD) → Buf (Elt Ideal) ((c.tc : Thread Cert.SampleIdeal.nD Cert.SampleIdeal.τ).loc Cert.SampleIdeal.main_v30)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v26) = v0 c
          ∧ r.2.mem ((c.tc : Thread Cert.SampleIdeal.nD Cert.SampleIdeal.τ).loc Cert.SampleIdeal.main_v27) = v1 c
          ∧ r.2.mem ((c.tc : Thread Cert.SampleIdeal.nD Cert.SampleIdeal.τ).loc Cert.SampleIdeal.main_v28) = v2 c
          ∧ r.2.mem ((c.tc : Thread Cert.SampleIdeal.nD Cert.SampleIdeal.τ).loc Cert.SampleIdeal.main_v29) = v3 c
          ∧ r.2.mem ((c.tc : Thread Cert.SampleIdeal.nD Cert.SampleIdeal.τ).loc Cert.SampleIdeal.main_v17_0) = v4 c
          ∧ r.2.mem ((c.tc : Thread Cert.SampleIdeal.nD Cert.SampleIdeal.τ).loc Cert.SampleIdeal.main_v17_1) = v5 c
          ∧ r.2.mem ((c.tc : Thread Cert.SampleIdeal.nD Cert.SampleIdeal.τ).loc Cert.SampleIdeal.main_v30) = v6 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v89) = v0 c
          ∧ r.2.mem ((c.tc : Thread Cert.SampleRefIdeal.nD Cert.SampleRefIdeal.τ).loc Cert.SampleRefIdeal.main_v90) = v1 c
          ∧ r.2.mem ((c.tc : Thread Cert.SampleRefIdeal.nD Cert.SampleRefIdeal.τ).loc Cert.SampleRefIdeal.main_v92) = v2 c
          ∧ r.2.mem ((c.tc : Thread Cert.SampleRefIdeal.nD Cert.SampleRefIdeal.τ).loc Cert.SampleRefIdeal.main_v93) = v3 c
          ∧ r.2.mem ((c.tc : Thread Cert.SampleRefIdeal.nD Cert.SampleRefIdeal.τ).loc Cert.SampleRefIdeal.main_v94) = v4 c
          ∧ r.2.mem ((c.tc : Thread Cert.SampleRefIdeal.nD Cert.SampleRefIdeal.τ).loc Cert.SampleRefIdeal.main_v95) = v5 c
          ∧ r.2.mem ((c.tc : Thread Cert.SampleRefIdeal.nD Cert.SampleRefIdeal.τ).loc Cert.SampleRefIdeal.main_v96) = v6 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8))

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)
      ∧ m' ((c.tc : Thread Cert.PromptRefIdeal.nD Cert.PromptRefIdeal.τ).loc Cert.PromptRefIdeal.main_arg6) = m ((c.tc : Thread Cert.PromptIdeal.nD Cert.PromptIdeal.τ).loc Cert.PromptIdeal.main_arg6)) →
    ∃ (v0 : (c : Dev Cert.PromptIdeal.nD) → Buf (Elt Ideal) ((c.tc : Thread Cert.PromptIdeal.nD Cert.PromptIdeal.τ).loc Cert.PromptIdeal.main_v10)) (v1 : (c : Dev Cert.PromptIdeal.nD) → Buf (Elt Ideal) ((c.tc : Thread Cert.PromptIdeal.nD Cert.PromptIdeal.τ).loc Cert.PromptIdeal.main_v11)) (v2 : (c : Dev Cert.PromptIdeal.nD) → Buf (Elt Ideal) ((c.tc : Thread Cert.PromptIdeal.nD Cert.PromptIdeal.τ).loc Cert.PromptIdeal.main_v13)) (v3 : (c : Dev Cert.PromptIdeal.nD) → Buf (Elt Ideal) ((c.tc : Thread Cert.PromptIdeal.nD Cert.PromptIdeal.τ).loc Cert.PromptIdeal.main_v14)) (v4 : (c : Dev Cert.PromptIdeal.nD) → Buf (Elt Ideal) ((c.tc : Thread Cert.PromptIdeal.nD Cert.PromptIdeal.τ).loc Cert.PromptIdeal.main_v9_0)) (v5 : (c : Dev Cert.PromptIdeal.nD) → Buf (Elt Ideal) ((c.tc : Thread Cert.PromptIdeal.nD Cert.PromptIdeal.τ).loc Cert.PromptIdeal.main_v9_1)) (v6 : (c : Dev Cert.PromptIdeal.nD) → Buf (Elt Ideal) ((c.tc : Thread Cert.PromptIdeal.nD Cert.PromptIdeal.τ).loc Cert.PromptIdeal.main_v15)) (v7 : (c : Dev Cert.PromptIdeal.nD) → Buf (Elt Ideal) ((c.tc : Thread Cert.PromptIdeal.nD Cert.PromptIdeal.τ).loc Cert.PromptIdeal.main_v9_7)) (v8 : (c : Dev Cert.PromptIdeal.nD) → Buf (Elt Ideal) ((c.tc : Thread Cert.PromptIdeal.nD Cert.PromptIdeal.τ).loc Cert.PromptIdeal.main_v9_8)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v10) = v0 c
          ∧ r.2.mem ((c.tc : Thread Cert.PromptIdeal.nD Cert.PromptIdeal.τ).loc Cert.PromptIdeal.main_v11) = v1 c
          ∧ r.2.mem ((c.tc : Thread Cert.PromptIdeal.nD Cert.PromptIdeal.τ).loc Cert.PromptIdeal.main_v13) = v2 c
          ∧ r.2.mem ((c.tc : Thread Cert.PromptIdeal.nD Cert.PromptIdeal.τ).loc Cert.PromptIdeal.main_v14) = v3 c
          ∧ r.2.mem ((c.tc : Thread Cert.PromptIdeal.nD Cert.PromptIdeal.τ).loc Cert.PromptIdeal.main_v9_0) = v4 c
          ∧ r.2.mem ((c.tc : Thread Cert.PromptIdeal.nD Cert.PromptIdeal.τ).loc Cert.PromptIdeal.main_v9_1) = v5 c
          ∧ r.2.mem ((c.tc : Thread Cert.PromptIdeal.nD Cert.PromptIdeal.τ).loc Cert.PromptIdeal.main_v15) = v6 c
          ∧ r.2.mem ((c.tc : Thread Cert.PromptIdeal.nD Cert.PromptIdeal.τ).loc Cert.PromptIdeal.main_v9_7) = v7 c
          ∧ r.2.mem ((c.tc : Thread Cert.PromptIdeal.nD Cert.PromptIdeal.τ).loc Cert.PromptIdeal.main_v9_8) = v8 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v85) = v0 c
          ∧ r.2.mem ((c.tc : Thread Cert.PromptRefIdeal.nD Cert.PromptRefIdeal.τ).loc Cert.PromptRefIdeal.main_v86) = v1 c
          ∧ r.2.mem ((c.tc : Thread Cert.PromptRefIdeal.nD Cert.PromptRefIdeal.τ).loc Cert.PromptRefIdeal.main_v88) = v2 c
          ∧ r.2.mem ((c.tc : Thread Cert.PromptRefIdeal.nD Cert.PromptRefIdeal.τ).loc Cert.PromptRefIdeal.main_v89) = v3 c
          ∧ r.2.mem ((c.tc : Thread Cert.PromptRefIdeal.nD Cert.PromptRefIdeal.τ).loc Cert.PromptRefIdeal.main_v104) = v4 c
          ∧ r.2.mem ((c.tc : Thread Cert.PromptRefIdeal.nD Cert.PromptRefIdeal.τ).loc Cert.PromptRefIdeal.main_v105) = v5 c
          ∧ r.2.mem ((c.tc : Thread Cert.PromptRefIdeal.nD Cert.PromptRefIdeal.τ).loc Cert.PromptRefIdeal.main_v39) = v6 c
          ∧ r.2.mem ((c.tc : Thread Cert.PromptRefIdeal.nD Cert.PromptRefIdeal.τ).loc Cert.PromptRefIdeal.main_v106) = v7 c
          ∧ r.2.mem ((c.tc : Thread Cert.PromptRefIdeal.nD Cert.PromptRefIdeal.τ).loc Cert.PromptRefIdeal.main_v107) = v8 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5)
          ∧ r.2.mem ((c.tc : Thread Cert.PromptRefIdeal.nD Cert.PromptRefIdeal.τ).loc Cert.PromptRefIdeal.main_arg6) = m' ((c.tc : Thread Cert.PromptRefIdeal.nD Cert.PromptRefIdeal.τ).loc Cert.PromptRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v11_0)) (v1 : (c : Dev Cert.MergeIdeal.nD) → Buf (Elt Ideal) ((c.tc : Thread Cert.MergeIdeal.nD Cert.MergeIdeal.τ).loc Cert.MergeIdeal.main_v11_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11_0) = v0 c
          ∧ r.2.mem ((c.tc : Thread Cert.MergeIdeal.nD Cert.MergeIdeal.τ).loc Cert.MergeIdeal.main_v11_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_v40) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v21) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v2)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v2) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v21) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m' ((c.tc : Thread Cert.JoinRefIdeal.nD Cert.JoinRefIdeal.τ).loc Cert.JoinRefIdeal.main_arg0) = m ((c.tc : Thread Cert.JoinIdeal.nD Cert.JoinIdeal.τ).loc Cert.JoinIdeal.main_arg0)
      ∧ m' ((c.tc : Thread Cert.JoinRefIdeal.nD Cert.JoinRefIdeal.τ).loc Cert.JoinRefIdeal.main_arg1) = m ((c.tc : Thread Cert.JoinIdeal.nD Cert.JoinIdeal.τ).loc Cert.JoinIdeal.main_arg1)
      ∧ m' ((c.tc : Thread Cert.JoinRefIdeal.nD Cert.JoinRefIdeal.τ).loc Cert.JoinRefIdeal.main_arg2) = m ((c.tc : Thread Cert.JoinIdeal.nD Cert.JoinIdeal.τ).loc Cert.JoinIdeal.main_arg2)
      ∧ m' ((c.tc : Thread Cert.JoinRefIdeal.nD Cert.JoinRefIdeal.τ).loc Cert.JoinRefIdeal.main_arg3) = m ((c.tc : Thread Cert.JoinIdeal.nD Cert.JoinIdeal.τ).loc Cert.JoinIdeal.main_arg3)
      ∧ m' ((c.tc : Thread Cert.JoinRefIdeal.nD Cert.JoinRefIdeal.τ).loc Cert.JoinRefIdeal.main_arg4) = m ((c.tc : Thread Cert.JoinIdeal.nD Cert.JoinIdeal.τ).loc Cert.JoinIdeal.main_arg4)
      ∧ m' ((c.tc : Thread Cert.JoinRefIdeal.nD Cert.JoinRefIdeal.τ).loc Cert.JoinRefIdeal.main_arg5) = m ((c.tc : Thread Cert.JoinIdeal.nD Cert.JoinIdeal.τ).loc Cert.JoinIdeal.main_arg5)
      ∧ m' ((c.tc : Thread Cert.JoinRefIdeal.nD Cert.JoinRefIdeal.τ).loc Cert.JoinRefIdeal.main_arg6) = m ((c.tc : Thread Cert.JoinIdeal.nD Cert.JoinIdeal.τ).loc Cert.JoinIdeal.main_arg6)
      ∧ m' ((c.tc : Thread Cert.JoinRefIdeal.nD Cert.JoinRefIdeal.τ).loc Cert.JoinRefIdeal.main_arg7) = m ((c.tc : Thread Cert.JoinIdeal.nD Cert.JoinIdeal.τ).loc Cert.JoinIdeal.main_arg7)
      ∧ m' ((c.tc : Thread Cert.JoinRefIdeal.nD Cert.JoinRefIdeal.τ).loc Cert.JoinRefIdeal.main_arg8) = m ((c.tc : Thread Cert.JoinIdeal.nD Cert.JoinIdeal.τ).loc Cert.JoinIdeal.main_arg8)
      ∧ m' ((c.tc : Thread Cert.JoinRefIdeal.nD Cert.JoinRefIdeal.τ).loc Cert.JoinRefIdeal.main_arg9) = m ((c.tc : Thread Cert.JoinIdeal.nD Cert.JoinIdeal.τ).loc Cert.JoinIdeal.main_arg9)
      ∧ m' ((c.tc : Thread Cert.JoinRefIdeal.nD Cert.JoinRefIdeal.τ).loc Cert.JoinRefIdeal.main_arg10) = m ((c.tc : Thread Cert.JoinIdeal.nD Cert.JoinIdeal.τ).loc Cert.JoinIdeal.main_arg10)) →
    ∃ (v0 : (c : Dev Cert.JoinIdeal.nD) → Buf (Elt Ideal) ((c.tc : Thread Cert.JoinIdeal.nD Cert.JoinIdeal.τ).loc Cert.JoinIdeal.main_v12_0)) (v1 : (c : Dev Cert.JoinIdeal.nD) → Buf (Elt Ideal) ((c.tc : Thread Cert.JoinIdeal.nD Cert.JoinIdeal.τ).loc Cert.JoinIdeal.main_v12_1)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v12_0) = v0 c
          ∧ r.2.mem ((c.tc : Thread Cert.JoinIdeal.nD Cert.JoinIdeal.τ).loc Cert.JoinIdeal.main_v12_1) = v1 c
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
          ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
          ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
          ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
          ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
          ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8)
          ∧ r.2.mem ((c.tc : Thread Cert.JoinIdeal.nD Cert.JoinIdeal.τ).loc Cert.JoinIdeal.main_arg9) = m ((c.tc : Thread Cert.JoinIdeal.nD Cert.JoinIdeal.τ).loc Cert.JoinIdeal.main_arg9)
          ∧ r.2.mem ((c.tc : Thread Cert.JoinIdeal.nD Cert.JoinIdeal.τ).loc Cert.JoinIdeal.main_arg10) = m ((c.tc : Thread Cert.JoinIdeal.nD Cert.JoinIdeal.τ).loc Cert.JoinIdeal.main_arg10))
      ∧ θ_run (Cert.JoinRefIdeal.defs (F := Ideal)) (onTc (τ := Cert.JoinRefIdeal.τ) (Cert.JoinRefIdeal.main (F := Ideal))) ⟨m', fun _ => 0, g'⟩ (fun r => ∀ c : Dev Cert.JoinRefIdeal.nD,
          r.2.mem ((c.tc : Thread Cert.JoinRefIdeal.nD Cert.JoinRefIdeal.τ).loc Cert.JoinRefIdeal.main_v20) = v0 c
          ∧ r.2.mem ((c.tc : Thread Cert.JoinRefIdeal.nD Cert.JoinRefIdeal.τ).loc Cert.JoinRefIdeal.main_v38) = v1 c
          ∧ r.2.mem ((c.tc : Thread Cert.JoinRefIdeal.nD Cert.JoinRefIdeal.τ).loc Cert.JoinRefIdeal.main_arg0) = m' ((c.tc : Thread Cert.JoinRefIdeal.nD Cert.JoinRefIdeal.τ).loc Cert.JoinRefIdeal.main_arg0)
          ∧ r.2.mem ((c.tc : Thread Cert.JoinRefIdeal.nD Cert.JoinRefIdeal.τ).loc Cert.JoinRefIdeal.main_arg1) = m' ((c.tc : Thread Cert.JoinRefIdeal.nD Cert.JoinRefIdeal.τ).loc Cert.JoinRefIdeal.main_arg1)
          ∧ r.2.mem ((c.tc : Thread Cert.JoinRefIdeal.nD Cert.JoinRefIdeal.τ).loc Cert.JoinRefIdeal.main_arg2) = m' ((c.tc : Thread Cert.JoinRefIdeal.nD Cert.JoinRefIdeal.τ).loc Cert.JoinRefIdeal.main_arg2)
          ∧ r.2.mem ((c.tc : Thread Cert.JoinRefIdeal.nD Cert.JoinRefIdeal.τ).loc Cert.JoinRefIdeal.main_arg3) = m' ((c.tc : Thread Cert.JoinRefIdeal.nD Cert.JoinRefIdeal.τ).loc Cert.JoinRefIdeal.main_arg3)
          ∧ r.2.mem ((c.tc : Thread Cert.JoinRefIdeal.nD Cert.JoinRefIdeal.τ).loc Cert.JoinRefIdeal.main_arg4) = m' ((c.tc : Thread Cert.JoinRefIdeal.nD Cert.JoinRefIdeal.τ).loc Cert.JoinRefIdeal.main_arg4)
          ∧ r.2.mem ((c.tc : Thread Cert.JoinRefIdeal.nD Cert.JoinRefIdeal.τ).loc Cert.JoinRefIdeal.main_arg5) = m' ((c.tc : Thread Cert.JoinRefIdeal.nD Cert.JoinRefIdeal.τ).loc Cert.JoinRefIdeal.main_arg5)
          ∧ r.2.mem ((c.tc : Thread Cert.JoinRefIdeal.nD Cert.JoinRefIdeal.τ).loc Cert.JoinRefIdeal.main_arg6) = m' ((c.tc : Thread Cert.JoinRefIdeal.nD Cert.JoinRefIdeal.τ).loc Cert.JoinRefIdeal.main_arg6)
          ∧ r.2.mem ((c.tc : Thread Cert.JoinRefIdeal.nD Cert.JoinRefIdeal.τ).loc Cert.JoinRefIdeal.main_arg7) = m' ((c.tc : Thread Cert.JoinRefIdeal.nD Cert.JoinRefIdeal.τ).loc Cert.JoinRefIdeal.main_arg7)
          ∧ r.2.mem ((c.tc : Thread Cert.JoinRefIdeal.nD Cert.JoinRefIdeal.τ).loc Cert.JoinRefIdeal.main_arg8) = m' ((c.tc : Thread Cert.JoinRefIdeal.nD Cert.JoinRefIdeal.τ).loc Cert.JoinRefIdeal.main_arg8)
          ∧ r.2.mem ((c.tc : Thread Cert.JoinRefIdeal.nD Cert.JoinRefIdeal.τ).loc Cert.JoinRefIdeal.main_arg9) = m' ((c.tc : Thread Cert.JoinRefIdeal.nD Cert.JoinRefIdeal.τ).loc Cert.JoinRefIdeal.main_arg9)
          ∧ r.2.mem ((c.tc : Thread Cert.JoinRefIdeal.nD Cert.JoinRefIdeal.τ).loc Cert.JoinRefIdeal.main_arg10) = m' ((c.tc : Thread Cert.JoinRefIdeal.nD Cert.JoinRefIdeal.τ).loc Cert.JoinRefIdeal.main_arg10))

def Claim : Prop :=
  ∃ (hKernel : Cert.Kernel.Facts) (hKernelIdeal : Cert.KernelIdeal.Facts) (hReferenceIdeal : Cert.ReferenceIdeal.Facts) (hSample : Cert.Sample.Facts) (hSampleIdeal : Cert.SampleIdeal.Facts) (hSampleRefIdeal : Cert.SampleRefIdeal.Facts) (hPrompt : Cert.Prompt.Facts) (hPromptIdeal : Cert.PromptIdeal.Facts) (hPromptRefIdeal : Cert.PromptRefIdeal.Facts) (hMerge : Cert.Merge.Facts) (hMergeIdeal : Cert.MergeIdeal.Facts) (hMergeRefIdeal : Cert.MergeRefIdeal.Facts) (hFinal : Cert.Final.Facts) (hFinalIdeal : Cert.FinalIdeal.Facts) (hFinalRefIdeal : Cert.FinalRefIdeal.Facts) (hLast : Cert.Last.Facts) (hLastIdeal : Cert.LastIdeal.Facts) (hLastRefIdeal : Cert.LastRefIdeal.Facts) (hJoin : Cert.Join.Facts) (hJoinIdeal : Cert.JoinIdeal.Facts) (hJoinRefIdeal : Cert.JoinRefIdeal.Facts) (hPre_names_experts : Cert.Pre_names_experts.Facts),
    quiescent_Kernel (hKernel := hKernel) (hPre_names_experts := hPre_names_experts)
    ∧ quiescent_KernelIdeal (hKernelIdeal := hKernelIdeal) (hPre_names_experts := hPre_names_experts)
    ∧ quiescent_ReferenceIdeal (hReferenceIdeal := hReferenceIdeal) (hPre_names_experts := hPre_names_experts)
    ∧ quiescent_Sample (hSample := hSample)
    ∧ quiescent_SampleIdeal (hSampleIdeal := hSampleIdeal)
    ∧ quiescent_SampleRefIdeal (hSampleRefIdeal := hSampleRefIdeal)
    ∧ quiescent_Prompt (hPrompt := hPrompt)
    ∧ quiescent_PromptIdeal (hPromptIdeal := hPromptIdeal)
    ∧ quiescent_PromptRefIdeal (hPromptRefIdeal := hPromptRefIdeal)
    ∧ quiescent_Merge (hMerge := hMerge)
    ∧ quiescent_MergeIdeal (hMergeIdeal := hMergeIdeal)
    ∧ quiescent_MergeRefIdeal (hMergeRefIdeal := hMergeRefIdeal)
    ∧ quiescent_Final (hFinal := hFinal)
    ∧ quiescent_FinalIdeal (hFinalIdeal := hFinalIdeal)
    ∧ quiescent_FinalRefIdeal (hFinalRefIdeal := hFinalRefIdeal)
    ∧ quiescent_Last (hLast := hLast)
    ∧ quiescent_LastIdeal (hLastIdeal := hLastIdeal)
    ∧ quiescent_LastRefIdeal (hLastRefIdeal := hLastRefIdeal)
    ∧ quiescent_Join (hJoin := hJoin)
    ∧ quiescent_JoinIdeal (hJoinIdeal := hJoinIdeal)
    ∧ quiescent_JoinRefIdeal (hJoinRefIdeal := hJoinRefIdeal)
    ∧ preserves_Kernel_KernelIdeal
    ∧ algebraic_KernelIdeal_ReferenceIdeal (hKernelIdeal := hKernelIdeal) (hReferenceIdeal := hReferenceIdeal) (hPre_names_experts := hPre_names_experts)
    ∧ preserves_Sample_SampleIdeal
    ∧ algebraic_SampleIdeal_SampleRefIdeal (hSampleIdeal := hSampleIdeal) (hSampleRefIdeal := hSampleRefIdeal)
    ∧ preserves_Prompt_PromptIdeal
    ∧ algebraic_PromptIdeal_PromptRefIdeal (hPromptIdeal := hPromptIdeal) (hPromptRefIdeal := hPromptRefIdeal)
    ∧ preserves_Merge_MergeIdeal
    ∧ algebraic_MergeIdeal_MergeRefIdeal (hMergeIdeal := hMergeIdeal) (hMergeRefIdeal := hMergeRefIdeal)
    ∧ preserves_Final_FinalIdeal
    ∧ algebraic_FinalIdeal_FinalRefIdeal (hFinalIdeal := hFinalIdeal) (hFinalRefIdeal := hFinalRefIdeal)
    ∧ preserves_Last_LastIdeal
    ∧ algebraic_LastIdeal_LastRefIdeal (hLastIdeal := hLastIdeal) (hLastRefIdeal := hLastRefIdeal)
    ∧ preserves_Join_JoinIdeal
    ∧ algebraic_JoinIdeal_JoinRefIdeal (hJoinIdeal := hJoinIdeal) (hJoinRefIdeal := hJoinRefIdeal)
-- ==== Pre_names_experts.lean ====
abbrev S289 : Shape := ⟨1, ![289]⟩
abbrev S1 : Shape := ⟨1, ![1]⟩
abbrev S147968x1024 : Shape := ⟨2, ![147968, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S289 : S_.BroadcastsInDim S289 (![] : Fin 0 → Fin S289.rank)

variable [Facts]

def fn {F : FTy → Type} [FloatOps F] (main_arg0 : IVec S289 32) (main_arg1 : IVec S1 32) (main_arg2 : FVec F S147968x1024 .f32) (main_arg3 : FVec F S32x1024x2048 .f32) (main_arg4 : FVec F S32x2048 .f32) (main_arg5 : FVec F S32x1024x1024 .f32) (main_arg6 : FVec F S32x1024 .f32) : IVec S289 1 :=
  let main_c : IVec S_ 32 := constantI S_ 32 0#32
  let main_v0 : IVec S289 32 := broadcastInDim S289 ![] bcast_S_S289 main_c
  let main_v1 : IVec S289 1 := cmpi .sge main_arg0 main_v0
  let main_c_0 : IVec S_ 32 := constantI S_ 32 32#32
  let main_v2 : IVec S289 32 := broadcastInDim S289 ![] bcast_S_S289 main_c_0
  let main_v3 : IVec S289 1 := cmpi .slt main_arg0 main_v2
  let main_v4 : IVec S289 1 := andi main_v1 main_v3
  main_v4
-- ==== Kernel.lean ====
abbrev S289 : Shape := ⟨1, ![289]⟩
abbrev S1 : Shape := ⟨1, ![1]⟩
abbrev S147968x1024 : Shape := ⟨2, ![147968, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S147968x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S147968x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S289, .i32⟩
  | .local _ .smem, ⟨1, _⟩ => ⟨S1, .i32⟩
  | _, _ => ⟨S147968x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![289], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_5 : BitVec 32 := 0#32
  let v21 : BitVec 1 := Scalar.cmpi .ne v20 c0_i32_5
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S289 : Shape := ⟨1, ![289]⟩
abbrev S1 : Shape := ⟨1, ![1]⟩
abbrev S147968x1024 : Shape := ⟨2, ![147968, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S289x512x1024 : Shape := ⟨3, ![289, 512, 1024]⟩
abbrev S_ : Shape := ⟨0, ![]⟩
abbrev S289x1 : Shape := ⟨2, ![289, 1]⟩
abbrev S289x1024x2048 : Shape := ⟨3, ![289, 1024, 2048]⟩
abbrev S289x512x2048 : Shape := ⟨3, ![289, 512, 2048]⟩
abbrev S289x2048 : Shape := ⟨2, ![289, 2048]⟩
abbrev S289x1x2048 : Shape := ⟨3, ![289, 1, 2048]⟩
abbrev S289x1024x1024 : Shape := ⟨3, ![289, 1024, 1024]⟩
abbrev S289x1024 : Shape := ⟨2, ![289, 1024]⟩
abbrev S289x1x1024 : Shape := ⟨3, ![289, 1, 1024]⟩
abbrev S289x1x1 : Shape := ⟨3, ![289, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S289, .i32⟩
  | .hbm, ⟨1, _⟩ => ⟨S1, .i32⟩
  | .hbm, ⟨2, _⟩ => ⟨S147968x1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S289x512x1024, .f32⟩
  | .hbm, ⟨8, _⟩ => ⟨S_, .i32⟩
  | .hbm, ⟨9, _⟩ => ⟨S289, .i32⟩
  | .hbm, ⟨10, _⟩ => ⟨S289, .i1⟩
  | .hbm, ⟨11, _⟩ => ⟨S_, .i32⟩
  | .hbm, ⟨12, _⟩ => ⟨S289, .i32⟩
  | .hbm, ⟨13, _⟩ => ⟨S289, .i32⟩
  | .hbm, ⟨14, _⟩ => ⟨S289, .i32⟩
  | .hbm, ⟨15, _⟩ => ⟨S289x1, .i32⟩
  | .hbm, ⟨16, _⟩ => ⟨S289x1024x2048, .f32⟩
  | .hbm, ⟨17, _⟩ => ⟨S289x512x2048, .f32⟩
  | .hbm, ⟨18, _⟩ => ⟨S_, .i32⟩
  | .hbm, ⟨19, _⟩ => ⟨S289, .i32⟩
  | .hbm, ⟨20, _⟩ => ⟨S289, .i1⟩
  | .hbm, ⟨21, _⟩ => ⟨S_, .i32⟩
  | .hbm, ⟨22, _⟩ => ⟨S289, .i32⟩
  | .hbm, ⟨23, _⟩ => ⟨S289, .i32⟩
  | .hbm, ⟨24, _⟩ => ⟨S289, .i32⟩
  | .hbm, ⟨25, _⟩ => ⟨S289x1, .i32⟩
  | .hbm, ⟨26, _⟩ => ⟨S289x2048, .f32⟩
  | .hbm, ⟨27, _⟩ => ⟨S289x1x2048, .f32⟩
  | .hbm, ⟨28, _⟩ => ⟨S289x512x2048, .f32⟩
  | .hbm, ⟨29, _⟩ => ⟨S289x512x2048, .f32⟩
  | .hbm, ⟨30, _⟩ => ⟨S289x512x1024, .f32⟩
  | .hbm, ⟨31, _⟩ => ⟨S_, .f32⟩
  | .hbm, ⟨32, _⟩ => ⟨S289x512x1024, .f32⟩
  | .hbm, ⟨33, _⟩ => ⟨S289x512x1024, .f32⟩
  | .hbm, ⟨34, _⟩ => ⟨S289x512x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S289x512x1024, .f32⟩
  | .hbm, ⟨39, _⟩ => ⟨S289x512x1024, .f32⟩
  | .hbm, ⟨40, _⟩ => ⟨S_, .f32⟩
  | .hbm, ⟨41, _⟩ => ⟨S289x512x1024, .f32⟩
  | .hbm, ⟨42, _⟩ => ⟨S289x512x1024, .f32⟩
  | .hbm, ⟨43, _⟩ => ⟨S_, .f32⟩
  | .hbm, ⟨44, _⟩ => ⟨S289x512x1024, .f32⟩
  | .hbm, ⟨45, _⟩ => ⟨S289x512x1024, .f32⟩
  | .hbm, ⟨46, _⟩ => ⟨S289x512x1024, .f32⟩
  | .hbm, ⟨47, _⟩ => ⟨S_, .f32⟩
  | .hbm, ⟨48, _⟩ => ⟨S289x512x1024, .f32⟩
  | .hbm, ⟨49, _⟩ => ⟨S289x512x1024, .f32⟩
  | .hbm, ⟨50, _⟩ => ⟨S289x512x1024, .f32⟩
  | .hbm, ⟨51, _⟩ => ⟨S289x512x1024, .f32⟩
  | .hbm, ⟨52, _⟩ => ⟨S_, .f32⟩
  | .hbm, ⟨53, _⟩ => ⟨S289x512x1024, .f32⟩
  | .hbm, ⟨54, _⟩ => ⟨S289x512x1024, .f32⟩
  | .hbm, ⟨55, _⟩ => ⟨S_, .f32⟩
  | .hbm, ⟨56, _⟩ => ⟨S289x512x1024, .f32⟩
  | .hbm, ⟨57, _⟩ => ⟨S289x512x1024, .f32⟩
  | .hbm, ⟨58, _⟩ => ⟨S289x512x1024, .f32⟩
  | .hbm, ⟨59, _⟩ => ⟨S_, .i32⟩
  | .hbm, ⟨60, _⟩ => ⟨S289, .i32⟩
  | .hbm, ⟨61, _⟩ => ⟨S289, .i1⟩
  | .hbm, ⟨62, _⟩ => ⟨S_, .i32⟩
  | .hbm, ⟨63, _⟩ => ⟨S289, .i32⟩
  | .hbm, ⟨64, _⟩ => ⟨S289, .i32⟩
  | .hbm, ⟨65, _⟩ => ⟨S289, .i32⟩
  | .hbm, ⟨66, _⟩ => ⟨S289x1, .i32⟩
  | .hbm, ⟨67, _⟩ => ⟨S289x1024x1024, .f32⟩
  | .hbm, ⟨68, _⟩ => ⟨S289x512x1024, .f32⟩
  | .hbm, ⟨69, _⟩ => ⟨S_, .i32⟩
  | .hbm, ⟨70, _⟩ => ⟨S289, .i32⟩
  | .hbm, ⟨71, _⟩ => ⟨S289, .i1⟩
  | .hbm, ⟨72, _⟩ => ⟨S_, .i32⟩
  | .hbm, ⟨73, _⟩ => ⟨S289, .i32⟩
  | .hbm, ⟨74, _⟩ => ⟨S289, .i32⟩
  | .hbm, ⟨75, _⟩ => ⟨S289, .i32⟩
  | .hbm, ⟨76, _⟩ => ⟨S289x1, .i32⟩
  | .hbm, ⟨77, _⟩ => ⟨S289x1024, .f32⟩
  | .hbm, ⟨78, _⟩ => ⟨S289x1x1024, .f32⟩
  | .hbm, ⟨79, _⟩ => ⟨S289x512x1024, .f32⟩
  | .hbm, ⟨80, _⟩ => ⟨S289x512x1024, .f32⟩
  | .hbm, ⟨81, _⟩ => ⟨S289, .i32⟩
  | .hbm, ⟨82, _⟩ => ⟨S_, .i32⟩
  | .hbm, ⟨83, _⟩ => ⟨S289, .i32⟩
  | .hbm, ⟨84, _⟩ => ⟨S289, .i1⟩
  | .hbm, ⟨85, _⟩ => ⟨S289x1x1, .i1⟩
  | .hbm, ⟨86, _⟩ => ⟨S_, .f32⟩
  | .hbm, ⟨87, _⟩ => ⟨S_, .f32⟩
  | .hbm, ⟨88, _⟩ => ⟨S289x512x1024, .i1⟩
  | .hbm, ⟨89, _⟩ => ⟨S289x512x1024, .f32⟩
  | .hbm, ⟨90, _⟩ => ⟨S289x512x1024, .f32⟩
  | .hbm, ⟨91, _⟩ => ⟨S147968x1024, .f32⟩
  | _, _ => ⟨S289, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Sample.lean ====
abbrev S32x1x1024 : Shape := ⟨3, ![32, 1, 1024]⟩
abbrev S1x32x512x2x2x64 : Shape := ⟨6, ![1, 32, 512, 2, 2, 64]⟩
abbrev S1x32x2x512 : Shape := ⟨4, ![1, 32, 2, 512]⟩
abbrev S1x32x1024 : Shape := ⟨3, ![1, 32, 1024]⟩
abbrev S1x1024 : Shape := ⟨2, ![1, 1024]⟩
abbrev S1x1024x2840 : Shape := ⟨3, ![1, 1024, 2840]⟩
abbrev S1x3x512 : Shape := ⟨3, ![1, 3, 512]⟩
abbrev S1x512 : Shape := ⟨2, ![1, 512]⟩
abbrev S1024x2840 : Shape := ⟨2, ![1024, 2840]⟩
abbrev S_ : Shape := ⟨0, ![]⟩
abbrev S1024x2944 : Shape := ⟨2, ![1024, 2944]⟩
abbrev S32x2x512 : Shape := ⟨3, ![32, 2, 512]⟩
abbrev S32x1x512 : Shape := ⟨3, ![32, 1, 512]⟩
abbrev S32x512 : Shape := ⟨2, ![32, 512]⟩
abbrev S1x32x512 : Shape := ⟨3, ![1, 32, 512]⟩
abbrev S1024 : Shape := ⟨1, ![1024]⟩
abbrev S3x512 : Shape := ⟨2, ![3, 512]⟩
abbrev S512 : Shape := ⟨1, ![512]⟩
abbrev S1x8x32x64 : Shape := ⟨4, ![1, 8, 32, 64]⟩
abbrev S1x32x256 : Shape := ⟨3, ![1, 32, 256]⟩
abbrev S1x32x128 : Shape := ⟨3, ![1, 32, 128]⟩
abbrev S32x1024 : Shape := ⟨2, ![32, 1024]⟩
abbrev S32 : Shape := ⟨1, ![32]⟩
abbrev S32x1 : Shape := ⟨2, ![32, 1]⟩
abbrev S1024x1536 : Shape := ⟨2, ![1024, 1536]⟩
abbrev S32x1536 : Shape := ⟨2, ![32, 1536]⟩
abbrev S1024x512 : Shape := ⟨2, ![1024, 512]⟩
abbrev S32x64 : Shape := ⟨2, ![32, 64]⟩
abbrev S1x1x32x64 : Shape := ⟨4, ![1, 1, 32, 64]⟩
abbrev S1024x768 : Shape := ⟨2, ![1024, 768]⟩
abbrev S32x768 : Shape := ⟨2, ![32, 768]⟩
abbrev S32x256 : Shape := ⟨2, ![32, 256]⟩
abbrev S1024x128 : Shape := ⟨2, ![1024, 128]⟩
abbrev S32x128 : Shape := ⟨2, ![32, 128]⟩
abbrev S32x512x2x2x64 : Shape := ⟨5, ![32, 512, 2, 2, 64]⟩
abbrev S32x511x2x2x64 : Shape := ⟨5, ![32, 511, 2, 2, 64]⟩
abbrev S32x1x2x2x64 : Shape := ⟨5, ![32, 1, 2, 2, 64]⟩
abbrev S1x32x1x2x2x64 : Shape := ⟨6, ![1, 32, 1, 2, 2, 64]⟩
abbrev S1x32x24 : Shape := ⟨3, ![1, 32, 24]⟩

abbrev nBuf : Space → Nat
  | .hbm => 48
  | .vmem => 16
  | .smem => 0
  | _ => 0

abbrev bufTy : (tb : Table) → Fin (tcTables nBuf tb) → BufTy
  | .hbm, ⟨0, _⟩ => ⟨S32x1x1024, .f32⟩
  | .hbm, ⟨1, _⟩ => ⟨S1x32x512x2x2x64, .f32⟩
  | .hbm, ⟨2, _⟩ => ⟨S1x32x2x512, .f32⟩
  | .hbm, ⟨3, _⟩ => ⟨S1x32x1024, .f32⟩
  | .hbm, ⟨4, _⟩ => ⟨S1x32x1024, .f32⟩
  | .hbm, ⟨5, _⟩ => ⟨S1x1024, .f32⟩
  | .hbm, ⟨6, _⟩ => ⟨S1x1024x2840, .f32⟩
  | .hbm, ⟨7, _⟩ => ⟨S1x3x512, .f32⟩
  | .hbm, ⟨8, _⟩ => ⟨S1x512, .f32⟩
  | .hbm, ⟨9, _⟩ => ⟨S1024x2840, .f32⟩
  | .hbm, ⟨10, _⟩ => ⟨S_, .i32⟩
  | .hbm, ⟨11, _⟩ => ⟨S_, .f32⟩
  | .hbm, ⟨12, _⟩ => ⟨S1024x2944, .f32⟩
  | .hbm, ⟨13, _⟩ => ⟨S1024x2944, .bf16⟩
  | .hbm, ⟨14, _⟩ => ⟨S1x32x1024, .f32⟩
  | .hbm, ⟨15, _⟩ => ⟨S32x2x512, .f32⟩
  | .hbm, ⟨16, _⟩ => ⟨S32x1x512, .f32⟩
  | .hbm, ⟨17, _⟩ => ⟨S32x512, .f32⟩
  | .hbm, ⟨18, _⟩ => ⟨S1x32x512, .f32⟩
  | .hbm, ⟨19, _⟩ => ⟨S32x2x512, .f32⟩
  | .hbm, ⟨20, _⟩ => ⟨S32x1x512, .f32⟩
  | .hbm, ⟨21, _⟩ => ⟨S32x512, .f32⟩
  | .hbm, ⟨22, _⟩ => ⟨S1x32x512, .f32⟩
  | .hbm, ⟨23, _⟩ => ⟨S1024, .f32⟩
  | .hbm, ⟨24, _⟩ => ⟨S3x512, .f32⟩
  | .hbm, ⟨25, _⟩ => ⟨S512, .f32⟩
  | .hbm, ⟨26, _⟩ => ⟨S1x1024, .f32⟩
  | .hbm, ⟨27, _⟩ => ⟨S1x512, .f32⟩
  | .hbm, ⟨28, _⟩ => ⟨S1x32x512, .bf16⟩
  | .hbm, ⟨29, _⟩ => ⟨S1x8x32x64, .bf16⟩
  | .hbm, ⟨30, _⟩ => ⟨S1x32x256, .f32⟩
  | .hbm, ⟨31, _⟩ => ⟨S1x32x256, .f32⟩
  | .hbm, ⟨32, _⟩ => ⟨S1x32x256, .f32⟩
  | .hbm, ⟨33, _⟩ => ⟨S1x32x128, .f32⟩
  | .hbm, ⟨34, _⟩ => ⟨S1x32x512, .f32⟩
  | .hbm, ⟨35, _⟩ => ⟨S32x512x2x2x64, .f32⟩
  | .hbm, ⟨36, _⟩ => ⟨S32x511x2x2x64, .f32⟩
  | .hbm, ⟨37, _⟩ => ⟨S32x1x2x2x64, .f32⟩
  | .hbm, ⟨38, _⟩ => ⟨S32x512x2x2x64, .f32⟩
  | .hbm, ⟨39, _⟩ => ⟨S32x2x512, .f32⟩
  | .hbm, ⟨40, _⟩ => ⟨S32x1x512, .f32⟩
  | .hbm, ⟨41, _⟩ => ⟨S32x1x512, .f32⟩
  | .hbm, ⟨42, _⟩ => ⟨S32x2x512, .f32⟩
  | .hbm, ⟨43, _⟩ => ⟨S1x32x1x2x2x64, .f32⟩
  | .hbm, ⟨44, _⟩ => ⟨S1x32x1x2x2x64, .f32⟩
  | .hbm, ⟨45, _⟩ => ⟨S1x32x512x2x2x64, .f32⟩
  | .hbm, ⟨46, _⟩ => ⟨S1x32x2x512, .f32⟩
  | .hbm, ⟨47, _⟩ => ⟨S1x32x24, .f32⟩
  | .local _ .vmem, ⟨0, _⟩ => ⟨S1x32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x1024, .f32⟩
  | .local _ .vmem, ⟨4, _⟩ => ⟨S1024x2944, .bf16⟩
  | .local _ .vmem, ⟨5, _⟩ => ⟨S3x512, .f32⟩
  | .local _ .vmem, ⟨6, _⟩ => ⟨S1x512, .f32⟩
  | .local _ .vmem, ⟨7, _⟩ => ⟨S1x32x512, .f32⟩
  | .local _ .vmem, ⟨8, _⟩ => ⟨S1x32x512, .f32⟩
  | .local _ .vmem, ⟨9, _⟩ => ⟨S1x32x512, .bf16⟩
  | .local _ .vmem, ⟨10, _⟩ => ⟨S1x8x32x64, .bf16⟩
  | .local _ .vmem, ⟨11, _⟩ => ⟨S1x32x256, .f32⟩
  | .local _ .vmem, ⟨12, _⟩ => ⟨S1x32x256, .f32⟩
  | .local _ .vmem, ⟨13, _⟩ => ⟨S1x32x256, .f32⟩
  | .local _ .vmem, ⟨14, _⟩ => ⟨S1x32x128, .f32⟩
  | .local _ .vmem, ⟨15, _⟩ => ⟨S1x32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev main_v17_4 : Ref sig .tc := ⟨.hbm, 32, rfl⟩
abbrev main_v17_5 : Ref sig .tc := ⟨.hbm, 33, rfl⟩
abbrev main_v17_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x32x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x8x32x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x32x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x32x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x32x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x32x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x32x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]
-- ==== SampleRefIdeal.lean ====
abbrev S32x1x1024 : Shape := ⟨3, ![32, 1, 1024]⟩
abbrev S1x32x512x2x2x64 : Shape := ⟨6, ![1, 32, 512, 2, 2, 64]⟩
abbrev S1x32x2x512 : Shape := ⟨4, ![1, 32, 2, 512]⟩
abbrev S1x32x1024 : Shape := ⟨3, ![1, 32, 1024]⟩
abbrev S1x1024 : Shape := ⟨2, ![1, 1024]⟩
abbrev S1x1024x2840 : Shape := ⟨3, ![1, 1024, 2840]⟩
abbrev S1x3x512 : Shape := ⟨3, ![1, 3, 512]⟩
abbrev S1x512 : Shape := ⟨2, ![1, 512]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x2840 : Shape := ⟨2, ![1024, 2840]⟩
abbrev S32x1x2840 : Shape := ⟨3, ![32, 1, 2840]⟩
abbrev S32x1x512 : Shape := ⟨3, ![32, 1, 512]⟩
abbrev S32x1x256 : Shape := ⟨3, ![32, 1, 256]⟩
abbrev S32x1x24 : Shape := ⟨3, ![32, 1, 24]⟩
abbrev S32x1x8x64 : Shape := ⟨4, ![32, 1, 8, 64]⟩
abbrev S32x1x2x2x64 : Shape := ⟨5, ![32, 1, 2, 2, 64]⟩
abbrev S3x512 : Shape := ⟨2, ![3, 512]⟩
abbrev S32x2x512 : Shape := ⟨3, ![32, 2, 512]⟩
abbrev S32x3x512 : Shape := ⟨3, ![32, 3, 512]⟩
abbrev S512 : Shape := ⟨1, ![512]⟩
abbrev S1x1x512 : Shape := ⟨3, ![1, 1, 512]⟩
abbrev S32x512x2x2x64 : Shape := ⟨5, ![32, 512, 2, 2, 64]⟩
abbrev S32x513x2x2x64 : Shape := ⟨5, ![32, 513, 2, 2, 64]⟩
abbrev S1x32x512 : Shape := ⟨3, ![1, 32, 512]⟩
abbrev S1x32x8x64 : Shape := ⟨4, ![1, 32, 8, 64]⟩
abbrev S1x8x32x64 : Shape := ⟨4, ![1, 8, 32, 64]⟩
abbrev S1x32x1x2x2x64 : Shape := ⟨6, ![1, 32, 1, 2, 2, 64]⟩
abbrev S1x32x24 : Shape := ⟨3, ![1, 32, 24]⟩

abbrev nBuf : Space → Nat
  | .hbm => 117
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x32x512x2x2x64, .f32⟩
  | .hbm, ⟨2, _⟩ => ⟨S1x32x2x512, .f32⟩
  | .hbm, ⟨3, _⟩ => ⟨S1x32x1024, .f32⟩
  | .hbm, ⟨4, _⟩ => ⟨S1x32x1024, .f32⟩
  | .hbm, ⟨5, _⟩ => ⟨S1x1024, .f32⟩
  | .hbm, ⟨6, _⟩ => ⟨S1x1024x2840, .f32⟩
  | .hbm, ⟨7, _⟩ => ⟨S1x3x512, .f32⟩
  | .hbm, ⟨8, _⟩ => ⟨S1x512, .f32⟩
  | .hbm, ⟨9, _⟩ => ⟨S1024, .f32⟩
  | .hbm, ⟨10, _⟩ => ⟨S32x1x1024, .f32⟩
  | .hbm, ⟨11, _⟩ => ⟨S_, .f32⟩
  | .hbm, ⟨12, _⟩ => ⟨S32x1, .f32⟩
  | .hbm, ⟨13, _⟩ => ⟨S32x1x1, .f32⟩
  | .hbm, ⟨14, _⟩ => ⟨S_, .f32⟩
  | .hbm, ⟨15, _⟩ => ⟨S32x1x1, .f32⟩
  | .hbm, ⟨16, _⟩ => ⟨S32x1x1, .f32⟩
  | .hbm, ⟨17, _⟩ => ⟨S_, .f32⟩
  | .hbm, ⟨18, _⟩ => ⟨S32x1x1, .f32⟩
  | .hbm, ⟨19, _⟩ => ⟨S32x1x1, .f32⟩
  | .hbm, ⟨20, _⟩ => ⟨S32x1x1, .f32⟩
  | .hbm, ⟨21, _⟩ => ⟨S32x1x1024, .f32⟩
  | .hbm, ⟨22, _⟩ => ⟨S32x1x1024, .f32⟩
  | .hbm, ⟨23, _⟩ => ⟨S1x1x1024, .f32⟩
  | .hbm, ⟨24, _⟩ => ⟨S32x1x1024, .f32⟩
  | .hbm, ⟨25, _⟩ => ⟨S32x1x1024, .f32⟩
  | .hbm, ⟨26, _⟩ => ⟨S32x1x1024, .f32⟩
  | .hbm, ⟨27, _⟩ => ⟨S_, .f32⟩
  | .hbm, ⟨28, _⟩ => ⟨S32x1x1024, .f32⟩
  | .hbm, ⟨29, _⟩ => ⟨S32x1x1024, .f32⟩
  | .hbm, ⟨30, _⟩ => ⟨S32x1x1024, .f32⟩
  | .hbm, ⟨31, _⟩ => ⟨S32x1x1024, .f32⟩
  | .hbm, ⟨32, _⟩ => ⟨S32x1x1024, .f32⟩
  | .hbm, ⟨33, _⟩ => ⟨S1024x2840, .f32⟩
  | .hbm, ⟨34, _⟩ => ⟨S32x1x2840, .f32⟩
  | .hbm, ⟨35, _⟩ => ⟨S32x1x512, .f32⟩
  | .hbm, ⟨36, _⟩ => ⟨S32x1x512, .f32⟩
  | .hbm, ⟨37, _⟩ => ⟨S32x1x512, .f32⟩
  | .hbm, ⟨38, _⟩ => ⟨S32x1x512, .f32⟩
  | .hbm, ⟨39, _⟩ => ⟨S32x1x256, .f32⟩
  | .hbm, ⟨40, _⟩ => ⟨S32x1x256, .f32⟩
  | .hbm, ⟨41, _⟩ => ⟨S32x1x256, .f32⟩
  | .hbm, ⟨42, _⟩ => ⟨S32x1x24, .f32⟩
  | .hbm, ⟨43, _⟩ => ⟨S32x1x8x64, .f32⟩
  | .hbm, ⟨44, _⟩ => ⟨S32x1x2x2x64, .f32⟩
  | .hbm, ⟨45, _⟩ => ⟨S32x1x2x2x64, .f32⟩
  | .hbm, ⟨46, _⟩ => ⟨S32x1x2x2x64, .f32⟩
  | .hbm, ⟨47, _⟩ => ⟨S32x1x24, .f32⟩
  | .hbm, ⟨48, _⟩ => ⟨S32x1x24, .f32⟩
  | .hbm, ⟨49, _⟩ => ⟨S_, .f32⟩
  | .hbm, ⟨50, _⟩ => ⟨S32x1x24, .f32⟩
  | .hbm, ⟨51, _⟩ => ⟨S32x1x24, .f32⟩
  | .hbm, ⟨52, _⟩ => ⟨S_, .f32⟩
  | .hbm, ⟨53, _⟩ => ⟨S32x1x24, .f32⟩
  | .hbm, ⟨54, _⟩ => ⟨S32x1x24, .f32⟩
  | .hbm, ⟨55, _⟩ => ⟨S3x512, .f32⟩
  | .hbm, ⟨56, _⟩ => ⟨S32x2x512, .f32⟩
  | .hbm, ⟨57, _⟩ => ⟨S32x1x512, .f32⟩
  | .hbm, ⟨58, _⟩ => ⟨S32x3x512, .f32⟩
  | .hbm, ⟨59, _⟩ => ⟨S1x512, .f32⟩
  | .hbm, ⟨60, _⟩ => ⟨S512, .f32⟩
  | .hbm, ⟨61, _⟩ => ⟨S32x1x512, .f32⟩
  | .hbm, ⟨62, _⟩ => ⟨S1x1x512, .f32⟩
  | .hbm, ⟨63, _⟩ => ⟨S32x1x512, .f32⟩
  | .hbm, ⟨64, _⟩ => ⟨S32x1x512, .f32⟩
  | .hbm, ⟨65, _⟩ => ⟨S_, .f32⟩
  | .hbm, ⟨66, _⟩ => ⟨S32x1x512, .f32⟩
  | .hbm, ⟨67, _⟩ => ⟨S32x1x512, .f32⟩
  | .hbm, ⟨68, _⟩ => ⟨S1x512, .f32⟩
  | .hbm, ⟨69, _⟩ => ⟨S512, .f32⟩
  | .hbm, ⟨70, _⟩ => ⟨S32x1x512, .f32⟩
  | .hbm, ⟨71, _⟩ => ⟨S1x1x512, .f32⟩
  | .hbm, ⟨72, _⟩ => ⟨S32x1x512, .f32⟩
  | .hbm, ⟨73, _⟩ => ⟨S32x1x512, .f32⟩
  | .hbm, ⟨74, _⟩ => ⟨S32x1x512, .f32⟩
  | .hbm, ⟨75, _⟩ => ⟨S1x512, .f32⟩
  | .hbm, ⟨76, _⟩ => ⟨S512, .f32⟩
  | .hbm, ⟨77, _⟩ => ⟨S32x1x512, .f32⟩
  | .hbm, ⟨78, _⟩ => ⟨S1x1x512, .f32⟩
  | .hbm, ⟨79, _⟩ => ⟨S32x1x512, .f32⟩
  | .hbm, ⟨80, _⟩ => ⟨S32x1x512, .f32⟩
  | .hbm, ⟨81, _⟩ => ⟨S32x1x512, .f32⟩
  | .hbm, ⟨82, _⟩ => ⟨S32x1x512, .f32⟩
  | .hbm, ⟨83, _⟩ => ⟨S32x2x512, .f32⟩
  | .hbm, ⟨84, _⟩ => ⟨S32x512x2x2x64, .f32⟩
  | .hbm, ⟨85, _⟩ => ⟨S32x513x2x2x64, .f32⟩
  | .hbm, ⟨86, _⟩ => ⟨S512, .f32⟩
  | .hbm, ⟨87, _⟩ => ⟨S32x1x512, .f32⟩
  | .hbm, ⟨88, _⟩ => ⟨S_, .f32⟩
  | .hbm, ⟨89, _⟩ => ⟨S32x1, .f32⟩
  | .hbm, ⟨90, _⟩ => ⟨S32x1x1, .f32⟩
  | .hbm, ⟨91, _⟩ => ⟨S_, .f32⟩
  | .hbm, ⟨92, _⟩ => ⟨S32x1x1, .f32⟩
  | .hbm, ⟨93, _⟩ => ⟨S32x1x1, .f32⟩
  | .hbm, ⟨94, _⟩ => ⟨S_, .f32⟩
  | .hbm, ⟨95, _⟩ => ⟨S32x1x1, .f32⟩
  | .hbm, ⟨96, _⟩ => ⟨S32x1x1, .f32⟩
  | .hbm, ⟨97, _⟩ => ⟨S32x1x1, .f32⟩
  | .hbm, ⟨98, _⟩ => ⟨S32x1x512, .f32⟩
  | .hbm, ⟨99, _⟩ => ⟨S32x1x512, .f32⟩
  | .hbm, ⟨100, _⟩ => ⟨S1x1x512, .f32⟩
  | .hbm, ⟨101, _⟩ => ⟨S32x1x512, .f32⟩
  | .hbm, ⟨102, _⟩ => ⟨S32x1x512, .f32⟩
  | .hbm, ⟨103, _⟩ => ⟨S1x32x512, .f32⟩
  | .hbm, ⟨104, _⟩ => ⟨S_, .f32⟩
  | .hbm, ⟨105, _⟩ => ⟨S32x1x8x64, .f32⟩
  | .hbm, ⟨106, _⟩ => ⟨S32x1x8x64, .f32⟩
  | .hbm, ⟨107, _⟩ => ⟨S1x32x8x64, .f32⟩
  | .hbm, ⟨108, _⟩ => ⟨S1x8x32x64, .f32⟩
  | .hbm, ⟨109, _⟩ => ⟨S1x32x1x2x2x64, .f32⟩
  | .hbm, ⟨110, _⟩ => ⟨S1x32x1x2x2x64, .f32⟩
  | .hbm, ⟨111, _⟩ => ⟨S32x512x2x2x64, .f32⟩
  | .hbm, ⟨112, _⟩ => ⟨S1x32x512x2x2x64, .f32⟩
  | .hbm, ⟨113, _⟩ => ⟨S1x32x2x512, .f32⟩
  | .hbm, ⟨114, _⟩ => ⟨S1x32x512, .bf16⟩
  | .hbm, ⟨115, _⟩ => ⟨S1x8x32x64, .bf16⟩
  | .hbm, ⟨116, _⟩ => ⟨S1x32x24, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_6 : Ref sig .tc := ⟨.hbm, 88, rfl⟩
abbrev main_v72 : Ref sig .tc := ⟨.hbm, 89, rfl⟩
abbrev main_v73 : Ref sig .tc := ⟨.hbm, 90, rfl⟩
abbrev main_cst_7 : Ref sig .tc := ⟨.hbm, 91, rfl⟩
abbrev main_v74 : Ref sig .tc := ⟨.hbm, 92, rfl⟩
abbrev main_v75 : Ref sig .tc := ⟨.hbm, 93, rfl⟩
abbrev main_cst_8 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_9 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩

abbrev nD : Nat := 1
abbrev τ : Topo := Topo.v7x

variable {F : FTy → Type} [FloatOps F]
-- ==== Prompt.lean ====
abbrev S4x8192x1024 : Shape := ⟨3, ![4, 8192, 1024]⟩
abbrev S4x1x1024 : Shape := ⟨3, ![4, 1, 1024]⟩
abbrev S1x1024 : Shape := ⟨2, ![1, 1024]⟩
abbrev S1x1024x2840 : Shape := ⟨3, ![1, 1024, 2840]⟩
abbrev S1x3x512 : Shape := ⟨3, ![1, 3, 512]⟩
abbrev S1x512 : Shape := ⟨2, ![1, 512]⟩
abbrev S1024x2840 : Shape := ⟨2, ![1024, 2840]⟩
abbrev S_ : Shape := ⟨0, ![]⟩
abbrev S1024x2944 : Shape := ⟨2, ![1024, 2944]⟩
abbrev S4x2x512 : Shape := ⟨3, ![4, 2, 512]⟩
abbrev S1024 : Shape := ⟨1, ![1024]⟩
abbrev S3x512 : Shape := ⟨2, ![3, 512]⟩
abbrev S512 : Shape := ⟨1, ![512]⟩
abbrev S4x8192x512 : Shape := ⟨3, ![4, 8192, 512]⟩
abbrev S4x2x64x64x512 : Shape := ⟨5, ![4, 2, 64, 64, 512]⟩
abbrev S4x8192x256 : Shape := ⟨3, ![4, 8192, 256]⟩
abbrev S4x8192x128 : Shape := ⟨3, ![4, 8192, 128]⟩
abbrev S4x4x8192x64 : Shape := ⟨4, ![4, 4, 8192, 64]⟩
abbrev S4x4x64x8192 : Shape := ⟨4, ![4, 4, 64, 8192]⟩
abbrev S1x512x1024 : Shape := ⟨3, ![1, 512, 1024]⟩
abbrev S1x1x1024 : Shape := ⟨3, ![1, 1, 1024]⟩
abbrev S1x2x512 : Shape := ⟨3, ![1, 2, 512]⟩
abbrev S1x512x512 : Shape := ⟨3, ![1, 512, 512]⟩
abbrev S1x2x4x64x512 : Shape := ⟨5, ![1, 2, 4, 64, 512]⟩
abbrev S1x512x256 : Shape := ⟨3, ![1, 512, 256]⟩
abbrev S1x512x128 : Shape := ⟨3, ![1, 512, 128]⟩
abbrev S1x4x512x64 : Shape := ⟨4, ![1, 4, 512, 64]⟩
abbrev S1x4x64x512 : Shape := ⟨4, ![1, 4, 64, 512]⟩
abbrev S8x512 : Shape := ⟨2, ![8, 512]⟩
abbrev S512x1024 : Shape := ⟨2, ![512, 1024]⟩
abbrev S512x1 : Shape := ⟨2, ![512, 1]⟩
abbrev S1024x1536 : Shape := ⟨2, ![1024, 1536]⟩
abbrev S512x1536 : Shape := ⟨2, ![512, 1536]⟩
abbrev S512x512 : Shape := ⟨2, ![512, 512]⟩
abbrev S2x512 : Shape := ⟨2, ![2, 512]⟩
abbrev S1024x512 : Shape := ⟨2, ![1024, 512]⟩
abbrev S64x128 : Shape := ⟨2, ![64, 128]⟩
abbrev S64x512 : Shape := ⟨2, ![64, 512]⟩
abbrev S1x1x1x64x512 : Shape := ⟨5, ![1, 1, 1, 64, 512]⟩
abbrev S1024x768 : Shape := ⟨2, ![1024, 768]⟩
abbrev S512x768 : Shape := ⟨2, ![512, 768]⟩
abbrev S512x256 : Shape := ⟨2, ![512, 256]⟩
abbrev S512x64 : Shape := ⟨2, ![512, 64]⟩
abbrev S1x1x512x64 : Shape := ⟨4, ![1, 1, 512, 64]⟩
abbrev S512x128 : Shape := ⟨2, ![512, 128]⟩
abbrev S128x512 : Shape := ⟨2, ![128, 512]⟩
abbrev S1x1x64x512 : Shape := ⟨4, ![1, 1, 64, 512]⟩
abbrev S1024x128 : Shape := ⟨2, ![1024, 128]⟩
abbrev S1x4x64x128x2x2x64 : Shape := ⟨7, ![1, 4, 64, 128, 2, 2, 64]⟩
abbrev S4x512x256 : Shape := ⟨3, ![4, 512, 256]⟩
abbrev S1x4x512x2x2x64 : Shape := ⟨6, ![1, 4, 512, 2, 2, 64]⟩
abbrev S1x4x2x512 : Shape := ⟨4, ![1, 4, 2, 512]⟩
abbrev S4x8192x24 : Shape := ⟨3, ![4, 8192, 24]⟩

abbrev nBuf : Space → Nat
  | .hbm => 34
  | .vmem => 33
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1x1024x2840, .f32⟩
  | .hbm, ⟨5, _⟩ => ⟨S1x3x512, .f32⟩
  | .hbm, ⟨6, _⟩ => ⟨S1x512, .f32⟩
  | .hbm, ⟨7, _⟩ => ⟨S1024x2840, .f32⟩
  | .hbm, ⟨8, _⟩ => ⟨S_, .i32⟩
  | .hbm, ⟨9, _⟩ => ⟨S_, .f32⟩
  | .hbm, ⟨10, _⟩ => ⟨S1024x2944, .f32⟩
  | .hbm, ⟨11, _⟩ => ⟨S1024x2944, .bf16⟩
  | .hbm, ⟨12, _⟩ => ⟨S_, .f32⟩
  | .hbm, ⟨13, _⟩ => ⟨S4x2x512, .f32⟩
  | .hbm, ⟨14, _⟩ => ⟨S1024, .f32⟩
  | .hbm, ⟨15, _⟩ => ⟨S3x512, .f32⟩
  | .hbm, ⟨16, _⟩ => ⟨S512, .f32⟩
  | .hbm, ⟨17, _⟩ => ⟨S1x1024, .f32⟩
  | .hbm, ⟨18, _⟩ => ⟨S1x512, .f32⟩
  | .hbm, ⟨19, _⟩ => ⟨S4x8192x512, .bf16⟩
  | .hbm, ⟨20, _⟩ => ⟨S4x2x64x64x512, .bf16⟩
  | .hbm, ⟨21, _⟩ => ⟨S4x8192x256, .f32⟩
  | .hbm, ⟨22, _⟩ => ⟨S4x8192x256, .f32⟩
  | .hbm, ⟨23, _⟩ => ⟨S4x8192x256, .f32⟩
  | .hbm, ⟨24, _⟩ => ⟨S4x8192x128, .f32⟩
  | .hbm, ⟨25, _⟩ => ⟨S4x2x512, .f32⟩
  | .hbm, ⟨26, _⟩ => ⟨S4x4x8192x64, .bf16⟩
  | .hbm, ⟨27, _⟩ => ⟨S4x4x64x8192, .bf16⟩
  | .hbm, ⟨28, _⟩ => ⟨S1x4x64x128x2x2x64, .f32⟩
  | .hbm, ⟨29, _⟩ => ⟨S1x4x64x128x2x2x64, .f32⟩
  | .hbm, ⟨30, _⟩ => ⟨S4x512x256, .f32⟩
  | .hbm, ⟨31, _⟩ => ⟨S1x4x512x2x2x64, .f32⟩
  | .hbm, ⟨32, _⟩ => ⟨S1x4x2x512, .f32⟩
  | .hbm, ⟨33, _⟩ => ⟨S4x8192x24, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2944, .bf16⟩
  | .local _ .vmem, ⟨8, _⟩ => ⟨S3x512, .f32⟩
  | .local _ .vmem, ⟨9, _⟩ => ⟨S1x512, .f32⟩
  | .local _ .vmem, ⟨10, _⟩ => ⟨S1x2x512, .f32⟩
  | .local _ .vmem, ⟨11, _⟩ => ⟨S1x2x512, .f32⟩
  | .local _ .vmem, ⟨12, _⟩ => ⟨S1x2x512, .f32⟩
  | .local _ .vmem, ⟨13, _⟩ => ⟨S1x2x512, .f32⟩
  | .local _ .vmem, ⟨14, _⟩ => ⟨S1x512x512, .bf16⟩
  | .local _ .vmem, ⟨15, _⟩ => ⟨S1x512x512, .bf16⟩
  | .local _ .vmem, ⟨16, _⟩ => ⟨S1x2x4x64x512, .bf16⟩
  | .local _ .vmem, ⟨17, _⟩ => ⟨S1x2x4x64x512, .bf16⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x128, .f32⟩
  | .local _ .vmem, ⟨25, _⟩ => ⟨S1x512x128, .f32⟩
  | .local _ .vmem, ⟨26, _⟩ => ⟨S1x2x512, .f32⟩
  | .local _ .vmem, ⟨27, _⟩ => ⟨S1x2x512, .f32⟩
  | .local _ .vmem, ⟨28, _⟩ => ⟨S1x4x512x64, .bf16⟩
  | .local _ .vmem, ⟨29, _⟩ => ⟨S1x4x512x64, .bf16⟩
  | .local _ .vmem, ⟨30, _⟩ => ⟨S1x4x64x512, .bf16⟩
  | .local _ .vmem, ⟨31, _⟩ => ⟨S1x4x64x512, .bf16⟩
  | .local _ .vmem, ⟨32, _⟩ => ⟨S8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev main_v9_6 : Ref sig .tc := ⟨.hbm, 25, rfl⟩
abbrev main_v9_7 : Ref sig .tc := ⟨.hbm, 26, rfl⟩
abbrev main_v9_8 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x4x64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x4x512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x64x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== PromptRefIdeal.lean ====
abbrev S4x8192x1024 : Shape := ⟨3, ![4, 8192, 1024]⟩
abbrev S4x1x1024 : Shape := ⟨3, ![4, 1, 1024]⟩
abbrev S1x1024 : Shape := ⟨2, ![1, 1024]⟩
abbrev S1x1024x2840 : Shape := ⟨3, ![1, 1024, 2840]⟩
abbrev S1x3x512 : Shape := ⟨3, ![1, 3, 512]⟩
abbrev S1x512 : Shape := ⟨2, ![1, 512]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2840 : Shape := ⟨2, ![1024, 2840]⟩
abbrev S4x8192x2840 : Shape := ⟨3, ![4, 8192, 2840]⟩
abbrev S4x8192x512 : Shape := ⟨3, ![4, 8192, 512]⟩
abbrev S4x8192x256 : Shape := ⟨3, ![4, 8192, 256]⟩
abbrev S4x8192x24 : Shape := ⟨3, ![4, 8192, 24]⟩
abbrev S4x8192x8x64 : Shape := ⟨4, ![4, 8192, 8, 64]⟩
abbrev S4x8192x2x2x64 : Shape := ⟨5, ![4, 8192, 2, 2, 64]⟩
abbrev S3x512 : Shape := ⟨2, ![3, 512]⟩
abbrev S4x2x512 : Shape := ⟨3, ![4, 2, 512]⟩
abbrev S4x8194x512 : Shape := ⟨3, ![4, 8194, 512]⟩
abbrev S512 : Shape := ⟨1, ![512]⟩
abbrev S1x1x512 : Shape := ⟨3, ![1, 1, 512]⟩
abbrev S4x64x128x2x4x64 : Shape := ⟨6, ![4, 64, 128, 2, 4, 64]⟩
abbrev S4x2x64x64x4x128 : Shape := ⟨6, ![4, 2, 64, 64, 4, 128]⟩
abbrev S4x2x64x64x512 : Shape := ⟨5, ![4, 2, 64, 64, 512]⟩
abbrev S4x8192x1x2x64 : Shape := ⟨5, ![4, 8192, 1, 2, 64]⟩
abbrev S4x8192x2x64 : Shape := ⟨4, ![4, 8192, 2, 64]⟩
abbrev S4x8192x4x64 : Shape := ⟨4, ![4, 8192, 4, 64]⟩
abbrev S4x4x8192x64 : Shape := ⟨4, ![4, 4, 8192, 64]⟩
abbrev S4x4x64x8192 : Shape := ⟨4, ![4, 4, 64, 8192]⟩
abbrev S1x4x64x128x2x2x64 : Shape := ⟨7, ![1, 4, 64, 128, 2, 2, 64]⟩
abbrev S4x512x2x2x64 : Shape := ⟨5, ![4, 512, 2, 2, 64]⟩
abbrev S1x4x512x2x2x64 : Shape := ⟨6, ![1, 4, 512, 2, 2, 64]⟩
abbrev S1x4x2x512 : Shape := ⟨4, ![1, 4, 2, 512]⟩

abbrev nBuf : Space → Nat
  | .hbm => 127
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1x1024x2840, .f32⟩
  | .hbm, ⟨5, _⟩ => ⟨S1x3x512, .f32⟩
  | .hbm, ⟨6, _⟩ => ⟨S1x512, .f32⟩
  | .hbm, ⟨7, _⟩ => ⟨S1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S1024x2840, .f32⟩
  | .hbm, ⟨32, _⟩ => ⟨S4x8192x2840, .f32⟩
  | .hbm, ⟨33, _⟩ => ⟨S4x8192x512, .f32⟩
  | .hbm, ⟨34, _⟩ => ⟨S4x8192x512, .f32⟩
  | .hbm, ⟨35, _⟩ => ⟨S4x8192x512, .f32⟩
  | .hbm, ⟨36, _⟩ => ⟨S4x8192x512, .f32⟩
  | .hbm, ⟨37, _⟩ => ⟨S4x8192x256, .f32⟩
  | .hbm, ⟨38, _⟩ => ⟨S4x8192x256, .f32⟩
  | .hbm, ⟨39, _⟩ => ⟨S4x8192x256, .f32⟩
  | .hbm, ⟨40, _⟩ => ⟨S4x8192x24, .f32⟩
  | .hbm, ⟨41, _⟩ => ⟨S4x8192x8x64, .f32⟩
  | .hbm, ⟨42, _⟩ => ⟨S4x8192x2x2x64, .f32⟩
  | .hbm, ⟨43, _⟩ => ⟨S4x8192x2x2x64, .f32⟩
  | .hbm, ⟨44, _⟩ => ⟨S4x8192x2x2x64, .f32⟩
  | .hbm, ⟨45, _⟩ => ⟨S4x8192x24, .f32⟩
  | .hbm, ⟨46, _⟩ => ⟨S4x8192x24, .f32⟩
  | .hbm, ⟨47, _⟩ => ⟨S_, .f32⟩
  | .hbm, ⟨48, _⟩ => ⟨S4x8192x24, .f32⟩
  | .hbm, ⟨49, _⟩ => ⟨S4x8192x24, .f32⟩
  | .hbm, ⟨50, _⟩ => ⟨S_, .f32⟩
  | .hbm, ⟨51, _⟩ => ⟨S4x8192x24, .f32⟩
  | .hbm, ⟨52, _⟩ => ⟨S4x8192x24, .f32⟩
  | .hbm, ⟨53, _⟩ => ⟨S3x512, .f32⟩
  | .hbm, ⟨54, _⟩ => ⟨S_, .f32⟩
  | .hbm, ⟨55, _⟩ => ⟨S4x2x512, .f32⟩
  | .hbm, ⟨56, _⟩ => ⟨S4x8192x512, .f32⟩
  | .hbm, ⟨57, _⟩ => ⟨S4x8194x512, .f32⟩
  | .hbm, ⟨58, _⟩ => ⟨S1x512, .f32⟩
  | .hbm, ⟨59, _⟩ => ⟨S512, .f32⟩
  | .hbm, ⟨60, _⟩ => ⟨S4x8192x512, .f32⟩
  | .hbm, ⟨61, _⟩ => ⟨S1x1x512, .f32⟩
  | .hbm, ⟨62, _⟩ => ⟨S4x8192x512, .f32⟩
  | .hbm, ⟨63, _⟩ => ⟨S4x8192x512, .f32⟩
  | .hbm, ⟨64, _⟩ => ⟨S_, .f32⟩
  | .hbm, ⟨65, _⟩ => ⟨S4x8192x512, .f32⟩
  | .hbm, ⟨66, _⟩ => ⟨S4x8192x512, .f32⟩
  | .hbm, ⟨67, _⟩ => ⟨S1x512, .f32⟩
  | .hbm, ⟨68, _⟩ => ⟨S512, .f32⟩
  | .hbm, ⟨69, _⟩ => ⟨S4x8192x512, .f32⟩
  | .hbm, ⟨70, _⟩ => ⟨S1x1x512, .f32⟩
  | .hbm, ⟨71, _⟩ => ⟨S4x8192x512, .f32⟩
  | .hbm, ⟨72, _⟩ => ⟨S4x8192x512, .f32⟩
  | .hbm, ⟨73, _⟩ => ⟨S4x8192x512, .f32⟩
  | .hbm, ⟨74, _⟩ => ⟨S1x512, .f32⟩
  | .hbm, ⟨75, _⟩ => ⟨S512, .f32⟩
  | .hbm, ⟨76, _⟩ => ⟨S4x8192x512, .f32⟩
  | .hbm, ⟨77, _⟩ => ⟨S1x1x512, .f32⟩
  | .hbm, ⟨78, _⟩ => ⟨S4x8192x512, .f32⟩
  | .hbm, ⟨79, _⟩ => ⟨S4x8192x512, .f32⟩
  | .hbm, ⟨80, _⟩ => ⟨S4x8192x512, .f32⟩
  | .hbm, ⟨81, _⟩ => ⟨S4x8192x512, .f32⟩
  | .hbm, ⟨82, _⟩ => ⟨S4x2x512, .f32⟩
  | .hbm, ⟨83, _⟩ => ⟨S_, .f32⟩
  | .hbm, ⟨84, _⟩ => ⟨S4x8192x8x64, .f32⟩
  | .hbm, ⟨85, _⟩ => ⟨S4x8192x8x64, .f32⟩
  | .hbm, ⟨86, _⟩ => ⟨S4x64x128x2x4x64, .f32⟩
  | .hbm, ⟨87, _⟩ => ⟨S4x2x64x64x4x128, .f32⟩
  | .hbm, ⟨88, _⟩ => ⟨S4x2x64x64x512, .f32⟩
  | .hbm, ⟨89, _⟩ => ⟨S4x8192x1x2x64, .f32⟩
  | .hbm, ⟨90, _⟩ => ⟨S4x8192x2x64, .f32⟩
  | .hbm, ⟨91, _⟩ => ⟨S4x8192x1x2x64, .f32⟩
  | .hbm, ⟨92, _⟩ => ⟨S4x8192x2x64, .f32⟩
  | .hbm, ⟨93, _⟩ => ⟨S4x8192x4x64, .f32⟩
  | .hbm, ⟨94, _⟩ => ⟨S4x4x8192x64, .f32⟩
  | .hbm, ⟨95, _⟩ => ⟨S4x8192x1x2x64, .f32⟩
  | .hbm, ⟨96, _⟩ => ⟨S4x8192x2x64, .f32⟩
  | .hbm, ⟨97, _⟩ => ⟨S4x8192x1x2x64, .f32⟩
  | .hbm, ⟨98, _⟩ => ⟨S4x8192x2x64, .f32⟩
  | .hbm, ⟨99, _⟩ => ⟨S4x8192x4x64, .f32⟩
  | .hbm, ⟨100, _⟩ => ⟨S4x4x64x8192, .f32⟩
  | .hbm, ⟨101, _⟩ => ⟨S1x4x64x128x2x2x64, .f32⟩
  | .hbm, ⟨102, _⟩ => ⟨S1x4x64x128x2x2x64, .f32⟩
  | .hbm, ⟨103, _⟩ => ⟨S4x512x2x2x64, .f32⟩
  | .hbm, ⟨104, _⟩ => ⟨S1x4x512x2x2x64, .f32⟩
  | .hbm, ⟨105, _⟩ => ⟨S1x4x2x512, .f32⟩
  | .hbm, ⟨106, _⟩ => ⟨S512, .f32⟩
  | .hbm, ⟨107, _⟩ => ⟨S4x8192x512, .f32⟩
  | .hbm, ⟨108, _⟩ => ⟨S_, .f32⟩
  | .hbm, ⟨109, _⟩ => ⟨S4x8192, .f32⟩
  | .hbm, ⟨110, _⟩ => ⟨S4x8192x1, .f32⟩
  | .hbm, ⟨111, _⟩ => ⟨S_, .f32⟩
  | .hbm, ⟨112, _⟩ => ⟨S4x8192x1, .f32⟩
  | .hbm, ⟨113, _⟩ => ⟨S4x8192x1, .f32⟩
  | .hbm, ⟨114, _⟩ => ⟨S_, .f32⟩
  | .hbm, ⟨115, _⟩ => ⟨S4x8192x1, .f32⟩
  | .hbm, ⟨116, _⟩ => ⟨S4x8192x1, .f32⟩
  | .hbm, ⟨117, _⟩ => ⟨S4x8192x1, .f32⟩
  | .hbm, ⟨118, _⟩ => ⟨S4x8192x512, .f32⟩
  | .hbm, ⟨119, _⟩ => ⟨S4x8192x512, .f32⟩
  | .hbm, ⟨120, _⟩ => ⟨S1x1x512, .f32⟩
  | .hbm, ⟨121, _⟩ => ⟨S4x8192x512, .f32⟩
  | .hbm, ⟨122, _⟩ => ⟨S4x8192x512, .f32⟩
  | .hbm, ⟨123, _⟩ => ⟨S4x8192x512, .bf16⟩
  | .hbm, ⟨124, _⟩ => ⟨S4x2x64x64x512, .bf16⟩
  | .hbm, ⟨125, _⟩ => ⟨S4x4x8192x64, .bf16⟩
  | .hbm, ⟨126, _⟩ => ⟨S4x4x64x8192, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_7 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_8 : Ref sig .tc := ⟨.hbm, 108, rfl⟩
abbrev main_v92 : Ref sig .tc := ⟨.hbm, 109, rfl⟩
abbrev main_v93 : Ref sig .tc := ⟨.hbm, 110, rfl⟩
abbrev main_cst_9 : Ref sig .tc := ⟨.hbm, 111, rfl⟩
abbrev main_v94 : Ref sig .tc := ⟨.hbm, 112, rfl⟩
abbrev main_v95 : Ref sig .tc := ⟨.hbm, 113, rfl⟩
abbrev main_cst_10 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩

abbrev nD : Nat := 1
abbrev τ : Topo := Topo.v7x

variable {F : FTy → Type} [FloatOps F]
-- ==== Merge.lean ====
abbrev S4x8192x1024 : Shape := ⟨3, ![4, 8192, 1024]⟩
abbrev S4x8192x512 : Shape := ⟨3, ![4, 8192, 512]⟩
abbrev S4x1x1024 : Shape := ⟨3, ![4, 1, 1024]⟩
abbrev S1x512 : Shape := ⟨2, ![1, 512]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x1024 : Shape := ⟨2, ![1024, 1024]⟩
abbrev S1024x32 : Shape := ⟨2, ![1024, 32]⟩
abbrev S_ : Shape := ⟨0, ![]⟩
abbrev S1024x128 : Shape := ⟨2, ![1024, 128]⟩
abbrev S32 : Shape := ⟨1, ![32]⟩
abbrev S128 : Shape := ⟨1, ![128]⟩
abbrev S1x128 : Shape := ⟨2, ![1, 128]⟩
abbrev S512 : Shape := ⟨1, ![512]⟩
abbrev S1024 : Shape := ⟨1, ![1024]⟩
abbrev S4x8192x128 : Shape := ⟨3, ![4, 8192, 128]⟩
abbrev S1x512x1024 : Shape := ⟨3, ![1, 512, 1024]⟩
abbrev S1x512x512 : Shape := ⟨3, ![1, 512, 512]⟩
abbrev S1x1x1024 : Shape := ⟨3, ![1, 1, 1024]⟩
abbrev S1x512x128 : Shape := ⟨3, ![1, 512, 128]⟩
abbrev S512x512 : Shape := ⟨2, ![512, 512]⟩
abbrev S512x1 : Shape := ⟨2, ![512, 1]⟩
abbrev S512x1024 : Shape := ⟨2, ![512, 1024]⟩
abbrev S512x128 : Shape := ⟨2, ![512, 128]⟩

abbrev nBuf : Space → Nat
  | .hbm => 30
  | .vmem => 25
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .f32⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x32, .f32⟩
  | .hbm, ⟨10, _⟩ => ⟨S1x32, .f32⟩
  | .hbm, ⟨11, _⟩ => ⟨S1024x1024, .f32⟩
  | .hbm, ⟨12, _⟩ => ⟨S1024x1024, .bf16⟩
  | .hbm, ⟨13, _⟩ => ⟨S1024x32, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S32, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S512, .f32⟩
  | .hbm, ⟨23, _⟩ => ⟨S1024, .f32⟩
  | .hbm, ⟨24, _⟩ => ⟨S1x512, .f32⟩
  | .hbm, ⟨25, _⟩ => ⟨S1x1024, .f32⟩
  | .hbm, ⟨26, _⟩ => ⟨S4x8192x1024, .f32⟩
  | .hbm, ⟨27, _⟩ => ⟨S4x8192x1024, .f32⟩
  | .hbm, ⟨28, _⟩ => ⟨S4x8192x128, .i32⟩
  | .hbm, ⟨29, _⟩ => ⟨S4x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512, .f32⟩
  | .local _ .vmem, ⟨7, _⟩ => ⟨S1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1024x128, .f32⟩
  | .local _ .vmem, ⟨16, _⟩ => ⟨S1x128, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x128, .i32⟩
  | .local _ .vmem, ⟨22, _⟩ => ⟨S1x512x128, .i32⟩
  | .local _ .vmem, ⟨23, _⟩ => ⟨S1x512x128, .f32⟩
  | .local _ .vmem, ⟨24, _⟩ => ⟨S1x512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v11_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MergeRefIdeal.lean ====
abbrev S4x8192x1024 : Shape := ⟨3, ![4, 8192, 1024]⟩
abbrev S4x8192x512 : Shape := ⟨3, ![4, 8192, 512]⟩
abbrev S4x1x1024 : Shape := ⟨3, ![4, 1, 1024]⟩
abbrev S1x512 : Shape := ⟨2, ![1, 512]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S512 : Shape := ⟨1, ![512]⟩
abbrev S_ : Shape := ⟨0, ![]⟩
abbrev S4x8192 : Shape := ⟨2, ![4, 8192]⟩
abbrev S4x8192x1 : Shape := ⟨3, ![4, 8192, 1]⟩
abbrev S1x1x512 : Shape := ⟨3, ![1, 1, 512]⟩
abbrev S1024x1024 : Shape := ⟨2, ![1024, 1024]⟩
abbrev S1024 : Shape := ⟨1, ![1024]⟩
abbrev S1x1x1024 : Shape := ⟨3, ![1, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .f32⟩
  | .hbm, ⟨3, _⟩ => ⟨S4x1x1024, .f32⟩
  | .hbm, ⟨4, _⟩ => ⟨S4x1x1024, .f32⟩
  | .hbm, ⟨5, _⟩ => ⟨S4x1x1024, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x32, .f32⟩
  | .hbm, ⟨10, _⟩ => ⟨S1x32, .f32⟩
  | .hbm, ⟨11, _⟩ => ⟨S4x8192x512, .f32⟩
  | .hbm, ⟨12, _⟩ => ⟨S512, .f32⟩
  | .hbm, ⟨13, _⟩ => ⟨S4x8192x512, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x512, .f32⟩
  | .hbm, ⟨25, _⟩ => ⟨S4x8192x512, .f32⟩
  | .hbm, ⟨26, _⟩ => ⟨S1x1x512, .f32⟩
  | .hbm, ⟨27, _⟩ => ⟨S4x8192x512, .f32⟩
  | .hbm, ⟨28, _⟩ => ⟨S4x8192x512, .f32⟩
  | .hbm, ⟨29, _⟩ => ⟨S4x8192x1024, .f32⟩
  | .hbm, ⟨30, _⟩ => ⟨S1024x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S1024, .f32⟩
  | .hbm, ⟨36, _⟩ => ⟨S4x8192x1024, .f32⟩
  | .hbm, ⟨37, _⟩ => ⟨S_, .f32⟩
  | .hbm, ⟨38, _⟩ => ⟨S4x8192, .f32⟩
  | .hbm, ⟨39, _⟩ => ⟨S4x8192x1, .f32⟩
  | .hbm, ⟨40, _⟩ => ⟨S_, .f32⟩
  | .hbm, ⟨41, _⟩ => ⟨S4x8192x1, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x1, .f32⟩
  | .hbm, ⟨47, _⟩ => ⟨S4x8192x1024, .f32⟩
  | .hbm, ⟨48, _⟩ => ⟨S4x8192x1024, .f32⟩
  | .hbm, ⟨49, _⟩ => ⟨S1x1x1024, .f32⟩
  | .hbm, ⟨50, _⟩ => ⟨S4x8192x1024, .f32⟩
  | .hbm, ⟨51, _⟩ => ⟨S4x8192x1024, .f32⟩
  | .hbm, ⟨52, _⟩ => ⟨S_, .f32⟩
  | .hbm, ⟨53, _⟩ => ⟨S4x1x1024, .f32⟩
  | .hbm, ⟨54, _⟩ => ⟨S4x1x1024, .f32⟩
  | .hbm, ⟨55, _⟩ => ⟨S4x8192x1024, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Final.lean ====
abbrev S4x8192x1024 : Shape := ⟨3, ![4, 8192, 1024]⟩
abbrev S4x4x8192x1024 : Shape := ⟨4, ![4, 4, 8192, 1024]⟩
abbrev S4x8192x128 : Shape := ⟨3, ![4, 8192, 128]⟩
abbrev S4x1x1024 : Shape := ⟨3, ![4, 1, 1024]⟩
abbrev S1024 : Shape := ⟨1, ![1024]⟩
abbrev S1x1024 : Shape := ⟨2, ![1, 1024]⟩
abbrev S1x512x1024 : Shape := ⟨3, ![1, 512, 1024]⟩
abbrev S1x4x512x1024 : Shape := ⟨4, ![1, 4, 512, 1024]⟩
abbrev S1x512x128 : Shape := ⟨3, ![1, 512, 128]⟩
abbrev S1x1x1024 : Shape := ⟨3, ![1, 1, 1024]⟩
abbrev S512x128 : Shape := ⟨2, ![512, 128]⟩
abbrev S512x1 : Shape := ⟨2, ![512, 1]⟩
abbrev S1x1x512x1024 : Shape := ⟨4, ![1, 1, 512, 1024]⟩
abbrev S512x1024 : Shape := ⟨2, ![512, 1024]⟩
abbrev S512 : Shape := ⟨1, ![512]⟩

abbrev nBuf : Space → Nat
  | .hbm => 7
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x4x8192x1024, .f32⟩
  | .hbm, ⟨2, _⟩ => ⟨S4x8192x128, .f32⟩
  | .hbm, ⟨3, _⟩ => ⟨S4x1x1024, .f32⟩
  | .hbm, ⟨4, _⟩ => ⟨S1024, .f32⟩
  | .hbm, ⟨5, _⟩ => ⟨S1x1024, .f32⟩
  | .hbm, ⟨6, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x4x512x1024, .f32⟩
  | .local _ .vmem, ⟨3, _⟩ => ⟨S1x4x512x1024, .f32⟩
  | .local _ .vmem, ⟨4, _⟩ => ⟨S1x512x128, .f32⟩
  | .local _ .vmem, ⟨5, _⟩ => ⟨S1x512x128, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FinalRefIdeal.lean ====
abbrev S4x8192x1024 : Shape := ⟨3, ![4, 8192, 1024]⟩
abbrev S4x4x8192x1024 : Shape := ⟨4, ![4, 4, 8192, 1024]⟩
abbrev S4x8192x128 : Shape := ⟨3, ![4, 8192, 128]⟩
abbrev S4x1x1024 : Shape := ⟨3, ![4, 1, 1024]⟩
abbrev S1024 : Shape := ⟨1, ![1024]⟩
abbrev S4x8192x4 : Shape := ⟨3, ![4, 8192, 4]⟩
abbrev S4x4x8192 : Shape := ⟨3, ![4, 4, 8192]⟩
abbrev S4x4x8192x1 : Shape := ⟨4, ![4, 4, 8192, 1]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x4x8192x1024, .f32⟩
  | .hbm, ⟨2, _⟩ => ⟨S4x8192x128, .f32⟩
  | .hbm, ⟨3, _⟩ => ⟨S4x1x1024, .f32⟩
  | .hbm, ⟨4, _⟩ => ⟨S1024, .f32⟩
  | .hbm, ⟨5, _⟩ => ⟨S4x8192x4, .f32⟩
  | .hbm, ⟨6, _⟩ => ⟨S4x4x8192, .f32⟩
  | .hbm, ⟨7, _⟩ => ⟨S4x4x8192x1, .f32⟩
  | .hbm, ⟨8, _⟩ => ⟨S4x4x8192x1024, .f32⟩
  | .hbm, ⟨9, _⟩ => ⟨S4x4x8192x1024, .f32⟩
  | .hbm, ⟨10, _⟩ => ⟨S_, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S4x8192x1, .f32⟩
  | .hbm, ⟨26, _⟩ => ⟨S4x8192x1024, .f32⟩
  | .hbm, ⟨27, _⟩ => ⟨S4x8192x1024, .f32⟩
  | .hbm, ⟨28, _⟩ => ⟨S1x1x1024, .f32⟩
  | .hbm, ⟨29, _⟩ => ⟨S4x8192x1024, .f32⟩
  | .hbm, ⟨30, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Last.lean ====
abbrev S1x32x1024 : Shape := ⟨3, ![1, 32, 1024]⟩
abbrev S1x4x32x1024 : Shape := ⟨4, ![1, 4, 32, 1024]⟩
abbrev S1x32x128 : Shape := ⟨3, ![1, 32, 128]⟩
abbrev S1024 : Shape := ⟨1, ![1024]⟩
abbrev S1x1024 : Shape := ⟨2, ![1, 1024]⟩
abbrev S32x128 : Shape := ⟨2, ![32, 128]⟩
abbrev S32x1 : Shape := ⟨2, ![32, 1]⟩
abbrev S1x1x32x1024 : Shape := ⟨4, ![1, 1, 32, 1024]⟩
abbrev S32x1024 : Shape := ⟨2, ![32, 1024]⟩
abbrev S32 : Shape := ⟨1, ![32]⟩
abbrev S32x1x1024 : Shape := ⟨3, ![32, 1, 1024]⟩

abbrev nBuf : Space → Nat
  | .hbm => 8
  | .vmem => 6
  | .smem => 0
  | _ => 0

abbrev bufTy : (tb : Table) → Fin (tcTables nBuf tb) → BufTy
  | .hbm, ⟨0, _⟩ => ⟨S1x32x1024, .f32⟩
  | .hbm, ⟨1, _⟩ => ⟨S1x4x32x1024, .f32⟩
  | .hbm, ⟨2, _⟩ => ⟨S1x32x128, .f32⟩
  | .hbm, ⟨3, _⟩ => ⟨S1x32x1024, .f32⟩
  | .hbm, ⟨4, _⟩ => ⟨S1024, .f32⟩
  | .hbm, ⟨5, _⟩ => ⟨S1x1024, .f32⟩
  | .hbm, ⟨6, _⟩ => ⟨S1x32x1024, .f32⟩
  | .hbm, ⟨7, _⟩ => ⟨S32x1x1024, .f32⟩
  | .local _ .vmem, ⟨0, _⟩ => ⟨S1x32x1024, .f32⟩
  | .local _ .vmem, ⟨1, _⟩ => ⟨S1x4x32x1024, .f32⟩
  | .local _ .vmem, ⟨2, _⟩ => ⟨S1x32x128, .f32⟩
  | .local _ .vmem, ⟨3, _⟩ => ⟨S1x32x1024, .f32⟩
  | .local _ .vmem, ⟨4, _⟩ => ⟨S1x1024, .f32⟩
  | .local _ .vmem, ⟨5, _⟩ => ⟨S1x32x1024, .f32⟩
  | _, _ => ⟨S1x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== LastRefIdeal.lean ====
abbrev S1x32x1024 : Shape := ⟨3, ![1, 32, 1024]⟩
abbrev S1x4x32x1024 : Shape := ⟨4, ![1, 4, 32, 1024]⟩
abbrev S1x32x128 : Shape := ⟨3, ![1, 32, 128]⟩
abbrev S1024 : Shape := ⟨1, ![1024]⟩
abbrev S1x32x4 : Shape := ⟨3, ![1, 32, 4]⟩
abbrev S1x4x32 : Shape := ⟨3, ![1, 4, 32]⟩
abbrev S1x4x32x1 : Shape := ⟨4, ![1, 4, 32, 1]⟩
abbrev S_ : Shape := ⟨0, ![]⟩
abbrev S1x32 : Shape := ⟨2, ![1, 32]⟩
abbrev S1x32x1 : Shape := ⟨3, ![1, 32, 1]⟩
abbrev S1x1x1024 : Shape := ⟨3, ![1, 1, 1024]⟩
abbrev S32x1x1024 : Shape := ⟨3, ![32, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S1x32x1024, .f32⟩
  | .hbm, ⟨1, _⟩ => ⟨S1x4x32x1024, .f32⟩
  | .hbm, ⟨2, _⟩ => ⟨S1x32x128, .f32⟩
  | .hbm, ⟨3, _⟩ => ⟨S1x32x1024, .f32⟩
  | .hbm, ⟨4, _⟩ => ⟨S1024, .f32⟩
  | .hbm, ⟨5, _⟩ => ⟨S1x32x4, .f32⟩
  | .hbm, ⟨6, _⟩ => ⟨S1x4x32, .f32⟩
  | .hbm, ⟨7, _⟩ => ⟨S1x4x32x1, .f32⟩
  | .hbm, ⟨8, _⟩ => ⟨S1x4x32x1024, .f32⟩
  | .hbm, ⟨9, _⟩ => ⟨S1x4x32x1024, .f32⟩
  | .hbm, ⟨10, _⟩ => ⟨S_, .f32⟩
  | .hbm, ⟨11, _⟩ => ⟨S1x32x1024, .f32⟩
  | .hbm, ⟨12, _⟩ => ⟨S1x32x1024, .f32⟩
  | .hbm, ⟨13, _⟩ => ⟨S1x32x1024, .f32⟩
  | .hbm, ⟨14, _⟩ => ⟨S1x32x1024, .f32⟩
  | .hbm, ⟨15, _⟩ => ⟨S_, .f32⟩
  | .hbm, ⟨16, _⟩ => ⟨S1x32, .f32⟩
  | .hbm, ⟨17, _⟩ => ⟨S1x32x1, .f32⟩
  | .hbm, ⟨18, _⟩ => ⟨S_, .f32⟩
  | .hbm, ⟨19, _⟩ => ⟨S1x32x1, .f32⟩
  | .hbm, ⟨20, _⟩ => ⟨S1x32x1, .f32⟩
  | .hbm, ⟨21, _⟩ => ⟨S_, .f32⟩
  | .hbm, ⟨22, _⟩ => ⟨S1x32x1, .f32⟩
  | .hbm, ⟨23, _⟩ => ⟨S1x32x1, .f32⟩
  | .hbm, ⟨24, _⟩ => ⟨S1x32x1, .f32⟩
  | .hbm, ⟨25, _⟩ => ⟨S1x32x1024, .f32⟩
  | .hbm, ⟨26, _⟩ => ⟨S1x32x1024, .f32⟩
  | .hbm, ⟨27, _⟩ => ⟨S1x1x1024, .f32⟩
  | .hbm, ⟨28, _⟩ => ⟨S1x32x1024, .f32⟩
  | .hbm, ⟨29, _⟩ => ⟨S1x32x1024, .f32⟩
  | .hbm, ⟨30, _⟩ => ⟨S32x1x1024, .f32⟩
  | _, _ => ⟨S1x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Join.lean ====
abbrev S32x1x1024 : Shape := ⟨3, ![32, 1, 1024]⟩
abbrev S1x32x512 : Shape := ⟨3, ![1, 32, 512]⟩
abbrev S1x32x1024 : Shape := ⟨3, ![1, 32, 1024]⟩
abbrev S1x512 : Shape := ⟨2, ![1, 512]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S1024x1024 : Shape := ⟨2, ![1024, 1024]⟩
abbrev S1024x32 : Shape := ⟨2, ![1024, 32]⟩
abbrev S_ : Shape := ⟨0, ![]⟩
abbrev S1024x128 : Shape := ⟨2, ![1024, 128]⟩
abbrev S32 : Shape := ⟨1, ![32]⟩
abbrev S128 : Shape := ⟨1, ![128]⟩
abbrev S1x128 : Shape := ⟨2, ![1, 128]⟩
abbrev S512 : Shape := ⟨1, ![512]⟩
abbrev S1024 : Shape := ⟨1, ![1024]⟩
abbrev S1x32x128 : Shape := ⟨3, ![1, 32, 128]⟩
abbrev S32x512 : Shape := ⟨2, ![32, 512]⟩
abbrev S32x1 : Shape := ⟨2, ![32, 1]⟩
abbrev S512x1024 : Shape := ⟨2, ![512, 1024]⟩
abbrev S32x1024 : Shape := ⟨2, ![32, 1024]⟩
abbrev S32x128 : Shape := ⟨2, ![32, 128]⟩

abbrev nBuf : Space → Nat
  | .hbm => 31
  | .vmem => 15
  | .smem => 0
  | _ => 0

abbrev bufTy : (tb : Table) → Fin (tcTables nBuf tb) → BufTy
  | .hbm, ⟨0, _⟩ => ⟨S32x1x1024, .f32⟩
  | .hbm, ⟨1, _⟩ => ⟨S1x32x512, .bf16⟩
  | .hbm, ⟨2, _⟩ => ⟨S1x32x512, .f32⟩
  | .hbm, ⟨3, _⟩ => ⟨S1x32x1024, .f32⟩
  | .hbm, ⟨4, _⟩ => ⟨S1x32x1024, .f32⟩
  | .hbm, ⟨5, _⟩ => ⟨S1x32x1024, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x32, .f32⟩
  | .hbm, ⟨10, _⟩ => ⟨S1x32, .f32⟩
  | .hbm, ⟨11, _⟩ => ⟨S1024x1024, .f32⟩
  | .hbm, ⟨12, _⟩ => ⟨S1024x1024, .bf16⟩
  | .hbm, ⟨13, _⟩ => ⟨S1024x32, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S32, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S1x32x1024, .f32⟩
  | .hbm, ⟨23, _⟩ => ⟨S512, .f32⟩
  | .hbm, ⟨24, _⟩ => ⟨S1024, .f32⟩
  | .hbm, ⟨25, _⟩ => ⟨S1x512, .f32⟩
  | .hbm, ⟨26, _⟩ => ⟨S1x1024, .f32⟩
  | .hbm, ⟨27, _⟩ => ⟨S1x32x1024, .f32⟩
  | .hbm, ⟨28, _⟩ => ⟨S1x32x1024, .f32⟩
  | .hbm, ⟨29, _⟩ => ⟨S1x32x128, .i32⟩
  | .hbm, ⟨30, _⟩ => ⟨S1x32x128, .f32⟩
  | .local _ .vmem, ⟨0, _⟩ => ⟨S1x32x1024, .f32⟩
  | .local _ .vmem, ⟨1, _⟩ => ⟨S1x32x512, .bf16⟩
  | .local _ .vmem, ⟨2, _⟩ => ⟨S1x32x512, .f32⟩
  | .local _ .vmem, ⟨3, _⟩ => ⟨S1x512, .f32⟩
  | .local _ .vmem, ⟨4, _⟩ => ⟨S1024x1024, .bf16⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x1024, .f32⟩
  | .local _ .vmem, ⟨9, _⟩ => ⟨S1024x128, .f32⟩
  | .local _ .vmem, ⟨10, _⟩ => ⟨S1x128, .f32⟩
  | .local _ .vmem, ⟨11, _⟩ => ⟨S1x32x1024, .f32⟩
  | .local _ .vmem, ⟨12, _⟩ => ⟨S1x32x1024, .f32⟩
  | .local _ .vmem, ⟨13, _⟩ => ⟨S1x32x128, .i32⟩
  | .local _ .vmem, ⟨14, _⟩ => ⟨S1x32x128, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev main_v12_3 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x32x128 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x32x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]
-- ==== JoinRefIdeal.lean ====
abbrev S32x1x1024 : Shape := ⟨3, ![32, 1, 1024]⟩
abbrev S1x32x512 : Shape := ⟨3, ![1, 32, 512]⟩
abbrev S1x32x1024 : Shape := ⟨3, ![1, 32, 1024]⟩
abbrev S1x512 : Shape := ⟨2, ![1, 512]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S512 : Shape := ⟨1, ![512]⟩
abbrev S_ : Shape := ⟨0, ![]⟩
abbrev S1x32x1 : Shape := ⟨3, ![1, 32, 1]⟩
abbrev S1x1x512 : Shape := ⟨3, ![1, 1, 512]⟩
abbrev S1024x1024 : Shape := ⟨2, ![1024, 1024]⟩
abbrev S1024 : Shape := ⟨1, ![1024]⟩
abbrev S1x1x1024 : Shape := ⟨3, ![1, 1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x32x512, .bf16⟩
  | .hbm, ⟨2, _⟩ => ⟨S1x32x512, .f32⟩
  | .hbm, ⟨3, _⟩ => ⟨S1x32x1024, .f32⟩
  | .hbm, ⟨4, _⟩ => ⟨S1x32x1024, .f32⟩
  | .hbm, ⟨5, _⟩ => ⟨S1x32x1024, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x32, .f32⟩
  | .hbm, ⟨10, _⟩ => ⟨S1x32, .f32⟩
  | .hbm, ⟨11, _⟩ => ⟨S1x32x512, .f32⟩
  | .hbm, ⟨12, _⟩ => ⟨S512, .f32⟩
  | .hbm, ⟨13, _⟩ => ⟨S1x32x512, .f32⟩
  | .hbm, ⟨14, _⟩ => ⟨S_, .f32⟩
  | .hbm, ⟨15, _⟩ => ⟨S1x32, .f32⟩
  | .hbm, ⟨16, _⟩ => ⟨S1x32x1, .f32⟩
  | .hbm, ⟨17, _⟩ => ⟨S_, .f32⟩
  | .hbm, ⟨18, _⟩ => ⟨S1x32x1, .f32⟩
  | .hbm, ⟨19, _⟩ => ⟨S1x32x1, .f32⟩
  | .hbm, ⟨20, _⟩ => ⟨S_, .f32⟩
  | .hbm, ⟨21, _⟩ => ⟨S1x32x1, .f32⟩
  | .hbm, ⟨22, _⟩ => ⟨S1x32x1, .f32⟩
  | .hbm, ⟨23, _⟩ => ⟨S1x32x1, .f32⟩
  | .hbm, ⟨24, _⟩ => ⟨S1x32x512, .f32⟩
  | .hbm, ⟨25, _⟩ => ⟨S1x32x512, .f32⟩
  | .hbm, ⟨26, _⟩ => ⟨S1x1x512, .f32⟩
  | .hbm, ⟨27, _⟩ => ⟨S1x32x512, .f32⟩
  | .hbm, ⟨28, _⟩ => ⟨S1x32x512, .f32⟩
  | .hbm, ⟨29, _⟩ => ⟨S1x32x1024, .f32⟩
  | .hbm, ⟨30, _⟩ => ⟨S1x32x1024, .f32⟩
  | .hbm, ⟨31, _⟩ => ⟨S1024x1024, .f32⟩
  | .hbm, ⟨32, _⟩ => ⟨S1x32x1024, .f32⟩
  | .hbm, ⟨33, _⟩ => ⟨S1x32x1024, .f32⟩
  | .hbm, ⟨34, _⟩ => ⟨S1x32x1024, .f32⟩
  | .hbm, ⟨35, _⟩ => ⟨S1024, .f32⟩
  | .hbm, ⟨36, _⟩ => ⟨S1x32x1024, .f32⟩
  | .hbm, ⟨37, _⟩ => ⟨S_, .f32⟩
  | .hbm, ⟨38, _⟩ => ⟨S1x32, .f32⟩
  | .hbm, ⟨39, _⟩ => ⟨S1x32x1, .f32⟩
  | .hbm, ⟨40, _⟩ => ⟨S_, .f32⟩
  | .hbm, ⟨41, _⟩ => ⟨S1x32x1, .f32⟩
  | .hbm, ⟨42, _⟩ => ⟨S1x32x1, .f32⟩
  | .hbm, ⟨43, _⟩ => ⟨S_, .f32⟩
  | .hbm, ⟨44, _⟩ => ⟨S1x32x1, .f32⟩
  | .hbm, ⟨45, _⟩ => ⟨S1x32x1, .f32⟩
  | .hbm, ⟨46, _⟩ => ⟨S1x32x1, .f32⟩
  | .hbm, ⟨47, _⟩ => ⟨S1x32x1024, .f32⟩
  | .hbm, ⟨48, _⟩ => ⟨S1x32x1024, .f32⟩
  | .hbm, ⟨49, _⟩ => ⟨S1x1x1024, .f32⟩
  | .hbm, ⟨50, _⟩ => ⟨S1x32x1024, .f32⟩
  | .hbm, ⟨51, _⟩ => ⟨S1x32x1024, .f32⟩
  | .hbm, ⟨52, _⟩ => ⟨S_, .f32⟩
  | .hbm, ⟨53, _⟩ => ⟨S1x32x1024, .f32⟩
  | .hbm, ⟨54, _⟩ => ⟨S1x32x1024, .f32⟩
  | .hbm, ⟨55, _⟩ => ⟨S1x32x1024, .f32⟩
  | .hbm, ⟨56, _⟩ => ⟨S1x32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Proof.MoeKit.lean ====
/-
  The expert pass as the pipeline sees it: the arrays when the region is entered, the two prefetched tables (the
  expert of each row block, and how many row blocks are in use), the words the body reads from them, and the
  staging buffers and scratch the body is handed.
-/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Pipeline.Value
public import Idealize.ShloMosaic.Lib.WholeRead
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Up to the region -/

/-- A core's buffers when the region is entered: after the two bias reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region is the two reshapes, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The reshapes write their own two buffers only. -/
theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The tables -/

/-- The tables' contents when the region is entered. -/
def tbl : pre0.Contents (Elt F) := fun j => V m (0 : Dev nD) (pre0.ref j)
/-- There is one device, so they are every device's. -/
theorem V_pre (c : Dev nD) (j : Fin 2) : V m c (pre0.ref j) = tbl m j := by
  obtain rfl : c = 0 := Subsingleton.elim _ _; rfl
/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as the body is handed them. -/
abbrev tb0 : Memref sig .tc .smem S289 .i32 := Memref.whole main_arg0
abbrev htb0 : tb0.IsWhole := Memref.isWhole_whole _
abbrev tb1 : Memref sig .tc .smem S1 .i32 := Memref.whole main_arg1
abbrev htb1 : tb1.IsWhole := Memref.isWhole_whole _

abbrev TbBuf (c : Dev nD) {S : Shape} {e : EltTy} (M : Memref sig .tc .smem S e) : Type := Buf (Elt F) (M.view.loc (c : Thread nD τ))
/-- A table held at half its share: the pipeline keeps the other half. -/
abbrev tbPt (c : Dev nD) {S : Shape} {e : EltTy} (M : Memref sig .tc .smem S e) (f : TbBuf (F := F) c M) : sProp 𝕄 :=
  M.view.loc (c : Thread nD τ) ↦{fullShare.right} f

/-- The tables' halves the region hands the body, one by one. -/
theorem PhiT_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The word of the first table the body reads at a point: its own block's expert. -/
abbrev hereW {c : Dev nD} (x : TbBuf (F := F) c tb0) (i : grid0.Coords) : BitVec 32 :=
  tb0.view.readAt (Elt F) (Rect.unit (s := S289) (k0_off1 i) S1.size (k0_off1_inb i)).toLoadRect x (Shape.Idx.first (numel1_S1.symm ▸ Nat.one_pos))
/-- The word before it (the first word again at the first point): the previous block's expert. -/
abbrev prevW {c : Dev nD} (x : TbBuf (F := F) c tb0) (i : grid0.Coords) : BitVec 32 :=
  tb0.view.readAt (Elt F) (Rect.unit (s := S289) (k0_off2 i) S1.size (k0_off2_inb i)).toLoadRect x (Shape.Idx.first (numel1_S1.symm ▸ Nat.one_pos))
/-- The second table's word: the number of row blocks in use. -/
abbrev usedW {c : Dev nD} (x : TbBuf (F := F) c tb1) : BitVec 32 :=
  tb1.view.readAt (Elt F) (Rect.unit (s := S1) ![0] S1.size inb_S1_S1_0).toLoadRect x (Shape.Idx.first (numel1_S1.symm ▸ Nat.one_pos))

/-- The weights are loaded anew at this point: the first point or another expert than at the point before, and
    the row block in use. -/
abbrev condLoad (i : grid0.Coords) (p h u : BitVec 32) : Prop :=
  (Scalar.cmpi .ne (Scalar.extui (Scalar.andi (Scalar.ori (Scalar.cmpi .eq (BitVec.ofNat 32 (i 0).val) 0#32) (Scalar.cmpi .ne h p)) (Scalar.cmpi .slt (BitVec.ofNat 32 (i 0).val) u))) 0#32) = 1#1

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every point, for proof data whose array is the region's and
    whose body leaves the block in place. -/
theorem before_of (hO : Ok m) {c : Dev nD} (dat : Dat τ (Elt F) Unit ℕ (UR sig nD τ) ℕ (cfgM m hO) c) (w : Fin 6) (hw : w ≠ 5)
    (hA : dat.A w = V m c (Pipeline.arrRef spec0 w))
    (hafter : ∀ t, dat.after w t = iblk m hO c w t) (t : Fin (cfgM m hO).N) (d) : dat.before w t d = iblk m hO c w t := by
  fin_cases w
  case «5» => exact absurd rfl hw
  all_goals
    exact (dat.before_in_eq_fetched _ rfl (fun _ => rfl) (fun _ _ _ => rfl) (fun t => by rw [hafter]; unfold Dat.blockOf iblk; rw [hA]; try rfl) t d).trans
      (by unfold Dat.fetched Dat.blockOf iblk; rw [hA]; try rfl)

/-! ## The staging buffers and the scratch -/

abbrev ms0 (hO : Ok m) (t : Fin (cfgM m hO).N) : Memref sig .tc .vmem S512x1024 .f32 := spec0_0.stage ((cfgM m hO).slots t 0)
abbrev ms1 (hO : Ok m) (t : Fin (cfgM m hO).N) : Memref sig .tc .vmem S1x1024x2048 .f32 := spec0_1.stage ((cfgM m hO).slots t 1)
abbrev ms2 (hO : Ok m) (t : Fin (cfgM m hO).N) : Memref sig .tc .vmem S1x1x2048 .f32 := spec0_2.stage ((cfgM m hO).slots t 2)
abbrev ms3 (hO : Ok m) (t : Fin (cfgM m hO).N) : Memref sig .tc .vmem S1x1024x1024 .f32 := spec0_3.stage ((cfgM m hO).slots t 3)
abbrev ms4 (hO : Ok m) (t : Fin (cfgM m hO).N) : Memref sig .tc .vmem S1x1x1024 .f32 := spec0_4.stage ((cfgM m hO).slots t 4)
abbrev ms5 (hO : Ok m) (t : Fin (cfgM m hO).N) : Memref sig .tc .vmem S512x1024 .f32 := spec0_5.stage ((cfgM m hO).slots t 5)

/-- The scratch: the current expert's two weight matrices. -/
abbrev sc0 : Memref sig .tc .vmem S1024x2048 .bf16 := Memref.whole cc0_scratch0
abbrev hsc0 : sc0.IsWhole := Memref.isWhole_whole _
abbrev sc1 : Memref sig .tc .vmem S1024x1024 .bf16 := Memref.whole cc0_scratch1
abbrev hsc1 : sc1.IsWhole := Memref.isWhole_whole _

/-- The region's scoped rest is the scratch, at some contents, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The body as the pipeline calls it at point `t`. -/
abbrev bodyAt (hO : Ok m) (t : Fin (cfgM m hO).N) : Prog (TpuEff nD τ sig (Elt F) Λ₀ .tc) PUnit :=
  cc0_moe_experts (grid0.coords t) tb0 htb0 tb1 htb1
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4)) (ms5 m hO t) (hstage0_5 (((cfgM m hO).slots t 5).cast nbuf0_5))
    sc0 hsc0 sc1 hsc1

/-- The body table's row at point `t`'s slots. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

end Cert.KernelIdeal.Gen

end
-- ==== Proof.MoeRun.lean ====
/-
  The expert body on any staging buffers, in its three cases: the row block in use and its expert's weights loaded
  anew, the row block in use and the weights kept from the point before, the row block not in use.
-/
module

public import proofs.«01_k».proof.Proof.MoeKit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body leaves in the output block and the two scratch buffers: the case's result as a triple over what the
    buffers held before (`o`, `s`, `r`) and after (`o'`, `s'`, `r'`). -/
abbrev RunSpec (c : Dev nD) (i : grid0.Coords) (x0 : Vec F S512x1024 .f32) (x1 : Vec F S1x1024x2048 .f32) (x2 : Vec F S1x1x2048 .f32)
    (x3 : Vec F S1x1024x1024 .f32) (x4 : Vec F S1x1x1024 .f32) (t0 : TbBuf (F := F) c tb0) (t1 : TbBuf (F := F) c tb1)
    (s : Vec F S1024x2048 .bf16) (r : Vec F S1024x1024 .bf16)
    (o' : Vec F S512x1024 .f32) (s' : Vec F S1024x2048 .bf16) (r' : Vec F S1024x1024 .bf16) : Prop :=
  ∀ (a3 : Memref sig .tc .vmem S512x1024 .f32) (h3 : a3.IsWhole) (a4 : Memref sig .tc .vmem S1x1024x2048 .f32) (h4 : a4.IsWhole)
    (a5 : Memref sig .tc .vmem S1x1x2048 .f32) (h5 : a5.IsWhole) (a6 : Memref sig .tc .vmem S1x1024x1024 .f32) (h6 : a6.IsWhole)
    (a7 : Memref sig .tc .vmem S1x1x1024 .f32) (h7 : a7.IsWhole) (a8 : Memref sig .tc .vmem S512x1024 .f32) (h8 : a8.IsWhole)
    (a9 : Memref sig .tc .vmem S1024x2048 .bf16) (h9 : a9.IsWhole) (a10 : Memref sig .tc .vmem S1024x1024 .bf16) (h10 : a10.IsWhole)
    (E : Set ℕ) (K : PUnit → sProp 𝕄),
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ (∃ d, owns (c : Thread nD τ) a8 fullShare d)
        ∗ owns (c : Thread nD τ) a9 fullShare s ∗ owns (c : Thread nD τ) a10 fullShare r ∗ tbPt c tb0 t0 ∗ tbPt c tb1 t1
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ owns (c : Thread nD τ) a8 fullShare o'
            ∗ owns (c : Thread nD τ) a9 fullShare s' ∗ owns (c : Thread nD τ) a10 fullShare r' ∗ tbPt c tb0 t0 ∗ tbPt c tb1 t1) -∗ K ⟨⟩))
      ⊢ wp frame (wpE (defs₀ (F := F)) Variants.none c none) E
          (cc0_moe_experts i tb0 htb0 tb1 htb1 a3 h3 a4 h4 a5 h5 a6 h6 a7 h7 a8 h8 a9 h9 a10 h10) K

/-- One store over a whole buffer leaves what was stored. -/
theorem read_stored {sp : Space} {S : Shape} {e : EltTy} (v : View sig .tc sp S e) (f : v.ty.Contents (Elt F)) {off : Fin S.rank → Nat}
    (h : off = fun _ => 0) (inb : ∀ a, off a + S.size a ≤ S.size a) (w : S.Idx → Elt F e) :
    View.read (Elt F) v (v.writes (Elt F) f [⟨Rect.unit off S.size inb, w⟩]) = w :=
  (View.read_writes_eq_canon _ _ _ fun y => ⟨_, List.mem_singleton_self _, View.mem_set_unit_zero h inb y⟩).trans (View.canon_unit_zero h inb w)

/-- A load of a whole buffer reads what the buffer holds. -/
theorem readAt_held {sp : Space} {S : Shape} {e : EltTy} {a : Memref sig .tc sp S e} (ha : a.IsWhole) {off : Fin S.rank → Nat}
    (h : off = fun _ => 0) (inb : ∀ a, off a + S.size a ≤ S.size a) (X : S.Idx → Elt F e) :
    View.readAt (Elt F) a.view (Rect.unit off S.size inb).toLoadRect (ha.unread X) = X :=
  (funext fun x => ha.readAt_unread X _ x).trans (View.ld_unit_zero h inb X)

theorem zero2 : (![0, 0] : Fin 2 → Nat) = fun _ => 0 := by decide
theorem zero3 : (![0, 0, 0] : Fin 3 → Nat) = fun _ => 0 := by decide

variable (c : Dev nD) (i : grid0.Coords) (x0 : Vec F S512x1024 .f32) (x1 : Vec F S1x1024x2048 .f32) (x2 : Vec F S1x1x2048 .f32)
    (x3 : Vec F S1x1024x1024 .f32) (x4 : Vec F S1x1x1024 .f32) (t0 : TbBuf (F := F) c tb0) (t1 : TbBuf (F := F) c tb1)
    (s : Vec F S1024x2048 .bf16) (r : Vec F S1024x1024 .bf16)

set_option maxHeartbeats 1000000 in
/-- The row block not in use: zeros, the scratch untouched. -/
theorem run_unused (hc0 : ¬ condLoad i (prevW t0 i) (hereW t0 i) (usedW t1)) (hc2 : ¬ k0_cond2 i (usedW t1) = 1#1) (hc3 : k0_cond3 i (usedW t1) = 1#1) :
    RunSpec c i x0 x1 x2 x3 x4 t0 t1 s r k0_pay3 s r := by
  intro a3 h3 a4 h4 a5 h5 a6 h6 a7 h7 a8 h8 a9 h9 a10 h10 E K
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hs, HS⟩, ⟨%fr, %hr, HR⟩, HT0, HT1, Hk⟩
  obtain rfl := h3.eq_unread hf0; obtain rfl := h4.eq_unread hf1; obtain rfl := h5.eq_unread hf2; obtain rfl := h6.eq_unread hf3
  obtain rfl := h7.eq_unread hf4; obtain rfl := h9.eq_unread hs; obtain rfl := h10.eq_unread hr
  sl_exec (disch := first | sl_exact hc0 | sl_exact hc2 | sl_exact hc3)
  sl_step
  iapply Hk
  isplitl [H0]; · iexists _; isplitr; · ipureintro; exact h3.read_unread _
                  iexact H0
  isplitl [H1]; · iexists _; isplitr; · ipureintro; exact h4.read_unread _
                  iexact H1
  isplitl [H2]; · iexists _; isplitr; · ipureintro; exact h5.read_unread _
                  iexact H2
  isplitl [H3]; · iexists _; isplitr; · ipureintro; exact h6.read_unread _
                  iexact H3
  isplitl [H4]; · iexists _; isplitr; · ipureintro; exact h7.read_unread _
                  iexact H4
  isplitl [H5]
  · iexists _; isplitr; swap; · iexact H5
    ipureintro
    exact read_stored _ _ zero2 _ _
  isplitl [HS]
  · iexists _; isplitr; swap; · iexact HS
    ipureintro
    exact h9.read_unread _
  isplitl [HR]
  · iexists _; isplitr; swap; · iexact HR
    ipureintro
    exact h10.read_unread _
  isplitl [HT0]; · iexact HT0
  iexact HT1

set_option maxHeartbeats 1000000 in
/-- The row block in use, its expert's weights loaded anew. -/
theorem run_load (hc0 : condLoad i (prevW t0 i) (hereW t0 i) (usedW t1)) (hc2 : k0_cond2 i (usedW t1) = 1#1) (hc3 : ¬ k0_cond3 i (usedW t1) = 1#1) :
    RunSpec c i x0 x1 x2 x3 x4 t0 t1 s r (k0_pay4 x0 (k0_pay1 x1) x2 (k0_pay2 x3) x4) (k0_pay1 x1) (k0_pay2 x3) := by
  intro a3 h3 a4 h4 a5 h5 a6 h6 a7 h7 a8 h8 a9 h9 a10 h10 E K
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hs, HS⟩, ⟨%fr, %hr, HR⟩, HT0, HT1, Hk⟩
  obtain rfl := h3.eq_unread hf0; obtain rfl := h4.eq_unread hf1; obtain rfl := h5.eq_unread hf2; obtain rfl := h6.eq_unread hf3
  obtain rfl := h7.eq_unread hf4; obtain rfl := h9.eq_unread hs; obtain rfl := h10.eq_unread hr
  sl_exec (disch := first | sl_exact hc0 | sl_exact hc2 | sl_exact hc3)
  sl_step
  iapply Hk
  isplitl [H0]; · iexists _; isplitr; · ipureintro; exact h3.read_unread _
                  iexact H0
  isplitl [H1]; · iexists _; isplitr; · ipureintro; exact h4.read_unread _
                  iexact H1
  isplitl [H2]; · iexists _; isplitr; · ipureintro; exact h5.read_unread _
                  iexact H2
  isplitl [H3]; · iexists _; isplitr; · ipureintro; exact h6.read_unread _
                  iexact H3
  isplitl [H4]; · iexists _; isplitr; · ipureintro; exact h7.read_unread _
                  iexact H4
  isplitl [H5]
  · iexists _; isplitr; swap; · iexact H5
    ipureintro
    refine (read_stored _ _ zero2 _ _).trans ?_
    unfold run_load.sl.r_3 run_load.sl.v24 run_load.sl.v52
    rw [readAt_held h3 zero2, readAt_held h5 zero3, readAt_held h7 zero3]
    refine congrArg₂ (fun a b => k0_pay4 x0 a x2 b x4) ?_ ?_
    · unfold run_load.sl.HS_1
      rw [readAt_held h4 zero3]
      exact View.readCov_unit_zero _ zero2 _ _
    · unfold run_load.sl.HR_1
      rw [readAt_held h6 zero3]
      exact View.readCov_unit_zero _ zero2 _ _
  isplitl [HS]
  · iexists _; isplitr; swap; · iexact HS
    ipureintro
    refine (read_stored _ _ zero2 _ _).trans ?_
    rw [readAt_held h4 zero3]
  isplitl [HR]
  · iexists _; isplitr; swap; · iexact HR
    ipureintro
    refine (read_stored _ _ zero2 _ _).trans ?_
    rw [readAt_held h6 zero3]
  isplitl [HT0]; · iexact HT0
  iexact HT1

set_option maxHeartbeats 1000000 in
/-- The row block in use, its expert's weights kept from the point before. -/
theorem run_keep (hc0 : ¬ condLoad i (prevW t0 i) (hereW t0 i) (usedW t1)) (hc2 : k0_cond2 i (usedW t1) = 1#1) (hc3 : ¬ k0_cond3 i (usedW t1) = 1#1) :
    RunSpec c i x0 x1 x2 x3 x4 t0 t1 s r (k0_pay4 x0 s x2 r x4) s r := by
  intro a3 h3 a4 h4 a5 h5 a6 h6 a7 h7 a8 h8 a9 h9 a10 h10 E K
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hs, HS⟩, ⟨%fr, %hr, HR⟩, HT0, HT1, Hk⟩
  obtain rfl := h3.eq_unread hf0; obtain rfl := h4.eq_unread hf1; obtain rfl := h5.eq_unread hf2; obtain rfl := h6.eq_unread hf3
  obtain rfl := h7.eq_unread hf4; obtain rfl := h9.eq_unread hs; obtain rfl := h10.eq_unread hr
  sl_exec (disch := first | sl_exact hc0 | sl_exact hc2 | sl_exact hc3)
  sl_step
  iapply Hk
  isplitl [H0]; · iexists _; isplitr; · ipureintro; exact h3.read_unread _
                  iexact H0
  isplitl [H1]; · iexists _; isplitr; · ipureintro; exact h4.read_unread _
                  iexact H1
  isplitl [H2]; · iexists _; isplitr; · ipureintro; exact h5.read_unread _
                  iexact H2
  isplitl [H3]; · iexists _; isplitr; · ipureintro; exact h6.read_unread _
                  iexact H3
  isplitl [H4]; · iexists _; isplitr; · ipureintro; exact h7.read_unread _
                  iexact H4
  isplitl [H5]
  · iexists _; isplitr; swap; · iexact H5
    ipureintro
    refine (read_stored _ _ zero2 _ _).trans ?_
    unfold run_keep.sl.r_3
    rw [readAt_held h3 zero2, readAt_held h5 zero3, readAt_held h7 zero3, readAt_held h9 zero2, readAt_held h10 zero2]
  isplitl [HS]
  · iexists _; isplitr; swap; · iexact HS
    ipureintro
    exact h9.read_unread _
  isplitl [HR]
  · iexists _; isplitr; swap; · iexact HR
    ipureintro
    exact h10.read_unread _
  isplitl [HT0]; · iexact HT0
  iexact HT1

end Cert.KernelIdeal.Gen

end
-- ==== Proof.MoeFrame.lean ====
/-
  The expert pass's run: what each row block's result is, that the scratch carries the current expert's weights
  from point to point, and the launch.
-/
module

public import proofs.«01_k».proof.Proof.MoeRun
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordCmp
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words -/

/-- Row block `n` is in use. -/
def InUse (n : Nat) (u : BitVec 32) : Prop := (n : Int) < u.toInt
instance (n : Nat) (u : BitVec 32) : Decidable (InUse n u) := inferInstanceAs (Decidable ((n : Int) < u.toInt))

theorem coords_val : ∀ t : Fin grid0.N, (grid0.coords t 0).val = t.val := by decide +kernel

/-- Widening a bit and comparing the word with zero gives the bit. -/
theorem ne_extui (b : BitVec 1) : Scalar.cmpi .ne (Scalar.extui b : BitVec 32) 0#32 = b := by revert b; decide

theorem toInt_point (i : grid0.Coords) : (BitVec.ofNat 32 (i 0).val).toInt = (i 0).val := by
  have h : (i 0).val < 289 := (i 0).isLt
  rw [toInt_eq_toNat_of_lt_half (by rw [BitVec.toNat_ofNat]; omega), BitVec.toNat_ofNat]; omega

theorem cond2_iff (i : grid0.Coords) (u : BitVec 32) : k0_cond2 i u = 1#1 ↔ InUse (i 0).val u := by
  unfold k0_cond2 InUse
  dsimp only
  rw [ne_extui]
  simp only [Scalar.cmpi, cmpi_slt_eq, ofBool_eq_one_iff, decide_eq_true_eq, toInt_point]

theorem cond3_iff (i : grid0.Coords) (u : BitVec 32) : k0_cond3 i u = 1#1 ↔ ¬ InUse (i 0).val u := by
  unfold k0_cond3 InUse
  dsimp only
  rw [ne_extui]
  simp only [Scalar.cmpi, cmpi_sge_eq, ofBool_eq_one_iff, decide_eq_true_eq, toInt_point]
  omega

theorem condLoad_iff (i : grid0.Coords) (p h u : BitVec 32) :
    condLoad i p h u ↔ ((i 0).val = 0 ∨ h ≠ p) ∧ InUse (i 0).val u := by
  have hi : (i 0).val < 289 := (i 0).isLt
  have hz : BitVec.ofNat 32 (i 0).val = 0#32 ↔ (i 0).val = 0 := by
    rw [← BitVec.toNat_inj, BitVec.toNat_ofNat, BitVec.toNat_ofNat]; omega
  have key : ∀ a b d : BitVec 1, Scalar.andi (Scalar.ori a b) d = 1#1 ↔ (a = 1#1 ∨ b = 1#1) ∧ d = 1#1 := by decide
  unfold condLoad InUse
  rw [ne_extui]
  refine (key _ _ _).trans ?_
  simp only [Scalar.cmpi, cmpi_slt_eq, cmpi_eq_eq, cmpi_ne_eq, ofBool_eq_one_iff, decide_eq_true_eq, toInt_point, hz]

/-- The offsets the two words are read at: the point's number, and the one before it. -/
theorem off1_eq : ∀ t : Fin grid0.N, k0_off1 (grid0.coords t) = ![t.val] := by decide +kernel
theorem off2_eq : ∀ t : Fin grid0.N, k0_off2 (grid0.coords t) = ![t.val - 1] := by decide +kernel

/-- The previous block's word is the word the point before read. -/
theorem prevW_eq {c : Dev nD} (x : TbBuf (F := F) c tb0) (t' t : Fin grid0.N) (h : t'.val + 1 = t.val) :
    prevW x (grid0.coords t) = hereW x (grid0.coords t') := by
  unfold prevW hereW
  rw [View.readAt_unit_congr tb0.view (show k0_off2 (grid0.coords t) = k0_off1 (grid0.coords t') by
    rw [off1_eq, off2_eq, ← h]; rfl)]

/-! ## The blocks at equal words -/

/-- Two points of one expert are handed the same weights. -/
theorem iblk1_congr (hO : Ok m) (c : Dev nD) (t t' : Fin grid0.N)
    (h : hereW (c := c) (tbl m 0) (grid0.coords t) = hereW (c := c) (tbl m 0) (grid0.coords t')) :
    (iblk m hO c 1 t : Vec F S1x1024x2048 .f32) = iblk m hO c 1 t' := by
  have e : cc0_transform_1 k0_off1_inb numel1_S1 (tbl m) (grid0.coords t) = cc0_transform_1 k0_off1_inb numel1_S1 (tbl m) (grid0.coords t') :=
    congrArg (fun w : BitVec 32 => ![w.toNat, 0, 0]) h
  have key : ∀ (ix ix' : Fin 3 → Nat) (e : ix = ix') (hb : ∀ a, (ix a + 1) * S1x1024x2048.size a ≤ S32x1024x2048.size a) (hb' : ∀ a, (ix' a + 1) * S1x1024x2048.size a ≤ S32x1024x2048.size a),
      (Memref.whole main_arg3 : Memref sig .tc _ S32x1024x2048 .f32).view.readAt (Elt F) (Rect.block (s := S32x1024x2048) S1x1024x2048.size ix hb).toLoadRect (V m c main_arg3)
        = (Memref.whole main_arg3 : Memref sig .tc _ S32x1024x2048 .f32).view.readAt (Elt F) (Rect.block (s := S32x1024x2048) S1x1024x2048.size ix' hb').toLoadRect (V m c main_arg3) := by
    rintro ix _ rfl _ _; rfl
  exact key _ _ e ((hinb0 (tbl m) hO 1 (grid0.coords t))) ((hinb0 (tbl m) hO 1 (grid0.coords t')))

theorem iblk3_congr (hO : Ok m) (c : Dev nD) (t t' : Fin grid0.N)
    (h : hereW (c := c) (tbl m 0) (grid0.coords t) = hereW (c := c) (tbl m 0) (grid0.coords t')) :
    (iblk m hO c 3 t : Vec F S1x1024x1024 .f32) = iblk m hO c 3 t' := by
  have e : cc0_transform_3 k0_off1_inb numel1_S1 (tbl m) (grid0.coords t) = cc0_transform_3 k0_off1_inb numel1_S1 (tbl m) (grid0.coords t') :=
    congrArg (fun w : BitVec 32 => ![w.toNat, 0, 0]) h
  have key : ∀ (ix ix' : Fin 3 → Nat) (e : ix = ix') (hb : ∀ a, (ix a + 1) * S1x1024x1024.size a ≤ S32x1024x1024.size a) (hb' : ∀ a, (ix' a + 1) * S1x1024x1024.size a ≤ S32x1024x1024.size a),
      (Memref.whole main_arg5 : Memref sig .tc _ S32x1024x1024 .f32).view.readAt (Elt F) (Rect.block (s := S32x1024x1024) S1x1024x1024.size ix hb).toLoadRect (V m c main_arg5)
        = (Memref.whole main_arg5 : Memref sig .tc _ S32x1024x1024 .f32).view.readAt (Elt F) (Rect.block (s := S32x1024x1024) S1x1024x1024.size ix' hb').toLoadRect (V m c main_arg5) := by
    rintro ix _ rfl _ _; rfl
  exact key _ _ e ((hinb0 (tbl m) hO 3 (grid0.coords t))) ((hinb0 (tbl m) hO 3 (grid0.coords t')))

/-- One of the two stores of the output block runs at every point: its window is idle at none. -/
theorem stored_some (i : grid0.Coords) (u : BitVec 32) : (!(k0_cond2 i u == 1#1) && !(k0_cond3 i u == 1#1)) = false := by
  by_cases h : InUse (i 0).val u
  · rw [(cond2_iff _ u).mpr h]; rfl
  · rw [(cond3_iff _ u).mpr h, Bool.and_comm]; rfl

theorem idle0_false (pf : pre0.Contents (Elt F)) (i : grid0.Coords) : idle0 pf 5 i = false := stored_some i _

theorem idle_eq (a : (pcfg0 (F := F)).Adm) : (cfg0 a).idle = idle0 a.1 := rfl

theorem not_idle (hO : Ok m) (t : Fin (cfgM m hO).N) : (cfgM m hO).idle 5 ((cfgM m hO).grid.coords t) = false := by
  have h := congrFun (congrFun (idle_eq (adm m hO)) 5) (grid0.coords t)
  exact h.trans (idle0_false (tbl m) (grid0.coords t))

/-! ## The proof data -/

/-- What a row block's result is: the expert's block when the row block is in use, zeros otherwise. -/
def outBlk (hO : Ok m) (c : Dev nD) (t : Fin grid0.N) : Vec F S512x1024 .f32 :=
  if InUse t.val (usedW (c := c) (tbl m 1)) then
    k0_pay4 (iblk m hO c 0 t) (k0_pay1 (iblk m hO c 1 t)) (iblk m hO c 2 t) (k0_pay2 (iblk m hO c 3 t)) (iblk m hO c 4 t)
  else k0_pay3

/-- Before point `n` the scratch holds the weights of the row block before, when that one was in use. -/
def Carries (hO : Ok m) (c : Dev nD) (n : Nat) (s : Vec F S1024x2048 .bf16) (r : Vec F S1024x1024 .bf16) : Prop :=
  ∀ t : Fin grid0.N, t.val + 1 = n → InUse t.val (usedW (c := c) (tbl m 1)) → s = k0_pay1 (iblk m hO c 1 t) ∧ r = k0_pay2 (iblk m hO c 3 t)

/-- The invariant before point `n`: the scratch, the generator register, the tables' halves. -/
def Inv (hO : Ok m) (c : Dev nD) (n : Nat) : sProp 𝕄 :=
  iprop((∃ s r, ⌜Carries m hO c n s r⌝ ∗ owns (c : Thread nD τ) sc0 fullShare s ∗ owns (c : Thread nD τ) sc1 fullShare r)
    ∗ (∃ g, prngReg c g) ∗ tbPt c tb0 (tbl m 0) ∗ tbPt c tb1 (tbl m 1))

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outBlk m hO c t
  Φ t := Inv m hO c t.val
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = outBlk m hO c t := by dsimp only [dats]; try rfl

/-- An input's staging buffer holds its block at every point. -/
theorem before0 (hO : Ok m) (c : Dev nD) (t : Fin (cfgM m hO).N) (d) : (dats m hO 0 c).before 0 t d = iblk m hO c 0 t :=
  before_of m hO (dats m hO 0 c) 0 (by decide) (A_eq m hO c 0) (after0 m hO c) t d
theorem before1 (hO : Ok m) (c : Dev nD) (t : Fin (cfgM m hO).N) (d) : (dats m hO 0 c).before 1 t d = iblk m hO c 1 t :=
  before_of m hO (dats m hO 0 c) 1 (by decide) (A_eq m hO c 1) (after1 m hO c) t d
theorem before2 (hO : Ok m) (c : Dev nD) (t : Fin (cfgM m hO).N) (d) : (dats m hO 0 c).before 2 t d = iblk m hO c 2 t :=
  before_of m hO (dats m hO 0 c) 2 (by decide) (A_eq m hO c 2) (after2 m hO c) t d
theorem before3 (hO : Ok m) (c : Dev nD) (t : Fin (cfgM m hO).N) (d) : (dats m hO 0 c).before 3 t d = iblk m hO c 3 t :=
  before_of m hO (dats m hO 0 c) 3 (by decide) (A_eq m hO c 3) (after3 m hO c) t d
theorem before4 (hO : Ok m) (c : Dev nD) (t : Fin (cfgM m hO).N) (d) : (dats m hO 0 c).before 4 t d = iblk m hO c 4 t :=
  before_of m hO (dats m hO 0 c) 4 (by decide) (A_eq m hO c 4) (after4 m hO c) t d

theorem Phi_castSucc (hO : Ok m) (c : Dev nD) (t : Fin (cfgM m hO).N) : (dats m hO 0 c).Φ t.castSucc = Inv m hO c t.val := by
  dsimp only [dats]; exact Pipeline.Dat.Φ_castSucc (fun n _ => Inv m hO c n) t
theorem Phi_eq (hO : Ok m) (c : Dev nD) (n : Fin ((cfgM m hO).N + 1)) : (dats m hO 0 c).Φ n = Inv m hO c n.val := by
  dsimp only [dats]
theorem Phi_succ (hO : Ok m) (c : Dev nD) (t : Fin (cfgM m hO).N) : (dats m hO 0 c).Φ t.succ = Inv m hO c (t.val + 1) := by
  dsimp only [dats]; rfl

/-! ## The body at a point -/

/-- The three cases as one: from scratch contents that carry the weights, the body leaves the point's result and
    scratch contents that carry the weights to the next point. -/
theorem run_at (hO : Ok m) (c : Dev nD) (t : Fin grid0.N) (s : Vec F S1024x2048 .bf16) (r : Vec F S1024x1024 .bf16)
    (hs : Carries m hO c t.val s r) :
    ∃ s' r', Carries m hO c (t.val + 1) s' r' ∧
      RunSpec c (grid0.coords t) (iblk m hO c 0 t) (iblk m hO c 1 t) (iblk m hO c 2 t) (iblk m hO c 3 t) (iblk m hO c 4 t)
        (tbl m 0) (tbl m 1) s r (outBlk m hO c t) s' r' := by
  have ht := coords_val t
  by_cases hu : InUse t.val (usedW (c := c) (tbl m 1))
  · have hu' : InUse ((grid0.coords t) 0).val (usedW (c := c) (tbl m 1)) := by rw [ht]; exact hu
    have h2 := (cond2_iff (grid0.coords t) _).mpr hu'
    have h3 : ¬ k0_cond3 (grid0.coords t) (usedW (c := c) (tbl m 1)) = 1#1 := fun h => (cond3_iff _ _).mp h hu'
    have ho : outBlk m hO c t = k0_pay4 (iblk m hO c 0 t) (k0_pay1 (iblk m hO c 1 t)) (iblk m hO c 2 t) (k0_pay2 (iblk m hO c 3 t)) (iblk m hO c 4 t) := if_pos hu
    have hnext : Carries m hO c (t.val + 1) (k0_pay1 (iblk m hO c 1 t)) (k0_pay2 (iblk m hO c 3 t)) := by
      intro t' h' _
      obtain rfl : t' = t := Fin.ext (by omega)
      exact ⟨rfl, rfl⟩
    by_cases hl : condLoad (grid0.coords t) (prevW (c := c) (tbl m 0) (grid0.coords t)) (hereW (c := c) (tbl m 0) (grid0.coords t)) (usedW (c := c) (tbl m 1))
    · rw [ho]
      exact ⟨_, _, hnext, run_load c _ _ _ _ _ _ _ _ s r hl h2 h3⟩
    · have hk : ¬ ((t.val = 0 ∨ hereW (c := c) (tbl m 0) (grid0.coords t) ≠ prevW (c := c) (tbl m 0) (grid0.coords t)) ∧ _) :=
        ht ▸ fun h => hl ((condLoad_iff _ _ _ _).mpr h)
      have hpos : t.val ≠ 0 := fun h => hk ⟨.inl h, hu⟩
      have hsame : hereW (c := c) (tbl m 0) (grid0.coords t) = prevW (c := c) (tbl m 0) (grid0.coords t) :=
        by_contra fun h => hk ⟨.inr h, hu⟩
      have hlt := t.isLt
      let t' : Fin grid0.N := ⟨t.val - 1, by omega⟩
      have htt : t'.val + 1 = t.val := by show t.val - 1 + 1 = t.val; omega
      have hsame := hsame.trans (prevW_eq (c := c) (tbl m 0) t' t htt)
      obtain ⟨rfl, rfl⟩ := hs t' htt (by unfold InUse at hu ⊢; omega)
      rw [ho]
      rw [← iblk1_congr m hO c t t' hsame, ← iblk3_congr m hO c t t' hsame]
      exact ⟨_, _, hnext, run_keep c _ _ _ _ _ _ _ _ _ _ hl h2 h3⟩
  · have hu' : ¬ InUse ((grid0.coords t) 0).val (usedW (c := c) (tbl m 1)) := by rw [ht]; exact hu
    have h3 := (cond3_iff (grid0.coords t) _).mpr hu'
    have h2 : ¬ k0_cond2 (grid0.coords t) (usedW (c := c) (tbl m 1)) = 1#1 := fun h => hu' ((cond2_iff _ _).mp h)
    have hl : ¬ condLoad (grid0.coords t) (prevW (c := c) (tbl m 0) (grid0.coords t)) (hereW (c := c) (tbl m 0) (grid0.coords t)) (usedW (c := c) (tbl m 1)) :=
      fun h => hu' ((condLoad_iff _ _ _ _).mp h).2
    have ho : outBlk m hO c t = k0_pay3 := if_neg hu
    rw [ho]
    refine ⟨s, r, ?_, run_unused c _ _ _ _ _ _ _ _ s r hl h2 h3⟩
    intro t' h' hu''
    obtain rfl : t' = t := Fin.ext (by omega)
    exact absurd hu'' hu

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t))

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4]
  rw [show (dats m hO 0 c).owesAt () t.succ = (dats m hO 0 c).owesAt () t.castSucc from rfl,
    after0, after1, after2, after3, after4, after5, Phi_castSucc, Phi_succ]
  unfold Inv
  iintro ⟨⟨⟨%s, %r, %hs, HS, HR⟩, Hg, HT0, HT1⟩, Ho, ⟨%d0, H0⟩, ⟨%d1, H1⟩, ⟨%d2, H2⟩, ⟨%d3, H3⟩, ⟨%d4, H4⟩, ⟨%d5, H5⟩⟩
  obtain ⟨s', r', hs', hrun⟩ := run_at m hO c t s r hs
  iapply (hrun _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  isplitl [HR]; · iexact HR
  isplitl [HT0]; · iexact HT0
  isplitl [HT1]; · iexact HT1
  iintro ⟨H0, H1, H2, H3, H4, H5, HS, HR, HT0, HT1⟩
  isplitl [HS HR Hg HT0 HT1]
  · isplitl [HS HR]
    · iexists _, _; isplitr; · ipureintro; exact hs'
      isplitl [HS]; · iexact HS
      iexact HR
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- When every window is used at every point, the obligation is the plain one: each current block in, what the body leaves out. -/
theorem obligation_of_live {Λ₀ : Labels} {cfg : Cfg sig Λ₀} {c : Dev nD} (dat : Dat τ (Elt F) Unit ℕ (UR sig nD τ) ℕ cfg c)
    (B : Defs nD τ sig (Elt F) Λ₀) (hi : ∀ w t, cfg.idle w (cfg.grid.coords t) = false)
    (h : ∀ t : Fin cfg.N, iprop(dat.Φ t.castSucc ∗ dat.owesAt () t.castSucc ∗ bigSep Finset.univ fun w : Fin cfg.W =>
        iprop(∃ d, owns (c : Thread nD τ) ((cfg.win w).stage (cfg.slots t w)) fullShare (dat.before w t d)))
      ⊢ wp frame (wpE B Variants.none c none) Set.univ (B .tc cfg.body (cfg.bodyArgs t (cfg.slots t))) fun _ =>
        iprop(dat.Φ t.succ ∗ dat.owesAt () t.succ ∗ bigSep Finset.univ fun w : Fin cfg.W =>
          owns (c : Thread nD τ) ((cfg.win w).stage (cfg.slots t w)) fullShare (dat.after w t))) :
    BodyObligation dat B Variants.none () Set.univ := fun t => by
  simp only [hi]
  exact h t

theorem never_idle (hO : Ok m) : ∀ w t, (cfgM m hO).idle w ((cfgM m hO).grid.coords t) = false
  | ⟨0, _⟩, _ => rfl
  | ⟨1, _⟩, _ => rfl
  | ⟨2, _⟩, _ => rfl
  | ⟨3, _⟩, _ => rfl
  | ⟨4, _⟩, _ => rfl
  | ⟨5, _⟩, t => not_idle m hO t

/-- The library's body obligation, at every point. -/
theorem body_obligation (hO : Ok m) (c : Dev nD) : BodyObligation (dats (F := F) m hO 0 c) (defs₀ (F := F)) Variants.none () Set.univ :=
  obligation_of_live _ _ (never_idle m hO) fun t => by
    rw [bigSep_W0, bigSep_W0, defs₀_row m hO]
    exact triple_restated (sound_body m hO c t) rfl .rfl fun _ => .rfl

/-! ## The launch -/

theorem enter (hO : Ok m) (c : Dev nD) : iprop(Pipeline.ΦA spec0 c ∗ Pipeline.ΦT pre0 (tbl m) c) ⊢ (dats m hO 0 c).Φ 0 := by
  rw [Phi_eq, PhiA_eq, PhiT_eq]
  unfold Inv
  iintro ⟨⟨⟨⟨%s, HS⟩, ⟨%r, HR⟩⟩, Hg⟩, HT0, HT1⟩
  isplitl [HS HR]
  · iexists s, r; isplitr; · ipureintro; intro t h; exact absurd h (Nat.succ_ne_zero _)
    isplitl [HS]; · iexact HS
    iexact HR
  isplitl [Hg]; · iexact Hg
  isplitl [HT0]; · iexact HT0
  iexact HT1

theorem leave (hO : Ok m) (c : Dev nD) : (dats m hO 0 c).Φ (Fin.last (cfgM m hO).N) ⊢ Pipeline.ΦA spec0 c := by
  rw [Phi_eq, PhiA_eq]
  unfold Inv
  iintro ⟨⟨%s, %r, %hs, HS, HR⟩, Hg, HT0, HT1⟩
  isplitl [HS HR]
  · isplitl [HS]; · iexists s; iexact HS
    iexists r; iexact HR
  iexact Hg

set_option backward.isDefEq.respectTransparency.types false in
/-- The run: every array at what its write-backs leave, every other buffer as the region found it, every semaphore at zero. -/
theorem run_main (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := enter m hO) (hout := leave m hO)

end Cert.KernelIdeal.Gen

end
-- ==== Proof.MoeEnd.lean ====
/-
  The expert pass's frame: when every row block names one of the 32 experts, the run ends with the arguments as
  they were.
-/
module

public import proofs.«01_k».proof.Proof.MoeFrame

@[expose] public section

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg)

variable {F : FTy → Type} [FloatOps F]
variable (m : (ℓ : Loc nD τ sig) → Buf (Elt F) ℓ) (ρ : Dev nD → PrngReg)

/-- Block `n` of 32 along the first axis lies inside the array. -/
theorem expert_inb (n p q : Nat) (h : n < 32) (a : Fin 3) :
    ((![n, 0, 0] : Fin 3 → Nat) a + 1) * (![1, p, q] : Fin 3 → Nat) a ≤ (![32, p, q] : Fin 3 → Nat) a := by
  fin_cases a
  · show (n + 1) * 1 ≤ 32; omega
  · show (0 + 1) * p ≤ p; omega
  · show (0 + 1) * q ≤ q; omega

/-- The tables hold the first two arguments. -/
theorem tbl0_eq (j : S289.Idx) : (tbl m 0 : S289.Idx → BitVec 32) j = (m (((0 : Dev nD) : Thread nD τ).loc main_arg0) : S289.Idx → BitVec 32) j :=
  congrFun (V_of_ne m 0 main_arg0 (by decide) (by decide)) j

/-- Words below 32 name blocks inside the weight arrays. -/
theorem ok_of_words (h : ∀ j : S289.Idx, ((m (((0 : Dev nD) : Thread nD τ).loc main_arg0) : S289.Idx → BitVec 32) j).toNat < 32) : Ok m := by
  have hw : ∀ j : S289.Idx, ((tbl m 0 : S289.Idx → BitVec 32) j).toNat < 32 := fun j => by rw [tbl0_eq]; exact h j
  exact ⟨fun i => ⟨fun a => expert_inb _ 1024 2048 (hw _) a, .inl rfl⟩, fun i => ⟨fun a => expert_inb _ 1 2048 (hw _) a, .inl rfl⟩,
    fun i => ⟨fun a => expert_inb _ 1024 1024 (hw _) a, .inl rfl⟩, fun i => ⟨fun a => expert_inb _ 1 1024 (hw _) a, .inl rfl⟩⟩

variable {m}

/-- What every final state holds: the arguments as they were, and the result array at what the write-backs leave. -/
theorem final_mem (hO : Ok m) {r : PUnit × MemSt nD τ sig (Elt F)}
    (h : Pipeline.FramePost (Pipeline.pin pcfgs fun _ => adm m hO) (dats m hO) 0 (V m) r) (c : Dev nD) :
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v2) = (dats m hO 0 c).arrAt 5 (cfgM m hO).N := by
  obtain ⟨ha, hr⟩ := h c
  have rest : ∀ b : Ref sig .tc, b ∈ Pipeline.restRefs sig spec0 → b ≠ main_v0 → b ≠ main_v1 →
      r.2.mem ((c.tc : Thread nD τ).loc b) = m ((c.tc : Thread nD τ).loc b) := fun b hb h0 h1 => (hr b hb).trans (V_of_ne m c b h0 h1)
  refine ⟨⟨rest main_arg0 (by decide) (by decide) (by decide), rest main_arg1 (by decide) (by decide) (by decide), ?_, ?_,
    rest main_arg4 (by decide) (by decide) (by decide), ?_, rest main_arg6 (by decide) (by decide) (by decide)⟩, ha 5⟩
  · exact (ha 0).trans (((dats m hO 0 c).arrAt_in 0 rfl _).trans (V_of_ne m c main_arg2 (by decide) (by decide)))
  · exact (ha 1).trans (((dats m hO 0 c).arrAt_in 1 rfl _).trans (V_of_ne m c main_arg3 (by decide) (by decide)))
  · exact (ha 3).trans (((dats m hO 0 c).arrAt_in 3 rfl _).trans (V_of_ne m c main_arg5 (by decide) (by decide)))

/-- The frame: the arguments end unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (final_mem hO h.1 c).1, h.2⟩) (run_main m ρ hO)

end Cert.KernelIdeal.Gen

end
-- ==== Proof.MoePre.lean ====
/-
  What the precondition says: every word of the first argument names one of the 32 experts.
-/
module

public import proofs.«01_k».proof.Proof.Gen.Pre_names_experts
public import Idealize.ShloMosaic.PureOps.Ideal
public import Idealize.ShloMosaic.Lib.WordCmp

@[expose] public section

noncomputable section

namespace Cert.Pre_names_experts.Gen

open Idealize.ShloMosaic Idealize.ShloMosaic.WordCmp

variable {F : FTy → Type} [FloatOps F]

/-- Read as a natural number, each word lies below 32. -/
theorem word_lt (a0 : IVec S289 32) (a1 : IVec S1 32) (a2 : FVec F S147968x1024 .f32) (a3 : FVec F S32x1024x2048 .f32) (a4 : FVec F S32x2048 .f32)
    (a5 : FVec F S32x1024x1024 .f32) (a6 : FVec F S32x1024 .f32) (h : fn (F := F) a0 a1 a2 a3 a4 a5 a6 = fun _ => 1#1) (j : S289.Idx) :
    (a0 j).toNat < 32 := by
  have e := congrFun h j
  simp only [fn, andi, cmpi, broadcastInDim, constantI, IntOp.cmpi, andi_ofBool, ofBool_eq_one_iff, Bool.and_eq_true] at e
  obtain ⟨hge, hlt⟩ := e
  simp only [BitVec.sle, BitVec.slt, decide_eq_true_eq, BitVec.toInt, BitVec.toNat_ofNat] at hge hlt
  have := (a0 j).isLt
  omega

end Cert.Pre_names_experts.Gen

end
-- ==== Proof.MoeCarry.lean ====
/-
  The printed kernel and its idealized twin are one program: what holds of the second's runs holds of the first's.
-/
module

public import proofs.«01_k».proof.Proof.MoeEnd
public import proofs.«01_k».proof.Proof.MoePre
public import proofs.«01_k».proof.Proof.Gen.Kernel
public import proofs.«01_k».proof.Proof.Gen.ReferenceIdeal
public import proofs.«01_k».proof.Defs

@[expose] public section

set_option maxRecDepth 16384

noncomputable section

namespace Cert.Experts

open Idealize.ShloMosaic Idealize.SL.Sem

variable {F : FTy → Type} [FloatOps F]

theorem defs0_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun x => ?_)
  match l, x with
  | ⟨0, _⟩, (t, s) => rfl

theorem defs_eq : @Cert.Kernel.defs F _ Cert.Kernel.Gen.facts = @Cert.KernelIdeal.defs F _ Cert.KernelIdeal.Gen.facts :=
  congrArg (Pipeline.defs (@Cert.KernelIdeal.pcfgs F _ Cert.KernelIdeal.Gen.facts)) defs0_eq

theorem main_eq : @Cert.Kernel.main F _ Cert.Kernel.Gen.facts = @Cert.KernelIdeal.main F _ Cert.KernelIdeal.Gen.facts := rfl

/-- A run of the idealized kernel is a run of the kernel. -/
theorem carry (m : (ℓ : Loc Cert.Kernel.nD Cert.Kernel.τ Cert.Kernel.sig) → Buf (Elt F) ℓ) (g : Dev Cert.Kernel.nD → PrngReg) (Q)
    (h : θ_run (Cert.KernelIdeal.defs (F := F)) (onTc (τ := Cert.KernelIdeal.τ) (Cert.KernelIdeal.main (F := F))) ⟨m, fun _ => 0, g⟩ Q) :
    θ_run (Cert.Kernel.defs (F := F)) (onTc (τ := Cert.Kernel.τ) (Cert.Kernel.main (F := F))) ⟨m, fun _ => 0, g⟩ Q := by
  rw [defs_eq, main_eq]; exact h

/-- The kernel's frame. -/
theorem frame_kernel : Cert.quiescent_Kernel (hKernel := Cert.Kernel.Gen.facts) (hPre_names_experts := Cert.Pre_names_experts.Gen.facts) := by
  intro m g h
  exact carry m g _ (Cert.KernelIdeal.Gen.frame (F := Bits) (m := m) g
    (Cert.KernelIdeal.Gen.ok_of_words _ (Cert.Pre_names_experts.Gen.word_lt _ _ _ _ _ _ _ (h 0))))

/-- The idealized kernel's frame. -/
theorem frame_ideal : Cert.quiescent_KernelIdeal (hKernelIdeal := Cert.KernelIdeal.Gen.facts) (hPre_names_experts := Cert.Pre_names_experts.Gen.facts) := by
  intro m g h
  exact Cert.KernelIdeal.Gen.frame (F := Ideal) (m := m) g
    (Cert.KernelIdeal.Gen.ok_of_words _ (Cert.Pre_names_experts.Gen.word_lt _ _ _ _ _ _ _ (h 0)))

end Cert.Experts

end
-- ==== Proof.MoeRef.lean ====
/-
  The reference's result, element by element: the expert of a row's block applied to the row, or zero past the
  blocks in use.
-/
module

public import proofs.«01_k».proof.Proof.Gen.ReferenceIdeal.Run
public import Idealize.ShloMosaic.Lib.Pointwise
public import Idealize.ShloMosaic.Lib.WordCmp
public import Idealize.ShloMosaic.Lib.Routing.OpsPair

@[expose] public section

set_option maxRecDepth 16384

noncomputable section

namespace Cert.Experts

open Idealize.ShloMosaic

/-! ## One expert on one row -/

/-- The expert's first product and bias. -/
def gateUp (x : Fin 1024 → EReal) (w : Fin 1024 → Fin 2048 → EReal) (b : Fin 2048 → EReal) (f : Fin 2048) : EReal :=
  (∑ k : Fin 1024, x k * w k f) + b f

/-- The gate: the first half, clamped above at seven. -/
def gate (g : Fin 2048 → EReal) (k : Fin 1024) : EReal := min (g ⟨k.val, by omega⟩) (Ideal.ofBits .f32 0x40E00000#32)

/-- The clamped gated unit: (up + 1) · gate · sigmoid(1.702 · gate). -/
def act (g : Fin 2048 → EReal) (k : Fin 1024) : EReal :=
  (min (Ideal.ofBits .f32 0x40E00000#32) (max (Ideal.ofBits .f32 0xC0E00000#32) (g ⟨1024 + k.val, by omega⟩)) + 1) * gate g k
    * Ideal.div 1 (1 + Ideal.exp (-(Ideal.ofBits .f32 0x3FD9DB23#32 * gate g k)))

/-- The expert's result on a row. -/
def expertRow (x : Fin 1024 → EReal) (w : Fin 1024 → Fin 2048 → EReal) (b : Fin 2048 → EReal) (wd : Fin 1024 → Fin 1024 → EReal) (bd : Fin 1024 → EReal)
    (j : Fin 1024) : EReal :=
  (∑ k : Fin 1024, act (gateUp x w b) k * wd k j) + bd j

end Cert.Experts

namespace Cert.ReferenceIdeal.Experts

open Idealize.ShloMosaic Cert.ReferenceIdeal Cert.ReferenceIdeal.Gen Cert.Experts

/-! ## Gathering along the experts' axis -/

/-- The dimension numbers of `table[idx]` for a table of matrices. -/
abbrev slabDims {N A B n : Nat} (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

theorem gather_slab {N A B n : Nat} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → EReal) (idx : IVec ⟨2, ![n, 1]⟩ 32) (b : Fin n) (d : Fin A) (f : Fin B) (e : Fin N)
    (h : (idx (ix2 b 0)).toInt = e.val) : Host.gather (slabDims wf) x idx (ix3 b d f) = x (ix3 e d f) := by
  have hs : (slabDims wf).siIdx (ix3 b d f) ⟨0, Nat.zero_lt_one⟩ = ix2 b 0 := by
    funext a
    match a with
    | ⟨0, _⟩ => rfl
    | ⟨1, _⟩ => rfl
  have he := e.isLt
  refine congrArg x (funext fun a => Fin.ext ?_)
  match a with
  | ⟨0, _⟩ =>
    show min (idx ((slabDims wf).siIdx (ix3 b d f) ⟨0, Nat.zero_lt_one⟩)).toInt.toNat (N - 1) + 0 + 0 = e.val
    rw [hs, h]; omega
  | ⟨1, _⟩ => exact Nat.zero_add _
  | ⟨2, _⟩ => exact Nat.zero_add _

/-- The dimension numbers of `table[idx]` for a table of rows. -/
abbrev rowDims {N B n : Nat} (wf : GatherDims.WF ⟨2, ![N, B]⟩ ⟨2, ![n, 1]⟩ ⟨2, ![n, B]⟩ [1] [0] [] [0] [] 1 ![1, B]) :
    GatherDims ⟨2, ![N, B]⟩ ⟨2, ![n, 1]⟩ ⟨2, ![n, B]⟩ where
  offsetDims := [1]
  collapsedSliceDims := [0]
  operandBatchingDims := []
  startIndicesBatchingDims := []
  startIndexMap := [0]
  indexVectorDim := 1
  sliceSizes := ![1, B]
  wf := wf

theorem gather_rows {N B n : Nat} (wf : GatherDims.WF ⟨2, ![N, B]⟩ ⟨2, ![n, 1]⟩ ⟨2, ![n, B]⟩ [1] [0] [] [0] [] 1 ![1, B])
    (x : (⟨2, ![N, B]⟩ : Shape).Idx → EReal) (idx : IVec ⟨2, ![n, 1]⟩ 32) (b : Fin n) (f : Fin B) (e : Fin N)
    (h : (idx (ix2 b 0)).toInt = e.val) : Host.gather (rowDims wf) x idx (ix2 b f) = x (ix2 e f) := by
  have hs : (rowDims wf).siIdx (ix2 b f) ⟨0, Nat.zero_lt_one⟩ = ix2 b 0 := by
    funext a
    match a with
    | ⟨0, _⟩ => rfl
    | ⟨1, _⟩ => rfl
  have he := e.isLt
  refine congrArg x (funext fun a => Fin.ext ?_)
  match a with
  | ⟨0, _⟩ =>
    show min (idx ((rowDims wf).siIdx (ix2 b f) ⟨0, Nat.zero_lt_one⟩)).toInt.toNat (N - 1) + 0 + 0 = e.val
    rw [hs, h]; omega
  | ⟨1, _⟩ => exact Nat.zero_add _

/-! ## The reference in stages -/

/-- The experts' numbers as the gathers take them: a negative number counts from the end. -/
def wrapped (a0 : IVec S289 32) : IVec S289x1 32 :=
  broadcastInDim S289x1 ![0] bcast_S289_S289x1_0 (select (cmpi .slt a0 (broadcastInDim S289 ![] bcast_S_S289 (constantI S_ 32 0#32)))
    (addi a0 (broadcastInDim S289 ![] bcast_S_S289 (constantI S_ 32 32#32))) a0)

/-- The first product and its bias, all blocks. -/
def first (a0 : IVec S289 32) (a2 : FVec Ideal S147968x1024 .f32) (a3 : FVec Ideal S32x1024x2048 .f32) (a4 : FVec Ideal S32x2048 .f32) : FVec Ideal S289x512x2048 .f32 :=
  addf (Host.dotGeneral dot_S289x512x1024_S289x1024x2048_S289x512x2048_2_1_1_2_0_0 none (shapeCast _ a2 shapeCasts_S147968x1024_S289x512x1024)
      (Host.gather gather_S32x1024x2048_S289x1_S289x1024x2048_12_0_n_n_0_1_110242048 a3 (wrapped a0)))
    (broadcastInDim S289x512x2048 ![0, 1, 2] bcast_S289x1x2048_S289x512x2048_0_1_2 (broadcastInDim S289x1x2048 ![0, 2] bcast_S289x2048_S289x1x2048_0_2
      (Host.gather gather_S32x2048_S289x1_S289x2048_1_0_n_n_0_1_12048 a4 (wrapped a0))))

/-- The clamped gated unit of the first product. -/
def unit (g : FVec Ideal S289x512x2048 .f32) : FVec Ideal S289x512x1024 .f32 :=
  mulf (mulf (addf (minimumf (broadcastInDim S289x512x1024 ![] bcast_S_S289x512x1024 (id (constant S_ .f32 0x40E00000#32))) (maximumf (broadcastInDim S289x512x1024 ![] bcast_S_S289x512x1024 (id (constant S_ .f32 0xC0E00000#32))) (extractStridedSlice S289x512x1024 ![0, 0, 1024] g slices_S289x512x2048_S289x512x1024_0_0_1024)))
      (broadcastInDim S289x512x1024 ![] bcast_S_S289x512x1024 (constant S_ .f32 0x3F800000#32)))
      (minimumf (extractStridedSlice S289x512x1024 ![0, 0, 0] g slices_S289x512x2048_S289x512x1024_0_0_0) (broadcastInDim S289x512x1024 ![] bcast_S_S289x512x1024 (constant S_ .f32 0x40E00000#32))))
    (Host.divf (broadcastInDim S289x512x1024 ![] bcast_S_S289x512x1024 (constant S_ .f32 0x3F800000#32)) (addf (broadcastInDim S289x512x1024 ![] bcast_S_S289x512x1024 (constant S_ .f32 0x3F800000#32))
      (Host.exp (Host.negf (mulf (broadcastInDim S289x512x1024 ![] bcast_S_S289x512x1024 (constant S_ .f32 0x3FD9DB23#32))
        (minimumf (extractStridedSlice S289x512x1024 ![0, 0, 0] g slices_S289x512x2048_S289x512x1024_0_0_0) (broadcastInDim S289x512x1024 ![] bcast_S_S289x512x1024 (constant S_ .f32 0x40E00000#32))))))))

/-- The second product and its bias, all blocks. -/
def second (a0 : IVec S289 32) (u : FVec Ideal S289x512x1024 .f32) (a5 : FVec Ideal S32x1024x1024 .f32) (a6 : FVec Ideal S32x1024 .f32) : FVec Ideal S289x512x1024 .f32 :=
  addf (Host.dotGeneral dot_S289x512x1024_S289x1024x1024_S289x512x1024_2_1_1_2_0_0 none u
      (Host.gather gather_S32x1024x1024_S289x1_S289x1024x1024_12_0_n_n_0_1_110241024 a5 (wrapped a0)))
    (broadcastInDim S289x512x1024 ![0, 1, 2] bcast_S289x1x1024_S289x512x1024_0_1_2 (broadcastInDim S289x1x1024 ![0, 2] bcast_S289x1024_S289x1x1024_0_2
      (Host.gather gather_S32x1024_S289x1_S289x1024_1_0_n_n_0_1_11024 a6 (wrapped a0))))

/-- The blocks past those in use give zeros; the blocks lie one after the other. -/
def masked (a1 : IVec S1 32) (y : FVec Ideal S289x512x1024 .f32) : FVec Ideal S147968x1024 .f32 :=
  shapeCast _ (select (broadcastInDim S289x512x1024 ![0, 1, 2] bcast_S289x1x1_S289x512x1024_0_1_2 (broadcastInDim S289x1x1 ![0] bcast_S289_S289x1x1_0
      (cmpi .slt (iotaInDim S289 32 0) (broadcastInDim S289 ![] bcast_S_S289 (shapeCast _ a1 shapeCasts_S1_S_))))) y
    (broadcastInDim S289x512x1024 ![] bcast_S_S289x512x1024 (id (constant S_ .f32 0x00000000#32)))) shapeCasts_S289x512x1024_S147968x1024

/-! ## Each stage at an element -/

theorem wrapped_at (a0 : IVec S289 32) (b : Fin 289) (e : Fin 32) (he : (a0 (ix1 b)).toNat = e.val) : (wrapped a0 (ix2 b 0)).toInt = e.val := by
  have hlt := e.isLt
  have h : wrapped a0 (ix2 b 0) = a0 (ix1 b) := by
    pointwise [wrapped]
    exact Routing.wrap_of_lt (a0 (ix1 b)) _ (by rw [he]; norm_num; omega)
  rw [h, BitVec.toInt_eq_toNat_of_lt (by rw [he]; omega), he]

theorem first_at (a0 : IVec S289 32) (a2 : FVec Ideal S147968x1024 .f32) (a3 : FVec Ideal S32x1024x2048 .f32) (a4 : FVec Ideal S32x2048 .f32)
    (b : Fin 289) (e : Fin 32) (he : (a0 (ix1 b)).toNat = e.val) (r : Fin 512) (i : Fin 147968) (hi : i.val = b.val * 512 + r.val) (f : Fin 2048) :
    first a0 a2 a3 a4 (ix3 b r f) = gateUp (fun k => a2 (ix2 i k)) (fun k f => a3 (ix3 e k f)) (fun f => a4 (ix2 e f)) f := by
  have hw := wrapped_at a0 b e he
  have hi' : i = ⟨b.val * 512 + r.val, hi ▸ i.isLt⟩ := Fin.ext hi
  have h4 : Host.gather gather_S32x2048_S289x1_S289x2048_1_0_n_n_0_1_12048 a4 (wrapped a0) (ix2 b f) = a4 (ix2 e f) :=
    gather_rows gather_S32x2048_S289x1_S289x2048_1_0_n_n_0_1_12048_wf a4 (wrapped a0) b f e hw
  have h3 : ∀ k, Host.gather gather_S32x1024x2048_S289x1_S289x1024x2048_12_0_n_n_0_1_110242048 a3 (wrapped a0) (ix3 b k f) = a3 (ix3 e k f) := fun k =>
    gather_slab gather_S32x1024x2048_S289x1_S289x1024x2048_12_0_n_n_0_1_110242048_wf a3 (wrapped a0) b k f e hw
  rw [hi']
  pointwise [first, gateUp, h3, h4]

theorem unit_at (g : FVec Ideal S289x512x2048 .f32) (b : Fin 289) (r : Fin 512) (k : Fin 1024) :
    unit g (ix3 b r k) = act (fun f => g (ix3 b r f)) k := by
  pointwise [unit, act, gate, id_eq]

theorem second_at (a0 : IVec S289 32) (u : FVec Ideal S289x512x1024 .f32) (a5 : FVec Ideal S32x1024x1024 .f32) (a6 : FVec Ideal S32x1024 .f32)
    (b : Fin 289) (e : Fin 32) (he : (a0 (ix1 b)).toNat = e.val) (r : Fin 512) (j : Fin 1024) :
    second a0 u a5 a6 (ix3 b r j) = (∑ k : Fin 1024, u (ix3 b r k) * a5 (ix3 e k j)) + a6 (ix2 e j) := by
  have hw := wrapped_at a0 b e he
  have h6 : Host.gather gather_S32x1024_S289x1_S289x1024_1_0_n_n_0_1_11024 a6 (wrapped a0) (ix2 b j) = a6 (ix2 e j) :=
    gather_rows gather_S32x1024_S289x1_S289x1024_1_0_n_n_0_1_11024_wf a6 (wrapped a0) b j e hw
  have h5 : ∀ k, Host.gather gather_S32x1024x1024_S289x1_S289x1024x1024_12_0_n_n_0_1_110241024 a5 (wrapped a0) (ix3 b k j) = a5 (ix3 e k j) := fun k =>
    gather_slab gather_S32x1024x1024_S289x1_S289x1024x1024_12_0_n_n_0_1_110241024_wf a5 (wrapped a0) b k j e hw
  pointwise [second, h5, h6]

theorem slt_point (b : Fin 289) (u : BitVec 32) : IntOp.cmpi .slt (BitVec.ofNat 32 b.val) u = 1#1 ↔ (b.val : Int) < u.toInt := by
  have hb := b.isLt
  have h : (BitVec.ofNat 32 b.val).toInt = b.val := by
    rw [BitVec.toInt_eq_toNat_of_lt (by rw [BitVec.toNat_ofNat]; omega), BitVec.toNat_ofNat, Nat.mod_eq_of_lt (by omega)]
  show BitVec.ofBool (decide _) = 1#1 ↔ _
  rw [WordCmp.ofBool_eq_one_iff, decide_eq_true_eq, h]

theorem masked_at (a1 : IVec S1 32) (y : FVec Ideal S289x512x1024 .f32) (b : Fin 289) (r : Fin 512) (i : Fin 147968) (hi : i.val = b.val * 512 + r.val) (j : Fin 1024) :
    masked a1 y (ix2 i j) = if (b.val : Int) < (a1 (ix1 0)).toInt then y (ix3 b r j) else 0 := by
  have hr := r.isLt
  have hb : (⟨i.val / 512, by omega⟩ : Fin 289) = b := Fin.ext (by show i.val / 512 = b.val; omega)
  have hr' : (⟨i.val % 512, by omega⟩ : Fin 512) = r := Fin.ext (by show i.val % 512 = r.val; omega)
  pointwise [masked, id_eq, hb, hr']
  exact if_congr (slt_point b (a1 (ix1 0))) rfl rfl

/-! ## The result -/

variable (m : (ℓ : Loc nD τ sig) → Buf (Elt Ideal) ℓ)

theorem res_eq (c : Dev nD) :
    (Value.res_main_v60 m c : FVec Ideal S147968x1024 .f32)
      = masked (m ((c.tc : Thread nD τ).loc main_arg1)) (second (m ((c.tc : Thread nD τ).loc main_arg0)) (unit (first (m ((c.tc : Thread nD τ).loc main_arg0))
          (m ((c.tc : Thread nD τ).loc main_arg2)) (m ((c.tc : Thread nD τ).loc main_arg3)) (m ((c.tc : Thread nD τ).loc main_arg4))))
        (m ((c.tc : Thread nD τ).loc main_arg5)) (m ((c.tc : Thread nD τ).loc main_arg6))) := rfl

/-- The whole reference over variables. -/
def whole (a0 : IVec S289 32) (a1 : IVec S1 32) (a2 : FVec Ideal S147968x1024 .f32) (a3 : FVec Ideal S32x1024x2048 .f32) (a4 : FVec Ideal S32x2048 .f32)
    (a5 : FVec Ideal S32x1024x1024 .f32) (a6 : FVec Ideal S32x1024 .f32) : FVec Ideal S147968x1024 .f32 :=
  masked a1 (second a0 (unit (first a0 a2 a3 a4)) a5 a6)

theorem whole_at (a0 : IVec S289 32) (a1 : IVec S1 32) (a2 : FVec Ideal S147968x1024 .f32) (a3 : FVec Ideal S32x1024x2048 .f32) (a4 : FVec Ideal S32x2048 .f32)
    (a5 : FVec Ideal S32x1024x1024 .f32) (a6 : FVec Ideal S32x1024 .f32)
    (b : Fin 289) (r : Fin 512) (i : Fin 147968) (hi : i.val = b.val * 512 + r.val) (j : Fin 1024) (e : Fin 32) (he : (a0 (ix1 b)).toNat = e.val) :
    whole a0 a1 a2 a3 a4 a5 a6 (ix2 i j)
      = if (b.val : Int) < (a1 (ix1 0)).toInt then
          expertRow (fun k => a2 (ix2 i k)) (fun k f => a3 (ix3 e k f)) (fun f => a4 (ix2 e f)) (fun k f => a5 (ix3 e k f)) (fun f => a6 (ix2 e f)) j
        else 0 := by
  rw [whole, masked_at a1 _ b r i hi j, second_at a0 _ a5 a6 b e he r j]
  refine if_congr Iff.rfl ?_ rfl
  unfold expertRow
  refine congrArg (· + a6 (ix2 e j)) (Finset.sum_congr rfl fun k _ => congrArg (· * a5 (ix3 e k j)) ?_)
  rw [unit_at]
  exact congrArg (act · k) (funext fun f => first_at a0 a2 a3 a4 b e he r i hi f)

end Cert.ReferenceIdeal.Experts

end
-- ==== Proof.MoePure.lean ====
/-
  The kernel's block, element by element: the expert applied to each row of the block.
-/
module

public import proofs.«01_k».proof.Proof.Gen.KernelIdeal.Skeleton
public import proofs.«01_k».proof.Proof.MoeRef
public import Idealize.ShloMosaic.Lib.Pointwise

@[expose] public section

set_option maxRecDepth 16384

noncomputable section

namespace Cert.KernelIdeal.Experts

open Idealize.ShloMosaic Cert.KernelIdeal Cert.KernelIdeal.Gen Cert.Experts

theorem used_at (x0 : FVec Ideal S512x1024 .f32) (x1 : FVec Ideal S1x1024x2048 .f32) (x2 : FVec Ideal S1x1x2048 .f32) (x3 : FVec Ideal S1x1024x1024 .f32)
    (x4 : FVec Ideal S1x1x1024 .f32) (r : Fin 512) (j : Fin 1024) :
    (k0_pay4 (F := Ideal) x0 (k0_pay1 (F := Ideal) x1) x2 (k0_pay2 (F := Ideal) x3) x4) (ix2 r j)
      = expertRow (fun k => x0 (ix2 r k)) (fun k f => x1 (ix3 0 k f)) (fun f => x2 (ix3 0 0 f)) (fun k f => x3 (ix3 0 k f)) (fun f => x4 (ix3 0 0 f)) j := by
  pointwise [k0_pay4, k0_pay1, k0_pay2, expertRow, act, gate, gateUp, zero_sub, zero_add]

theorem rest_at (r : Fin 512) (j : Fin 1024) : (k0_pay3 (F := Ideal)) (ix2 r j) = (0 : EReal) := by
  pointwise [k0_pay3]

end Cert.KernelIdeal.Experts

end
-- ==== Proof.MoeValue.lean ====
/-
  The kernel's result array: every row block at the reference's result.
-/
module

public import proofs.«01_k».proof.Proof.MoeEnd
public import proofs.«01_k».proof.Proof.MoePure
public import Idealize.ShloMosaic.Lib.Pipeline.ValueKit
public import Idealize.ShloMosaic.Lib.Pipeline.Covers

@[expose] public section

set_option maxRecDepth 16384

noncomputable section

namespace Cert.KernelIdeal.Experts

open Idealize.ShloMosaic Idealize.ShloMosaic.TcCoe Idealize.SL.Sem Cert.KernelIdeal Cert.KernelIdeal.Gen Cert.Experts
open Idealize.ShloMosaic.Pipeline (Dat)

variable (m : (ℓ : Loc nD τ sig) → Buf (Elt Ideal) ℓ)

/-! ## The windows' blocks at coordinates -/

/-- The word of a point: its row block's expert. -/
theorem word_eq (c : Dev nD) (t : Fin grid0.N) (b : Fin 289) (h : b.val = t.val) :
    hereW (F := Ideal) (c := c) (tbl m 0) (grid0.coords t) = (m ((c : Thread nD τ).loc main_arg0) : S289.Idx → BitVec 32) (ix1 b) := by
  obtain rfl : c = 0 := Subsingleton.elim _ _
  refine Eq.trans ?_ (tbl0_eq m (ix1 b))
  unfold hereW
  refine congrArg (tbl m 0 : S289.Idx → BitVec 32) (funext fun a => Fin.ext ?_)
  match a with
  | ⟨0, _⟩ =>
    have := congrFun (off1_eq t) 0
    show k0_off1 (grid0.coords t) 0 + 1 * 0 = b.val
    rw [this, h]; rfl

theorem used_eq (c : Dev nD) : usedW (F := Ideal) (c := c) (tbl m 1) = (m ((c : Thread nD τ).loc main_arg1) : S1.Idx → BitVec 32) (ix1 0) := by
  obtain rfl : c = 0 := Subsingleton.elim _ _
  refine Eq.trans ?_ (congrFun (V_of_ne m 0 main_arg1 (by decide) (by decide)) _)
  unfold usedW
  refine congrArg (tbl m 1 : S1.Idx → BitVec 32) (funext fun a => Fin.ext ?_)
  match a with
  | ⟨0, _⟩ => rfl

theorem point_toNat (t : Fin grid0.N) : (BitVec.ofNat 32 (grid0.coords t 0).val).toNat = t.val := by
  have h : t.val < 289 := t.isLt
  rw [coords_val, BitVec.toNat_ofNat]; omega

theorem iblk0_at (hO : Ok m) (c : Dev nD) (t : Fin grid0.N) (r : Fin 512) (k : Fin 1024) (i : Fin 147968) (hi : i.val = t.val * 512 + r.val) :
    (iblk m hO c 0 t : S512x1024.Idx → EReal) (ix2 r k) = (m ((c : Thread nD τ).loc main_arg2) : S147968x1024.Idx → EReal) (ix2 i k) := by
  refine Eq.trans ?_ (congrFun (V_of_ne m c main_arg2 (by decide) (by decide)) _)
  refine congrArg (V m c main_arg2 : S147968x1024.Idx → EReal) (funext fun a => Fin.ext ?_)
  match a with
  | ⟨0, _⟩ =>
    show (BitVec.ofNat 32 (grid0.coords t 0).val).toNat * 512 + 1 * r.val = i.val
    rw [point_toNat, hi]; omega
  | ⟨1, _⟩ =>
    show 0 * 1024 + 1 * k.val = k.val
    omega

theorem iblk1_at (hO : Ok m) (c : Dev nD) (t : Fin grid0.N) (k : Fin 1024) (f : Fin 2048) (e : Fin 32)
    (he : (hereW (F := Ideal) (c := c) (tbl m 0) (grid0.coords t)).toNat = e.val) :
    (iblk m hO c 1 t : S1x1024x2048.Idx → EReal) (ix3 0 k f) = (m ((c : Thread nD τ).loc main_arg3) : S32x1024x2048.Idx → EReal) (ix3 e k f) := by
  refine Eq.trans ?_ (congrFun (V_of_ne m c main_arg3 (by decide) (by decide)) _)
  refine congrArg (V m c main_arg3 : S32x1024x2048.Idx → EReal) (funext fun a => Fin.ext ?_)
  match a with
  | ⟨0, _⟩ =>
    show (hereW (F := Ideal) (c := c) (tbl m 0) (grid0.coords t)).toNat * 1 + 1 * 0 = e.val
    omega
  | ⟨1, _⟩ =>
    show 0 * 1024 + 1 * k.val = k.val
    omega
  | ⟨2, _⟩ =>
    show 0 * 2048 + 1 * f.val = f.val
    omega

theorem iblk2_at (hO : Ok m) (c : Dev nD) (t : Fin grid0.N) (f : Fin 2048) (e : Fin 32)
    (he : (hereW (F := Ideal) (c := c) (tbl m 0) (grid0.coords t)).toNat = e.val) :
    (iblk m hO c 2 t : S1x1x2048.Idx → EReal) (ix3 0 0 f) = (m ((c : Thread nD τ).loc main_arg4) : S32x2048.Idx → EReal) (ix2 e f) := by
  have h : (iblk m hO c 2 t : S1x1x2048.Idx → EReal) (ix3 0 0 f) = (V m c main_v0 : S32x1x2048.Idx → EReal) (ix3 e 0 f) := by
    refine congrArg (V m c main_v0 : S32x1x2048.Idx → EReal) (funext fun a => Fin.ext ?_)
    match a with
    | ⟨0, _⟩ =>
      show (hereW (F := Ideal) (c := c) (tbl m 0) (grid0.coords t)).toNat * 1 + 1 * 0 = e.val
      omega
    | ⟨1, _⟩ => rfl
    | ⟨2, _⟩ =>
      show 0 * 2048 + 1 * f.val = f.val
      omega
  rw [h]
  entry_read
  pointwise

theorem iblk3_at (hO : Ok m) (c : Dev nD) (t : Fin grid0.N) (k : Fin 1024) (f : Fin 1024) (e : Fin 32)
    (he : (hereW (F := Ideal) (c := c) (tbl m 0) (grid0.coords t)).toNat = e.val) :
    (iblk m hO c 3 t : S1x1024x1024.Idx → EReal) (ix3 0 k f) = (m ((c : Thread nD τ).loc main_arg5) : S32x1024x1024.Idx → EReal) (ix3 e k f) := by
  refine Eq.trans ?_ (congrFun (V_of_ne m c main_arg5 (by decide) (by decide)) _)
  refine congrArg (V m c main_arg5 : S32x1024x1024.Idx → EReal) (funext fun a => Fin.ext ?_)
  match a with
  | ⟨0, _⟩ =>
    show (hereW (F := Ideal) (c := c) (tbl m 0) (grid0.coords t)).toNat * 1 + 1 * 0 = e.val
    omega
  | ⟨1, _⟩ =>
    show 0 * 1024 + 1 * k.val = k.val
    omega
  | ⟨2, _⟩ =>
    show 0 * 1024 + 1 * f.val = f.val
    omega

theorem iblk4_at (hO : Ok m) (c : Dev nD) (t : Fin grid0.N) (f : Fin 1024) (e : Fin 32)
    (he : (hereW (F := Ideal) (c := c) (tbl m 0) (grid0.coords t)).toNat = e.val) :
    (iblk m hO c 4 t : S1x1x1024.Idx → EReal) (ix3 0 0 f) = (m ((c : Thread nD τ).loc main_arg6) : S32x1024.Idx → EReal) (ix2 e f) := by
  have h : (iblk m hO c 4 t : S1x1x1024.Idx → EReal) (ix3 0 0 f) = (V m c main_v1 : S32x1x1024.Idx → EReal) (ix3 e 0 f) := by
    refine congrArg (V m c main_v1 : S32x1x1024.Idx → EReal) (funext fun a => Fin.ext ?_)
    match a with
    | ⟨0, _⟩ =>
      show (hereW (F := Ideal) (c := c) (tbl m 0) (grid0.coords t)).toNat * 1 + 1 * 0 = e.val
      omega
    | ⟨1, _⟩ => rfl
    | ⟨2, _⟩ =>
      show 0 * 1024 + 1 * f.val = f.val
      omega
  rw [h]
  entry_read
  pointwise

/-! ## The result array -/

/-- The row blocks cover the result array. -/
theorem covers (hO : Ok m) : ((cfgM m hO).win 5).Covers :=
  Pipeline.Window.covers_of_index_surj _ rfl (fun a => by match a with | ⟨0, _⟩ => exact (by decide : 0 < 512) | ⟨1, _⟩ => exact (by decide : 0 < 1024)) fun β => by
    have h0 : (β (0 : Fin 2)).val < 289 := Nat.lt_of_lt_of_eq (β (0 : Fin 2)).isLt (show (147968 + 512 - 1) / 512 = 289 from by norm_num)
    have h1 : (β (1 : Fin 2)).val < 1 := Nat.lt_of_lt_of_eq (β (1 : Fin 2)).isLt (show (1024 + 1024 - 1) / 1024 = 1 from by norm_num)
    refine ⟨⟨(β (0 : Fin 2)).val, h0⟩, fun a => ?_⟩
    match a with
    | ⟨0, _⟩ => exact point_toNat ⟨(β (0 : Fin 2)).val, h0⟩
    | ⟨1, _⟩ => exact (by omega : 0 = (β (1 : Fin 2)).val)

/-- Where the result window places row `r` of its block. -/
theorem emb5 (hO : Ok m) (t : Fin grid0.N) (r : Fin 512) (j : Fin 1024) (i : Fin 147968) (hi : i.val = t.val * 512 + r.val) :
    (((cfgM m hO).win 5).blk t).view.emb (ix2 r j : S512x1024.Idx) = (ix2 i j : S147968x1024.Idx) := by
  refine funext fun a => Fin.ext ?_
  match a with
  | ⟨0, _⟩ =>
    show (BitVec.ofNat 32 (grid0.coords t 0).val).toNat * 512 + 1 * r.val = i.val
    rw [point_toNat, hi]; omega
  | ⟨1, _⟩ =>
    show 0 * 1024 + 1 * j.val = j.val
    omega

/-- A row block's result at an element is the reference's. -/
theorem point (hO : Ok m) (c : Dev nD) (hw : ∀ j : S289.Idx, ((m ((c : Thread nD τ).loc main_arg0) : S289.Idx → BitVec 32) j).toNat < 32)
    (t : Fin grid0.N) (r : Fin 512) (j : Fin 1024) (i : Fin 147968) (hi : i.val = t.val * 512 + r.val) :
    (outBlk m hO c t : S512x1024.Idx → EReal) (ix2 r j)
      = Cert.ReferenceIdeal.Experts.whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (ix2 i j) := by
  have ht : t.val < 289 := t.isLt
  let b : Fin 289 := ⟨t.val, ht⟩
  let e : Fin 32 := ⟨_, hw (ix1 b)⟩
  have he : (hereW (F := Ideal) (c := c) (tbl m 0) (grid0.coords t)).toNat = e.val := congrArg BitVec.toNat (word_eq m c t b rfl)
  refine Eq.trans ?_ (Cert.ReferenceIdeal.Experts.whole_at _ _ _ _ _ _ _ b r i hi j e rfl).symm
  unfold outBlk
  by_cases hu : InUse t.val (usedW (F := Ideal) (c := c) (tbl m 1))
  · rw [if_pos hu, if_pos (used_eq m c ▸ hu)]
    refine (used_at _ _ _ _ _ r j).trans ?_
    have e0 : ∀ k, (iblk m hO c 0 t : S512x1024.Idx → EReal) (ix2 r k) = _ := fun k => iblk0_at m hO c t r k i hi
    have e1 : ∀ k f, (iblk m hO c 1 t : S1x1024x2048.Idx → EReal) (ix3 0 k f) = _ := fun k f => iblk1_at m hO c t k f e he
    have e2 : ∀ f, (iblk m hO c 2 t : S1x1x2048.Idx → EReal) (ix3 0 0 f) = _ := fun f => iblk2_at m hO c t f e he
    have e3 : ∀ k f, (iblk m hO c 3 t : S1x1024x1024.Idx → EReal) (ix3 0 k f) = _ := fun k f => iblk3_at m hO c t k f e he
    have e4 : ∀ f, (iblk m hO c 4 t : S1x1x1024.Idx → EReal) (ix3 0 0 f) = _ := fun f => iblk4_at m hO c t f e he
    exact congr (congr (congr (congr (congr (congrArg expertRow (funext e0)) (funext fun k => funext (e1 k))) (funext e2)) (funext fun k => funext (e3 k))) (funext e4)) rfl
  · rw [if_neg hu, if_neg (used_eq m c ▸ hu)]
    exact rest_at r j

/-- After the run the result array is the reference's result. -/
theorem final (hO : Ok m) (c : Dev nD) (hw : ∀ j : S289.Idx, ((m ((c : Thread nD τ).loc main_arg0) : S289.Idx → BitVec 32) j).toNat < 32) :
    (dats m hO 0 c).arrAt 5 (cfgM m hO).N
      = Cert.ReferenceIdeal.Experts.whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  refine (dats m hO 0 c).arrAt_eq_of_covers 5 _ (covers m hO) (fun t _ y => ?_) (Memref.isWhole_whole _)
  rw [after5]
  obtain ⟨r, j, rfl⟩ : ∃ (r : Fin 512) (j : Fin 1024), y = (ix2 r j : S512x1024.Idx) := ⟨_, _, eq_ix2 (n0 := 512) (n1 := 1024) y⟩
  have ht : t.val < 289 := t.isLt
  have hr := r.isLt
  have hi : t.val * 512 + r.val < 147968 := by omega
  refine Eq.trans ?_ (congrArg _ (emb5 m hO t r j ⟨_, hi⟩ rfl).symm)
  exact point m hO c hw t r j ⟨_, hi⟩ rfl

end Cert.KernelIdeal.Experts

end
-- ==== Proof.InpRow.lean ====
/-
  The input projection on one row, as plain functions of extended reals: the normed and modulated row, its
  products with the weight's columns, and the normed short convolution.
-/
module

public import Idealize.ShloMosaic.Lib.Pointwise

@[expose] public section

noncomputable section

namespace Cert.Inproj

open Idealize.ShloMosaic

/-- A row over its root mean square (of the constant's bits `n` as the number of entries), times the scale. -/
def normed {K : Nat} (n : BitVec 32) (x g : Fin K → EReal) (k : Fin K) : EReal :=
  x k * Ideal.rsqrt (Ideal.div (∑ k : Fin K, x k * x k) (Ideal.ofBits .f32 n) + Ideal.ofBits .f32 0x358637BD#32) * g k

/-- The normed row scaled and shifted by its modulation. -/
def hiddenRow (x m0 m1 g : Fin 1024 → EReal) (k : Fin 1024) : EReal := normed 0x44800000#32 x g k * (1 + m1 k) + m0 k

/-- The row's product with a column of the weight. -/
def proj (h : Fin 1024 → EReal) (w : Fin 1024 → Fin 2840 → EReal) (j : Fin 2840) : EReal := ∑ k : Fin 1024, h k * w k j

/-- The convolution's input: the product of the row's second and third group of columns. -/
def gated (u : Fin 2840 → EReal) (j : Fin 512) : EReal := u ⟨512 + j.val, by omega⟩ * u ⟨1024 + j.val, by omega⟩

/-- The short convolution of three successive rows, gated by the first group of columns. -/
def conv (u : Fin 2840 → EReal) (cw : Fin 3 → Fin 512 → EReal) (v2 v1 v0 : Fin 512 → EReal) (j : Fin 512) : EReal :=
  u ⟨j.val, by omega⟩ * (cw 0 j * v2 j + cw 1 j * v1 j + cw 2 j * v0 j)

/-- The convolution normed. -/
def convn (u : Fin 2840 → EReal) (cw : Fin 3 → Fin 512 → EReal) (gn v2 v1 v0 : Fin 512 → EReal) (j : Fin 512) : EReal :=
  normed 0x44000000#32 (conv u cw v2 v1 v0) gn j

/-- A gate. -/
def gateOf (x : EReal) : EReal := Ideal.div 1 (1 + Ideal.exp (-x))

end Cert.Inproj

end
-- ==== Proof.InpSample.lean ====
/-
  The sample rows' kernel: what each result's block holds, element by element.
-/
module

public import proofs.«01_k».proof.Proof.Gen.SampleIdeal.Frame
public import proofs.«01_k».proof.Proof.InpRow
public import Idealize.ShloMosaic.Lib.Pipeline.ValueKit
public import Idealize.ShloMosaic.Lib.ValueIdxRank6

@[expose] public section

set_option maxRecDepth 16384

noncomputable section

namespace Cert.SampleIdeal.Inproj

open Idealize.ShloMosaic Idealize.ShloMosaic.TcCoe Cert.SampleIdeal Cert.SampleIdeal.Gen Cert.Inproj

/-! ## The body's values over the input windows' blocks -/

section Blocks

variable (x0 : Vec Ideal S1x32x1024 .f32) (x1 : Vec Ideal S1x32x1024 .f32) (x2 : Vec Ideal S1x32x1024 .f32) (x3 : Vec Ideal S1x1024 .f32) (x4 : Vec Ideal S1024x2944 .bf16) (x5 : Vec Ideal S3x512 .f32) (x6 : Vec Ideal S1x512 .f32) (x7 : Vec Ideal S1x32x512 .f32) (x8 : Vec Ideal S1x32x512 .f32)

/-- The normed and modulated row `r` of the blocks. -/
def hrow (r : Fin 32) : Fin 1024 → EReal :=
  hiddenRow (fun k => x0 (ix3 0 r k)) (fun k => x1 (ix3 0 r k)) (fun k => x2 (ix3 0 r k)) (fun k => x3 (ix2 0 k))

/-- Its product with the block's columns. -/
def urow (r : Fin 32) : Fin 2840 → EReal :=
  proj (hrow x0 x1 x2 x3 r) (fun k j => x4 (ix2 k ⟨j.val, by omega⟩))

theorem pay25_at (r : Fin 32) (k : Fin 1024) : k0_pay25 x0 x1 x2 x3 x4 x5 x6 x7 x8 (ix2 r k) = hrow x0 x1 x2 x3 r k := by
  unfold k0_pay25
  pointwise [k0_pay2, hrow, hiddenRow, normed]

theorem pay3_at (r : Fin 32) (j : Fin 1536) :
    k0_pay3 (F := Ideal) (View.ld x0 r0_0) (View.ld x3 r0_1) (View.ld x2 r0_0) (View.ld x1 r0_0) (View.ld x4 r0_2) (ix2 r j) = urow x0 x1 x2 x3 x4 r ⟨j.val, by omega⟩ := by
  pointwise [k0_pay3, k0_pay2, urow, proj, hrow, hiddenRow, normed]

theorem pay3_at' (r : Fin 32) (j : Fin 1536) :
    k0_pay3 (F := Ideal) x0 x3 x2 x1 (View.ld x4 r0_2) (ix2 r j) = urow x0 x1 x2 x3 x4 r ⟨j.val, by omega⟩ := by
  pointwise [k0_pay3, k0_pay2, urow, proj, hrow, hiddenRow, normed]

theorem out11_at (r : Fin 32) (j : Fin 256) :
    out0_11 x0 x1 x2 x3 x4 x5 x6 x7 x8 (ix3 0 r j) = urow x0 x1 x2 x3 x4 r ⟨2048 + j.val, by omega⟩ := by
  unfold out0_11
  frame_out
  pointwise [k0_pay21, k0_pay20, pay25_at, urow, proj]

theorem out12_at (r : Fin 32) (j : Fin 256) :
    out0_12 x0 x1 x2 x3 x4 x5 x6 x7 x8 (ix3 0 r j) = urow x0 x1 x2 x3 x4 r ⟨2048 + (256 + j.val), by omega⟩ := by
  unfold out0_12
  frame_out
  pointwise [k0_pay22, k0_pay20, pay25_at, urow, proj]

theorem out13_at (r : Fin 32) (j : Fin 256) :
    out0_13 x0 x1 x2 x3 x4 x5 x6 x7 x8 (ix3 0 r j) = urow x0 x1 x2 x3 x4 r ⟨2048 + (512 + j.val), by omega⟩ := by
  unfold out0_13
  frame_out
  pointwise [k0_pay23, k0_pay20, pay25_at, urow, proj]

theorem out14_at (r : Fin 32) (j : Fin 24) :
    out0_14 x0 x1 x2 x3 x4 x5 x6 x7 x8 (ix3 0 r ⟨j.val, by omega⟩) = gateOf (urow x0 x1 x2 x3 x4 r ⟨2816 + j.val, by omega⟩) := by
  unfold out0_14
  frame_out
  pointwise [k0_pay1, k0_pay24, pay25_at, urow, proj, gateOf]
  rw [zero_sub]

theorem pay26_at (r : Fin 32) (j : Fin 512) : k0_pay26 x0 x1 x2 x3 x4 x5 x6 x7 x8 (ix2 r j) = gated (urow x0 x1 x2 x3 x4 r) j := by
  unfold k0_pay26
  pointwise [k0_pay5, pay3_at, gated]

theorem out15_at (r : Fin 32) (j : Fin 512) : out0_15 x0 x1 x2 x3 x4 x5 x6 x7 x8 (ix3 0 r j) = gated (urow x0 x1 x2 x3 x4 r) j := by
  unfold out0_15
  frame_out
  pointwise [k0_pay7, pay26_at]

theorem out9_at (r : Fin 32) (j : Fin 512) :
    out0_9 x0 x1 x2 x3 x4 x5 x6 x7 x8 (ix3 0 r j)
      = convn (urow x0 x1 x2 x3 x4 r) (fun k j => x5 (ix2 k j)) (fun j => x6 (ix2 0 j)) (fun j => x7 (ix3 0 r j)) (fun j => x8 (ix3 0 r j)) (gated (urow x0 x1 x2 x3 x4 r)) j := by
  unfold out0_9
  frame_out
  pointwise [k0_pay8, k0_pay4, k0_pay6, pay3_at', pay26_at, convn, conv, normed]

theorem pay29_at (r : Fin 32) (j : Fin 512) :
    k0_pay29 x0 x1 x2 x3 x4 x5 x6 x7 x8 (ix2 r j) = urow x0 x1 x2 x3 x4 r ⟨1536 + j.val, by omega⟩ * Ideal.ofBits .f32 0x3E000000#32 := by
  unfold k0_pay29 k0_pay28 k0_pay27
  pointwise [k0_pay11, k0_pay10, k0_pay9, pay25_at, urow, proj]

theorem out10_at (h : Fin 8) (r : Fin 32) (d : Fin 64) :
    out0_10 x0 x1 x2 x3 x4 x5 x6 x7 x8 (ix4 0 h r d) = urow x0 x1 x2 x3 x4 r ⟨1536 + (h.val * 64 + d.val), by omega⟩ * Ideal.ofBits .f32 0x3E000000#32 := by
  refine Eq.trans (b := k0_pay29 x0 x1 x2 x3 x4 x5 x6 x7 x8 (ix2 r ⟨h.val * 64 + d.val, by omega⟩)) ?_ (pay29_at ..)
  unfold out0_10
  canon_tiles x q
  all_goals
    (have h1 : h.val = _ := q1
     have h2 : r.val = _ := q2
     have h3 : d.val = _ := q3
     unfold k0_pay29; open_payloads; pointwise; blk_ext <;> omega)

end Blocks

/-! ## The input windows' blocks -/

variable (m : (ℓ : Loc nD τ sig) → Buf (Elt Ideal) ℓ)

/-- The one point reads each array whole. -/
theorem idxIn : ∀ t : Fin cfg0.N, win0_0.index t 0 = 0 ∧ win0_0.index t 1 = 0 ∧ win0_0.index t 2 = 0 ∧ win0_1.index t 0 = 0 ∧ win0_1.index t 1 = 0 ∧ win0_1.index t 2 = 0 ∧ win0_2.index t 0 = 0 ∧ win0_2.index t 1 = 0 ∧ win0_2.index t 2 = 0 ∧ win0_3.index t 0 = 0 ∧ win0_3.index t 1 = 0 ∧ win0_4.index t 0 = 0 ∧ win0_4.index t 1 = 0
    ∧ win0_5.index t 0 = 0 ∧ win0_5.index t 1 = 0 ∧ win0_6.index t 0 = 0 ∧ win0_6.index t 1 = 0 ∧ win0_7.index t 0 = 0 ∧ win0_7.index t 1 = 0 ∧ win0_7.index t 2 = 0 ∧ win0_8.index t 0 = 0 ∧ win0_8.index t 1 = 0 ∧ win0_8.index t 2 = 0 :=
  (by decide +kernel : ∀ t : Fin grid0.N, _)

/-- The one point writes each array whole. -/
theorem idxOut : ∀ t : Fin cfg0.N, win0_9.index t 0 = 0 ∧ win0_9.index t 1 = 0 ∧ win0_9.index t 2 = 0 ∧ win0_10.index t 0 = 0 ∧ win0_10.index t 1 = 0 ∧ win0_10.index t 2 = 0 ∧ win0_10.index t 3 = 0 ∧ win0_11.index t 0 = 0 ∧ win0_11.index t 1 = 0 ∧ win0_11.index t 2 = 0
    ∧ win0_12.index t 0 = 0 ∧ win0_12.index t 1 = 0 ∧ win0_12.index t 2 = 0 ∧ win0_13.index t 0 = 0 ∧ win0_13.index t 1 = 0 ∧ win0_13.index t 2 = 0 ∧ win0_14.index t 0 = 0 ∧ win0_14.index t 1 = 0 ∧ win0_14.index t 2 = 0 ∧ win0_15.index t 0 = 0 ∧ win0_15.index t 1 = 0 ∧ win0_15.index t 2 = 0 :=
  (by decide +kernel : ∀ t : Fin grid0.N, _)

/-- The arrays as the region finds them. -/
theorem entry (c : Dev nD) :
    (V m c main_v3 : S1x32x1024.Idx → EReal) = shapeCast S1x32x1024 (m ((c : Thread nD τ).loc main_arg0) : S32x1x1024.Idx → EReal) shapeCasts_S32x1x1024_S1x32x1024
    ∧ (V m c main_v15 : S1x1024.Idx → EReal) = shapeCast S1x1024 (shapeCast S1024 (m ((c : Thread nD τ).loc main_arg5) : S1x1024.Idx → EReal) shapeCasts_S1x1024_S1024) shapeCasts_S1024_S1x1024
    ∧ (V m c main_v2 : S1024x2944.Idx → EReal) = pad S1024x2944 ![0, 0] ![0, 104] ![0, 0] (shapeCast S1024x2840 (m ((c : Thread nD τ).loc main_arg6) : S1x1024x2840.Idx → EReal) shapeCasts_S1x1024x2840_S1024x2840)
        (sitofp (F := Ideal) .f32 (constantI S_ 32 0#32)) pads_S1024x2840_S1024x2944_000_01040 h_S_
    ∧ (V m c main_v13 : S3x512.Idx → EReal) = shapeCast S3x512 (m ((c : Thread nD τ).loc main_arg7) : S1x3x512.Idx → EReal) shapeCasts_S1x3x512_S3x512
    ∧ (V m c main_v16 : S1x512.Idx → EReal) = shapeCast S1x512 (shapeCast S512 (m ((c : Thread nD τ).loc main_arg8) : S1x512.Idx → EReal) shapeCasts_S1x512_S512) shapeCasts_S512_S1x512
    ∧ (V m c main_v7 : S1x32x512.Idx → EReal) = shapeCast S1x32x512 (shapeCast S32x512 (extractStridedSlice S32x1x512 ![0, 0, 0] (shapeCast S32x2x512 (m ((c : Thread nD τ).loc main_arg2) : S1x32x2x512.Idx → EReal)
        shapeCasts_S1x32x2x512_S32x2x512) slices_S32x2x512_S32x1x512_0_0_0) shapeCasts_S32x1x512_S32x512) shapeCasts_S32x512_S1x32x512
    ∧ (V m c main_v11 : S1x32x512.Idx → EReal) = shapeCast S1x32x512 (shapeCast S32x512 (extractStridedSlice S32x1x512 ![0, 1, 0] (shapeCast S32x2x512 (m ((c : Thread nD τ).loc main_arg2) : S1x32x2x512.Idx → EReal)
        shapeCasts_S1x32x2x512_S32x2x512) slices_S32x2x512_S32x1x512_0_1_0) shapeCasts_S32x1x512_S32x512) shapeCasts_S32x512_S1x32x512 := by
  refine ⟨?_, ?_, ?_, ?_, ?_, ?_, ?_⟩ <;>
  · show StableHlo.after (List.flatten [hostOps0, hostOps0_1, hostOps0_2]) (fun b => m (c, b)) _ = _
    simp only [hostOps0, hostOps0_1, hostOps0_2, List.flatten_cons, List.flatten_nil, List.append_nil, List.cons_append, List.nil_append]
    after_results
    try rfl

/-! The arrays the host lines make, at coordinates. -/

theorem move0 (a : S32x1x1024.Idx → EReal) (r : Fin 32) (k : Fin 1024) : shapeCast S1x32x1024 a shapeCasts_S32x1x1024_S1x32x1024 (ix3 0 r k) = a (ix3 r 0 k) := by pointwise

theorem move3 (a : S1x1024.Idx → EReal) (k : Fin 1024) : shapeCast S1x1024 (shapeCast S1024 a shapeCasts_S1x1024_S1024) shapeCasts_S1024_S1x1024 (ix2 0 k) = a (ix2 0 k) := by pointwise

theorem move4 (a : S1x1024x2840.Idx → EReal) (k : Fin 1024) (j : Fin 2840) :
    pad S1024x2944 ![0, 0] ![0, 104] ![0, 0] (shapeCast S1024x2840 a shapeCasts_S1x1024x2840_S1024x2840) (sitofp (F := Ideal) .f32 (constantI S_ 32 0#32)) pads_S1024x2840_S1024x2944_000_01040 h_S_
      (ix2 k ⟨j.val, by omega⟩) = a (ix3 0 k j) := by pointwise

theorem move5 (a : S1x3x512.Idx → EReal) (k : Fin 3) (j : Fin 512) : shapeCast S3x512 a shapeCasts_S1x3x512_S3x512 (ix2 k j) = a (ix3 0 k j) := by pointwise

theorem move6 (a : S1x512.Idx → EReal) (j : Fin 512) : shapeCast S1x512 (shapeCast S512 a shapeCasts_S1x512_S512) shapeCasts_S512_S1x512 (ix2 0 j) = a (ix2 0 j) := by pointwise

theorem move7 (a : S1x32x2x512.Idx → EReal) (r : Fin 32) (j : Fin 512) :
    shapeCast S1x32x512 (shapeCast S32x512 (extractStridedSlice S32x1x512 ![0, 0, 0] (shapeCast S32x2x512 a shapeCasts_S1x32x2x512_S32x2x512) slices_S32x2x512_S32x1x512_0_0_0)
      shapeCasts_S32x1x512_S32x512) shapeCasts_S32x512_S1x32x512 (ix3 0 r j) = a (ix4 0 r 0 j) := by pointwise

theorem move8 (a : S1x32x2x512.Idx → EReal) (r : Fin 32) (j : Fin 512) :
    shapeCast S1x32x512 (shapeCast S32x512 (extractStridedSlice S32x1x512 ![0, 1, 0] (shapeCast S32x2x512 a shapeCasts_S1x32x2x512_S32x2x512) slices_S32x2x512_S32x1x512_0_1_0)
      shapeCasts_S32x1x512_S32x512) shapeCasts_S32x512_S1x32x512 (ix3 0 r j) = a (ix4 0 r 1 j) := by pointwise

/-! The input windows' blocks at coordinates. -/

theorem iblk0_at (c : Dev nD) (t : Fin cfg0.N) (r : Fin 32) (k : Fin 1024) : (iblk m c 0 t : S1x32x1024.Idx → EReal) (ix3 0 r k) = (m ((c : Thread nD τ).loc main_arg0) : S32x1x1024.Idx → EReal) (ix3 r 0 k) := by
  refine Eq.trans (b := (V m c main_v3 : S1x32x1024.Idx → EReal) (ix3 0 r k)) (by blk_ext [iblk, idxIn t]) ?_
  exact (congrFun (entry m c).1 _).trans (move0 _ r k)

theorem iblk1_at (c : Dev nD) (t : Fin cfg0.N) (r : Fin 32) (k : Fin 1024) : (iblk m c 1 t : S1x32x1024.Idx → EReal) (ix3 0 r k) = (m ((c : Thread nD τ).loc main_arg3) : S1x32x1024.Idx → EReal) (ix3 0 r k) := by
  refine Eq.trans (b := (V m c main_arg3 : S1x32x1024.Idx → EReal) (ix3 0 r k)) (by blk_ext [iblk, idxIn t]) ?_
  rw [V_main_arg3]

theorem iblk2_at (c : Dev nD) (t : Fin cfg0.N) (r : Fin 32) (k : Fin 1024) : (iblk m c 2 t : S1x32x1024.Idx → EReal) (ix3 0 r k) = (m ((c : Thread nD τ).loc main_arg4) : S1x32x1024.Idx → EReal) (ix3 0 r k) := by
  refine Eq.trans (b := (V m c main_arg4 : S1x32x1024.Idx → EReal) (ix3 0 r k)) (by blk_ext [iblk, idxIn t]) ?_
  rw [V_main_arg4]

theorem iblk3_at (c : Dev nD) (t : Fin cfg0.N) (k : Fin 1024) : (iblk m c 3 t : S1x1024.Idx → EReal) (ix2 0 k) = (m ((c : Thread nD τ).loc main_arg5) : S1x1024.Idx → EReal) (ix2 0 k) := by
  refine Eq.trans (b := (V m c main_v15 : S1x1024.Idx → EReal) (ix2 0 k)) (by blk_ext [iblk, idxIn t]) ?_
  exact (congrFun (entry m c).2.1 _).trans (move3 _ k)

theorem iblk4_at (c : Dev nD) (t : Fin cfg0.N) (k : Fin 1024) (j : Fin 2840) : (iblk m c 4 t : S1024x2944.Idx → EReal) (ix2 k ⟨j.val, by omega⟩) = (m ((c : Thread nD τ).loc main_arg6) : S1x1024x2840.Idx → EReal) (ix3 0 k j) := by
  refine Eq.trans (b := (V m c main_v2 : S1024x2944.Idx → EReal) (ix2 k ⟨j.val, by omega⟩)) (by blk_ext [iblk, idxIn t]) ?_
  exact (congrFun (entry m c).2.2.1 _).trans (move4 _ k j)

theorem iblk5_at (c : Dev nD) (t : Fin cfg0.N) (k : Fin 3) (j : Fin 512) : (iblk m c 5 t : S3x512.Idx → EReal) (ix2 k j) = (m ((c : Thread nD τ).loc main_arg7) : S1x3x512.Idx → EReal) (ix3 0 k j) := by
  refine Eq.trans (b := (V m c main_v13 : S3x512.Idx → EReal) (ix2 k j)) (by blk_ext [iblk, idxIn t]) ?_
  exact (congrFun (entry m c).2.2.2.1 _).trans (move5 _ k j)

theorem iblk6_at (c : Dev nD) (t : Fin cfg0.N) (j : Fin 512) : (iblk m c 6 t : S1x512.Idx → EReal) (ix2 0 j) = (m ((c : Thread nD τ).loc main_arg8) : S1x512.Idx → EReal) (ix2 0 j) := by
  refine Eq.trans (b := (V m c main_v16 : S1x512.Idx → EReal) (ix2 0 j)) (by blk_ext [iblk, idxIn t]) ?_
  exact (congrFun (entry m c).2.2.2.2.1 _).trans (move6 _ j)

theorem iblk7_at (c : Dev nD) (t : Fin cfg0.N) (r : Fin 32) (j : Fin 512) : (iblk m c 7 t : S1x32x512.Idx → EReal) (ix3 0 r j) = (m ((c : Thread nD τ).loc main_arg2) : S1x32x2x512.Idx → EReal) (ix4 0 r 0 j) := by
  refine Eq.trans (b := (V m c main_v7 : S1x32x512.Idx → EReal) (ix3 0 r j)) (by blk_ext [iblk, idxIn t]) ?_
  exact (congrFun (entry m c).2.2.2.2.2.1 _).trans (move7 _ r j)

theorem iblk8_at (c : Dev nD) (t : Fin cfg0.N) (r : Fin 32) (j : Fin 512) : (iblk m c 8 t : S1x32x512.Idx → EReal) (ix3 0 r j) = (m ((c : Thread nD τ).loc main_arg2) : S1x32x2x512.Idx → EReal) (ix4 0 r 1 j) := by
  refine Eq.trans (b := (V m c main_v11 : S1x32x512.Idx → EReal) (ix3 0 r j)) (by blk_ext [iblk, idxIn t]) ?_
  exact (congrFun (entry m c).2.2.2.2.2.2 _).trans (move8 _ r j)

/-! ## The region's result arrays -/

/-- Row `r`'s products, over the arguments. -/
def uArg (c : Dev nD) (r : Fin 32) : Fin 2840 → EReal :=
  proj (hiddenRow (fun k => (m ((c : Thread nD τ).loc main_arg0) : S32x1x1024.Idx → EReal) (ix3 r 0 k)) (fun k => (m ((c : Thread nD τ).loc main_arg3) : S1x32x1024.Idx → EReal) (ix3 0 r k))
      (fun k => (m ((c : Thread nD τ).loc main_arg4) : S1x32x1024.Idx → EReal) (ix3 0 r k)) (fun k => (m ((c : Thread nD τ).loc main_arg5) : S1x1024.Idx → EReal) (ix2 0 k)))
    (fun k j => (m ((c : Thread nD τ).loc main_arg6) : S1x1024x2840.Idx → EReal) (ix3 0 k j))

theorem urow_iblk (c : Dev nD) (t : Fin cfg0.N) (r : Fin 32) :
    urow (iblk m c 0 t) (iblk m c 1 t) (iblk m c 2 t) (iblk m c 3 t) (iblk m c 4 t) r = uArg m c r := by
  unfold urow hrow uArg
  exact congr (congrArg proj (congr (congr (congr (congrArg hiddenRow (funext (iblk0_at m c t r))) (funext (iblk1_at m c t r))) (funext (iblk2_at m c t r))) (funext (iblk3_at m c t))))
    (funext fun k => funext (iblk4_at m c t k))

/-- The normed convolution's row `r`, over the arguments. -/
def convArg (c : Dev nD) (r : Fin 32) : Fin 512 → EReal :=
  convn (uArg m c r) (fun k j => (m ((c : Thread nD τ).loc main_arg7) : S1x3x512.Idx → EReal) (ix3 0 k j)) (fun j => (m ((c : Thread nD τ).loc main_arg8) : S1x512.Idx → EReal) (ix2 0 j))
    (fun j => (m ((c : Thread nD τ).loc main_arg2) : S1x32x2x512.Idx → EReal) (ix4 0 r 0 j)) (fun j => (m ((c : Thread nD τ).loc main_arg2) : S1x32x2x512.Idx → EReal) (ix4 0 r 1 j)) (gated (uArg m c r))

theorem convn_iblk (c : Dev nD) (t : Fin cfg0.N) (r : Fin 32) :
    convn (urow (iblk m c 0 t) (iblk m c 1 t) (iblk m c 2 t) (iblk m c 3 t) (iblk m c 4 t) r) (fun k j => (iblk m c 5 t : S3x512.Idx → EReal) (ix2 k j)) (fun j => (iblk m c 6 t : S1x512.Idx → EReal) (ix2 0 j))
      (fun j => (iblk m c 7 t : S1x32x512.Idx → EReal) (ix3 0 r j)) (fun j => (iblk m c 8 t : S1x32x512.Idx → EReal) (ix3 0 r j))
      (gated (urow (iblk m c 0 t) (iblk m c 1 t) (iblk m c 2 t) (iblk m c 3 t) (iblk m c 4 t) r)) = convArg m c r := by
  unfold convArg
  exact congr (congr (congr (congr (congr (congrArg convn (urow_iblk m c t r)) (funext fun k => funext (iblk5_at m c t k))) (funext (iblk6_at m c t))) (funext (iblk7_at m c t r)))
    (funext (iblk8_at m c t r))) (congrArg gated (urow_iblk m c t r))

theorem arr9 (c : Dev nD) (r : Fin 32) (j : Fin 512) :
    ((dats m 0 c).arrAt 9 (cfgs 0).N : S1x32x512.Idx → EReal) (ix3 0 r j) = convArg m c r j := by
  refine Eq.trans (congrFun ((dats m 0 c).arrAt_eq_of_after_last 9 t0_0 (by decide +kernel) _ fun y => ?_) _) ((out9_at _ _ _ _ _ (iblk m c 5 t0_0) (iblk m c 6 t0_0) (iblk m c 7 t0_0) (iblk m c 8 t0_0) r j).trans (congrFun (convn_iblk m c t0_0 r) j))
  blk_simp
  rw [after0_9]
  blk_ext [idxOut t0_0]

theorem arr10 (c : Dev nD) (h : Fin 8) (r : Fin 32) (d : Fin 64) :
    ((dats m 0 c).arrAt 10 (cfgs 0).N : S1x8x32x64.Idx → EReal) (ix4 0 h r d) = uArg m c r ⟨1536 + (h.val * 64 + d.val), by omega⟩ * Ideal.ofBits .f32 0x3E000000#32 := by
  refine Eq.trans (congrFun ((dats m 0 c).arrAt_eq_of_after_last 10 t0_0 (by decide +kernel) _ fun y => ?_) _) ((out10_at _ _ _ _ _ (iblk m c 5 t0_0) (iblk m c 6 t0_0) (iblk m c 7 t0_0) (iblk m c 8 t0_0) h r d).trans (congrArg (· * Ideal.ofBits .f32 0x3E000000#32) (congrFun (urow_iblk m c t0_0 r) _)))
  blk_simp
  rw [after0_10]
  blk_ext [idxOut t0_0]

theorem arr11 (c : Dev nD) (r : Fin 32) (j : Fin 256) :
    ((dats m 0 c).arrAt 11 (cfgs 0).N : S1x32x256.Idx → EReal) (ix3 0 r j) = uArg m c r ⟨2048 + j.val, by omega⟩ := by
  refine Eq.trans (congrFun ((dats m 0 c).arrAt_eq_of_after_last 11 t0_0 (by decide +kernel) _ fun y => ?_) _) ((out11_at _ _ _ _ _ (iblk m c 5 t0_0) (iblk m c 6 t0_0) (iblk m c 7 t0_0) (iblk m c 8 t0_0) r j).trans (congrFun (urow_iblk m c t0_0 r) _))
  blk_simp
  rw [after0_11]
  blk_ext [idxOut t0_0]

theorem arr12 (c : Dev nD) (r : Fin 32) (j : Fin 256) :
    ((dats m 0 c).arrAt 12 (cfgs 0).N : S1x32x256.Idx → EReal) (ix3 0 r j) = uArg m c r ⟨2048 + (256 + j.val), by omega⟩ := by
  refine Eq.trans (congrFun ((dats m 0 c).arrAt_eq_of_after_last 12 t0_0 (by decide +kernel) _ fun y => ?_) _) ((out12_at _ _ _ _ _ (iblk m c 5 t0_0) (iblk m c 6 t0_0) (iblk m c 7 t0_0) (iblk m c 8 t0_0) r j).trans (congrFun (urow_iblk m c t0_0 r) _))
  blk_simp
  rw [after0_12]
  blk_ext [idxOut t0_0]

theorem arr13 (c : Dev nD) (r : Fin 32) (j : Fin 256) :
    ((dats m 0 c).arrAt 13 (cfgs 0).N : S1x32x256.Idx → EReal) (ix3 0 r j) = uArg m c r ⟨2048 + (512 + j.val), by omega⟩ := by
  refine Eq.trans (congrFun ((dats m 0 c).arrAt_eq_of_after_last 13 t0_0 (by decide +kernel) _ fun y => ?_) _) ((out13_at _ _ _ _ _ (iblk m c 5 t0_0) (iblk m c 6 t0_0) (iblk m c 7 t0_0) (iblk m c 8 t0_0) r j).trans (congrFun (urow_iblk m c t0_0 r) _))
  blk_simp
  rw [after0_13]
  blk_ext [idxOut t0_0]

theorem arr14 (c : Dev nD) (r : Fin 32) (j : Fin 24) :
    ((dats m 0 c).arrAt 14 (cfgs 0).N : S1x32x128.Idx → EReal) (ix3 0 r ⟨j.val, by omega⟩) = gateOf (uArg m c r ⟨2816 + j.val, by omega⟩) := by
  refine Eq.trans (congrFun ((dats m 0 c).arrAt_eq_of_after_last 14 t0_0 (by decide +kernel) _ fun y => ?_) _) ((out14_at _ _ _ _ _ (iblk m c 5 t0_0) (iblk m c 6 t0_0) (iblk m c 7 t0_0) (iblk m c 8 t0_0) r j).trans (congrArg gateOf (congrFun (urow_iblk m c t0_0 r) _)))
  blk_simp
  rw [after0_14]
  blk_ext [idxOut t0_0]

theorem arr15 (c : Dev nD) (r : Fin 32) (j : Fin 512) :
    ((dats m 0 c).arrAt 15 (cfgs 0).N : S1x32x512.Idx → EReal) (ix3 0 r j) = gated (uArg m c r) j := by
  refine Eq.trans (congrFun ((dats m 0 c).arrAt_eq_of_after_last 15 t0_0 (by decide +kernel) _ fun y => ?_) _) ((out15_at _ _ _ _ _ (iblk m c 5 t0_0) (iblk m c 6 t0_0) (iblk m c 7 t0_0) (iblk m c 8 t0_0) r j).trans (congrArg (fun u => gated u j) (urow_iblk m c t0_0 r)))
  blk_simp
  rw [after0_15]
  blk_ext [idxOut t0_0]

end Cert.SampleIdeal.Inproj

end
-- ==== Proof.InpSampleRef.lean ====
/-
  The sample rows' reference in stages, element by element.
-/
module

public import proofs.«01_k».proof.Proof.Gen.SampleRefIdeal.Run
public import proofs.«01_k».proof.Proof.InpRow
public import Idealize.ShloMosaic.Lib.ValueIdxRank6

@[expose] public section

set_option maxRecDepth 16384

noncomputable section

namespace Cert.SampleRefIdeal.Inproj

open Idealize.ShloMosaic Cert.SampleRefIdeal Cert.SampleRefIdeal.Gen Cert.Inproj

/-! ## The stages -/

/-- The normed and modulated rows. -/
def hid (a0 : FVec Ideal S32x1x1024 .f32) (a3 a4 : FVec Ideal S1x32x1024 .f32) (a5 : FVec Ideal S1x1024 .f32) : FVec Ideal S32x1x1024 .f32 :=
  addf (mulf (mulf (mulf a0 (broadcastInDim S32x1x1024 ![0, 1, 2] bcast_S32x1x1_S32x1x1024_0_1_2 (Host.rsqrt (addf (Host.divf (broadcastInDim S32x1x1 ![0, 1] bcast_S32x1_S32x1x1_0_1
      (Host.reduceAdd (mulf a0 a0) (constant S_ .f32 0x00000000#32) reducesTo_S32x1x1024_S32x1_d2 h_S_)) (broadcastInDim S32x1x1 ![] bcast_S_S32x1x1 (constant S_ .f32 0x44800000#32)))
      (broadcastInDim S32x1x1 ![] bcast_S_S32x1x1 (constant S_ .f32 0x358637BD#32)))))) (broadcastInDim S32x1x1024 ![0, 1, 2] bcast_S1x1x1024_S32x1x1024_0_1_2
      (broadcastInDim S1x1x1024 ![2] bcast_S1024_S1x1x1024_2 (shapeCast _ a5 shapeCasts_S1x1024_S1024))))
      (addf (broadcastInDim S32x1x1024 ![] bcast_S_S32x1x1024 (constant S_ .f32 0x3F800000#32)) (shapeCast _ a4 shapeCasts_S1x32x1024_S32x1x1024)))
    (shapeCast _ a3 shapeCasts_S1x32x1024_S32x1x1024)

/-- The rows' products with the weight. -/
def prod (h : FVec Ideal S32x1x1024 .f32) (a6 : FVec Ideal S1x1024x2840 .f32) : FVec Ideal S32x1x2840 .f32 :=
  Host.dotGeneral dot_S32x1x1024_S1024x2840_S32x1x2840_2_0_01_1_n_n none h (shapeCast _ a6 shapeCasts_S1x1024x2840_S1024x2840)

/-- The convolution's input after the two rows before it. -/
def vp (u : FVec Ideal S32x1x2840 .f32) (a2 : FVec Ideal S1x32x2x512 .f32) : FVec Ideal S32x3x512 .f32 :=
  concatenate S32x3x512 1 [⟨S32x2x512, (shapeCast _ a2 shapeCasts_S1x32x2x512_S32x2x512)⟩, ⟨S32x1x512, (mulf (extractStridedSlice S32x1x512 ![0, 0, 512] u slices_S32x1x2840_S32x1x512_0_0_512)
    (extractStridedSlice S32x1x512 ![0, 0, 1024] u slices_S32x1x2840_S32x1x512_0_0_1024))⟩] concatenates_S32x2x512_S32x1x512_S32x3x512_d1

/-- The gated convolution. -/
def cv (u : FVec Ideal S32x1x2840 .f32) (p : FVec Ideal S32x3x512 .f32) (a7 : FVec Ideal S1x3x512 .f32) : FVec Ideal S32x1x512 .f32 :=
  mulf (extractStridedSlice S32x1x512 ![0, 0, 0] u slices_S32x1x2840_S32x1x512_0_0_0) (addf (addf (addf (broadcastInDim S32x1x512 ![] bcast_S_S32x1x512 (constant S_ .f32 0x00000000#32))
    (mulf (broadcastInDim S32x1x512 ![0, 1, 2] bcast_S1x1x512_S32x1x512_0_1_2 (broadcastInDim S1x1x512 ![2] bcast_S512_S1x1x512_2 (shapeCast _ (extractStridedSlice S1x512 ![0, 0] (shapeCast _ a7 shapeCasts_S1x3x512_S3x512) slices_S3x512_S1x512_0_0) shapeCasts_S1x512_S512)))
      (extractStridedSlice S32x1x512 ![0, 0, 0] p slices_S32x3x512_S32x1x512_0_0_0)))
    (mulf (broadcastInDim S32x1x512 ![0, 1, 2] bcast_S1x1x512_S32x1x512_0_1_2 (broadcastInDim S1x1x512 ![2] bcast_S512_S1x1x512_2 (shapeCast _ (extractStridedSlice S1x512 ![1, 0] (shapeCast _ a7 shapeCasts_S1x3x512_S3x512) slices_S3x512_S1x512_1_0) shapeCasts_S1x512_S512)))
      (extractStridedSlice S32x1x512 ![0, 1, 0] p slices_S32x3x512_S32x1x512_0_1_0)))
    (mulf (broadcastInDim S32x1x512 ![0, 1, 2] bcast_S1x1x512_S32x1x512_0_1_2 (broadcastInDim S1x1x512 ![2] bcast_S512_S1x1x512_2 (shapeCast _ (extractStridedSlice S1x512 ![2, 0] (shapeCast _ a7 shapeCasts_S1x3x512_S3x512) slices_S3x512_S1x512_2_0) shapeCasts_S1x512_S512)))
      (extractStridedSlice S32x1x512 ![0, 2, 0] p slices_S32x3x512_S32x1x512_0_2_0)))

/-- The convolution normed. -/
def cn (y : FVec Ideal S32x1x512 .f32) (a8 : FVec Ideal S1x512 .f32) : FVec Ideal S1x32x512 .bf16 :=
  truncf .bf16 (shapeCast _ (mulf (mulf y (broadcastInDim S32x1x512 ![0, 1, 2] bcast_S32x1x1_S32x1x512_0_1_2 (Host.rsqrt (addf (Host.divf (broadcastInDim S32x1x1 ![0, 1] bcast_S32x1_S32x1x1_0_1
      (Host.reduceAdd (mulf y y) (constant S_ .f32 0x00000000#32) reducesTo_S32x1x512_S32x1_d2 h_S_)) (broadcastInDim S32x1x1 ![] bcast_S_S32x1x1 (constant S_ .f32 0x44000000#32)))
      (broadcastInDim S32x1x1 ![] bcast_S_S32x1x1 (constant S_ .f32 0x358637BD#32))))))
    (broadcastInDim S32x1x512 ![0, 1, 2] bcast_S1x1x512_S32x1x512_0_1_2 (broadcastInDim S1x1x512 ![2] bcast_S512_S1x1x512_2 (shapeCast _ a8 shapeCasts_S1x512_S512)))) shapeCasts_S32x1x512_S1x32x512) bitsLt_bf16_f32

/-- The new keys and values for the compression. -/
def kc (u : FVec Ideal S32x1x2840 .f32) : FVec Ideal S1x32x1x2x2x64 .f32 :=
  broadcastInDim S1x32x1x2x2x64 ![1, 2, 3, 4, 5] bcast_S32x1x2x2x64_S1x32x1x2x2x64_1_2_3_4_5 (shapeCast _ (extractStridedSlice S32x1x256 ![0, 0, 2048] u slices_S32x1x2840_S32x1x256_0_0_2048) shapeCasts_S32x1x256_S32x1x2x2x64)

/-- The new keys and values for the selection. -/
def ks (u : FVec Ideal S32x1x2840 .f32) : FVec Ideal S1x32x1x2x2x64 .f32 :=
  broadcastInDim S1x32x1x2x2x64 ![1, 2, 3, 4, 5] bcast_S32x1x2x2x64_S1x32x1x2x2x64_1_2_3_4_5 (shapeCast _ (extractStridedSlice S32x1x256 ![0, 0, 2304] u slices_S32x1x2840_S32x1x256_0_0_2304) shapeCasts_S32x1x256_S32x1x2x2x64)

/-- The window's rows, the oldest dropped and the new one last. -/
def wn (u : FVec Ideal S32x1x2840 .f32) (a1 : FVec Ideal S1x32x512x2x2x64 .f32) : FVec Ideal S1x32x512x2x2x64 .f32 :=
  broadcastInDim S1x32x512x2x2x64 ![1, 2, 3, 4, 5] bcast_S32x512x2x2x64_S1x32x512x2x2x64_1_2_3_4_5 (extractStridedSlice S32x512x2x2x64 ![0, 1, 0, 0, 0]
    (concatenate S32x513x2x2x64 1 [⟨S32x512x2x2x64, (shapeCast _ a1 shapeCasts_S1x32x512x2x2x64_S32x512x2x2x64)⟩, ⟨S32x1x2x2x64, (shapeCast _ (extractStridedSlice S32x1x256 ![0, 0, 2560] u slices_S32x1x2840_S32x1x256_0_0_2560) shapeCasts_S32x1x256_S32x1x2x2x64)⟩]
      concatenates_S32x512x2x2x64_S32x1x2x2x64_S32x513x2x2x64_d1) slices_S32x513x2x2x64_S32x512x2x2x64_0_1_0_0_0)

/-- The convolution's last two input rows. -/
def cs (p : FVec Ideal S32x3x512 .f32) : FVec Ideal S1x32x2x512 .f32 :=
  broadcastInDim S1x32x2x512 ![1, 2, 3] bcast_S32x2x512_S1x32x2x512_1_2_3 (extractStridedSlice S32x2x512 ![0, 1, 0] p slices_S32x3x512_S32x2x512_0_1_0)

/-- The scaled queries, head by head. -/
def qs (u : FVec Ideal S32x1x2840 .f32) : FVec Ideal S1x8x32x64 .bf16 :=
  truncf .bf16 (transpose S1x8x32x64 [0, 2, 1, 3] (shapeCast _ (mulf (shapeCast _ (extractStridedSlice S32x1x512 ![0, 0, 1536] u slices_S32x1x2840_S32x1x512_0_0_1536) shapeCasts_S32x1x512_S32x1x8x64)
    (broadcastInDim S32x1x8x64 ![] bcast_S_S32x1x8x64 (constant S_ .f32 0x3E000000#32))) shapeCasts_S32x1x8x64_S1x32x8x64) transposes_S1x32x8x64_S1x8x32x64_0_2_1_3) bitsLt_bf16_f32

/-- The gates of the attention's branches. -/
def gt (u : FVec Ideal S32x1x2840 .f32) : FVec Ideal S1x32x24 .f32 :=
  shapeCast _ (Host.divf (broadcastInDim S32x1x24 ![] bcast_S_S32x1x24 (constant S_ .f32 0x3F800000#32)) (addf (broadcastInDim S32x1x24 ![] bcast_S_S32x1x24 (constant S_ .f32 0x3F800000#32))
    (Host.exp (Host.negf (extractStridedSlice S32x1x24 ![0, 0, 2816] u slices_S32x1x2840_S32x1x24_0_0_2816))))) shapeCasts_S32x1x24_S1x32x24

variable (m : (ℓ : Loc nD τ sig) → Buf (Elt Ideal) ℓ) in
/-- The rows' products over the arguments. -/
def uOf (c : Dev nD) : FVec Ideal S32x1x2840 .f32 :=
  prod (hid (m ((c.tc : Thread nD τ).loc main_arg0)) (m ((c.tc : Thread nD τ).loc main_arg3)) (m ((c.tc : Thread nD τ).loc main_arg4)) (m ((c.tc : Thread nD τ).loc main_arg5))) (m ((c.tc : Thread nD τ).loc main_arg6))

variable (m : (ℓ : Loc nD τ sig) → Buf (Elt Ideal) ℓ) in
/-- The run's results by stages. -/
theorem run_stages (ρ : Dev nD → PrngReg) :
    θ_run defs (onTc (τ := τ) (main (F := Ideal))) ⟨m, fun _ => 0, ρ⟩ fun r => ∀ c : Dev nD,
      r.2.mem ((c.tc : Thread nD τ).loc main_v89) = kc (uOf m c)
      ∧ r.2.mem ((c.tc : Thread nD τ).loc main_v90) = ks (uOf m c)
      ∧ r.2.mem ((c.tc : Thread nD τ).loc main_v92) = wn (uOf m c) (m ((c.tc : Thread nD τ).loc main_arg1))
      ∧ r.2.mem ((c.tc : Thread nD τ).loc main_v93) = cs (vp (uOf m c) (m ((c.tc : Thread nD τ).loc main_arg2)))
      ∧ r.2.mem ((c.tc : Thread nD τ).loc main_v94) = cn (cv (uOf m c) (vp (uOf m c) (m ((c.tc : Thread nD τ).loc main_arg2))) (m ((c.tc : Thread nD τ).loc main_arg7))) (m ((c.tc : Thread nD τ).loc main_arg8))
      ∧ r.2.mem ((c.tc : Thread nD τ).loc main_v95) = qs (uOf m c)
      ∧ r.2.mem ((c.tc : Thread nD τ).loc main_v96) = gt (uOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun _ h c => h c) (Value.run m ρ)

/-! ## Each stage at an element -/

theorem hid_at (a0 : FVec Ideal S32x1x1024 .f32) (a3 a4 : FVec Ideal S1x32x1024 .f32) (a5 : FVec Ideal S1x1024 .f32) (r : Fin 32) (k : Fin 1024) :
    hid a0 a3 a4 a5 (ix3 r 0 k) = hiddenRow (fun k => a0 (ix3 r 0 k)) (fun k => a3 (ix3 0 r k)) (fun k => a4 (ix3 0 r k)) (fun k => a5 (ix2 0 k)) k := by
  pointwise [hid, hiddenRow, normed]

theorem prod_at (h : FVec Ideal S32x1x1024 .f32) (a6 : FVec Ideal S1x1024x2840 .f32) (r : Fin 32) (j : Fin 2840) :
    prod h a6 (ix3 r 0 j) = proj (fun k => h (ix3 r 0 k)) (fun k j => a6 (ix3 0 k j)) j := by
  pointwise [prod, proj]

theorem vp_at (u : FVec Ideal S32x1x2840 .f32) (a2 : FVec Ideal S1x32x2x512 .f32) (r : Fin 32) (j : Fin 512) :
    vp u a2 (ix3 r 0 j) = a2 (ix4 0 r 0 j) ∧ vp u a2 (ix3 r 1 j) = a2 (ix4 0 r 1 j) ∧ vp u a2 (ix3 r 2 j) = gated (fun j => u (ix3 r 0 j)) j := by
  refine ⟨?_, ?_, ?_⟩ <;> pointwise [vp, gated]

theorem cv_at (u : FVec Ideal S32x1x2840 .f32) (p : FVec Ideal S32x3x512 .f32) (a7 : FVec Ideal S1x3x512 .f32) (r : Fin 32) (j : Fin 512) :
    cv u p a7 (ix3 r 0 j) = conv (fun j => u (ix3 r 0 j)) (fun k j => a7 (ix3 0 k j)) (fun j => p (ix3 r 0 j)) (fun j => p (ix3 r 1 j)) (fun j => p (ix3 r 2 j)) j := by
  pointwise [cv, conv]

theorem cn_at (y : FVec Ideal S32x1x512 .f32) (a8 : FVec Ideal S1x512 .f32) (r : Fin 32) (j : Fin 512) :
    cn y a8 (ix3 0 r j) = normed 0x44000000#32 (fun j => y (ix3 r 0 j)) (fun j => a8 (ix2 0 j)) j := by
  pointwise [cn, normed]

theorem kc_at (u : FVec Ideal S32x1x2840 .f32) (r : Fin 32) (a b : Fin 2) (d : Fin 64) :
    kc u (ix6 0 r 0 a b d) = u (ix3 r 0 ⟨2048 + (a.val * 128 + b.val * 64 + d.val), by omega⟩) := by
  pointwise [kc]

theorem ks_at (u : FVec Ideal S32x1x2840 .f32) (r : Fin 32) (a b : Fin 2) (d : Fin 64) :
    ks u (ix6 0 r 0 a b d) = u (ix3 r 0 ⟨2304 + (a.val * 128 + b.val * 64 + d.val), by omega⟩) := by
  pointwise [ks]

theorem wn_old (u : FVec Ideal S32x1x2840 .f32) (a1 : FVec Ideal S1x32x512x2x2x64 .f32) (r : Fin 32) (w : Fin 512) (hw : 1 + w.val < 512) (a b : Fin 2) (d : Fin 64) :
    wn u a1 (ix6 0 r w a b d) = a1 (ix6 0 r ⟨1 + w.val, hw⟩ a b d) := by
  pointwise [wn, dif_pos hw]

theorem wn_new (u : FVec Ideal S32x1x2840 .f32) (a1 : FVec Ideal S1x32x512x2x2x64 .f32) (r : Fin 32) (a b : Fin 2) (d : Fin 64) :
    wn u a1 (ix6 0 r 511 a b d) = u (ix3 r 0 ⟨2560 + (a.val * 128 + b.val * 64 + d.val), by omega⟩) := by
  pointwise [wn]

theorem cs_at (p : FVec Ideal S32x3x512 .f32) (r : Fin 32) (j : Fin 512) : cs p (ix4 0 r 0 j) = p (ix3 r 1 j) ∧ cs p (ix4 0 r 1 j) = p (ix3 r 2 j) := by
  refine ⟨?_, ?_⟩ <;> pointwise [cs]

theorem qs_at (u : FVec Ideal S32x1x2840 .f32) (h : Fin 8) (r : Fin 32) (d : Fin 64) :
    qs u (ix4 0 h r d) = u (ix3 r 0 ⟨1536 + (h.val * 64 + d.val), by omega⟩) * Ideal.ofBits .f32 0x3E000000#32 := by
  pointwise [qs]

theorem gt_at (u : FVec Ideal S32x1x2840 .f32) (r : Fin 32) (j : Fin 24) : gt u (ix3 0 r j) = gateOf (u (ix3 r 0 ⟨2816 + j.val, by omega⟩)) := by
  pointwise [gt, gateOf]

end Cert.SampleRefIdeal.Inproj

end
-- ==== Proof.InpSampleEnd.lean ====
/-
  The sample rows' results after the host's last lines, and their agreement with the reference.
-/
module

public import proofs.«01_k».proof.Defs
public import proofs.«01_k».proof.Proof.InpSample
public import proofs.«01_k».proof.Proof.InpSampleRef
public import Idealize.ShloMosaic.Lib.Claim

@[expose] public section

set_option maxRecDepth 16384

noncomputable section

namespace Cert.SampleIdeal.Inproj

open Idealize.ShloMosaic Idealize.ShloMosaic.TcCoe Cert.SampleIdeal Cert.SampleIdeal.Gen Cert.Inproj

/-! ## The last lines over plain arrays -/

/-- A row's 256 keys and values, head by head. -/
def heads (x : FVec Ideal S1x32x256 .f32) : FVec Ideal S1x32x1x2x2x64 .f32 := shapeCast _ x shapeCasts_S1x32x256_S1x32x1x2x2x64

/-- The window's rows, the oldest dropped and the new one last. -/
def window (a1 : FVec Ideal S1x32x512x2x2x64 .f32) (x : FVec Ideal S1x32x256 .f32) : FVec Ideal S1x32x512x2x2x64 .f32 :=
  broadcastInDim S1x32x512x2x2x64 ![1, 2, 3, 4, 5] bcast_S32x512x2x2x64_S1x32x512x2x2x64_1_2_3_4_5
    (concatenate S32x512x2x2x64 1 [⟨S32x511x2x2x64, extractStridedSlice S32x511x2x2x64 ![0, 1, 0, 0, 0] (shapeCast S32x512x2x2x64 a1 shapeCasts_S1x32x512x2x2x64_S32x512x2x2x64) slices_S32x512x2x2x64_S32x511x2x2x64_0_1_0_0_0⟩,
      ⟨S32x1x2x2x64, shapeCast S32x1x2x2x64 x shapeCasts_S1x32x256_S32x1x2x2x64⟩] concatenates_S32x511x2x2x64_S32x1x2x2x64_S32x512x2x2x64_d1)

/-- The convolution's last two input rows. -/
def state (a2 : FVec Ideal S1x32x2x512 .f32) (x : FVec Ideal S1x32x512 .f32) : FVec Ideal S1x32x2x512 .f32 :=
  broadcastInDim S1x32x2x512 ![1, 2, 3] bcast_S32x2x512_S1x32x2x512_1_2_3
    (concatenate S32x2x512 1 [⟨S32x1x512, extractStridedSlice S32x1x512 ![0, 1, 0] (shapeCast S32x2x512 a2 shapeCasts_S1x32x2x512_S32x2x512) slices_S32x2x512_S32x1x512_0_1_0⟩,
      ⟨S32x1x512, shapeCast S32x1x512 x shapeCasts_S1x32x512_S32x1x512⟩] concatenates_S32x1x512_S32x1x512_S32x2x512_d1)

/-- The gates without the columns that fill the block. -/
def gates (x : FVec Ideal S1x32x128 .f32) : FVec Ideal S1x32x24 .f32 := extractStridedSlice S1x32x24 ![0, 0, 0] x slices_S1x32x128_S1x32x24_0_0_0

theorem heads_at (x : FVec Ideal S1x32x256 .f32) (r : Fin 32) (a b : Fin 2) (d : Fin 64) :
    heads x (ix6 0 r 0 a b d) = x (ix3 0 r ⟨a.val * 128 + b.val * 64 + d.val, by omega⟩) := by
  pointwise [heads]

theorem window_old (a1 : FVec Ideal S1x32x512x2x2x64 .f32) (x : FVec Ideal S1x32x256 .f32) (r : Fin 32) (w : Fin 512) (hw : w.val < 511) (a b : Fin 2) (d : Fin 64) :
    window a1 x (ix6 0 r w a b d) = a1 (ix6 0 r ⟨1 + w.val, by omega⟩ a b d) := by
  pointwise [window, dif_pos hw]

theorem window_new (a1 : FVec Ideal S1x32x512x2x2x64 .f32) (x : FVec Ideal S1x32x256 .f32) (r : Fin 32) (a b : Fin 2) (d : Fin 64) :
    window a1 x (ix6 0 r 511 a b d) = x (ix3 0 r ⟨a.val * 128 + b.val * 64 + d.val, by omega⟩) := by
  pointwise [window]

theorem state_at (a2 : FVec Ideal S1x32x2x512 .f32) (x : FVec Ideal S1x32x512 .f32) (r : Fin 32) (j : Fin 512) :
    state a2 x (ix4 0 r 0 j) = a2 (ix4 0 r 1 j) ∧ state a2 x (ix4 0 r 1 j) = x (ix3 0 r j) := by
  refine ⟨?_, ?_⟩ <;> pointwise [state]

theorem gates_at (x : FVec Ideal S1x32x128 .f32) (r : Fin 32) (j : Fin 24) : gates x (ix3 0 r j) = x (ix3 0 r ⟨j.val, by omega⟩) := by
  pointwise [gates]

/-! ## What the last lines leave -/

variable (m : (ℓ : Loc nD τ sig) → Buf (Elt Ideal) ℓ)

/-- What a buffer holds at the end. -/
abbrev last (c : Dev nD) (b : Ref sig .tc) := Pipeline.afterTail₀ cfgs (dats m) 0 (V0 m) [hostOps1] c b

/-- A window's array when the launch ends. -/
abbrev fin (c : Dev nD) (w : Fin 16) := (dats m 0 c).arrAt w (cfgs 0).N

theorem at_arr (c : Dev nD) (w : Fin 16) :
    Pipeline.withArrays (cfgs 0).spec c (V0 m c) (fun w => (dats m 0 c).arrAt w (cfgs 0).N) (Proc.tc.devRef (Pipeline.arrRef spec0 w)) = fin m c w :=
  Pipeline.withArrays_arr _ launch0.win.arr_inj c (V0 m c) _ w

theorem at_arg (c : Dev nD) (b : Ref sig .tc) (hb : ∀ w, Pipeline.arrRef spec0 w ≠ b) :
    Pipeline.withArrays (cfgs 0).spec c (V0 m c) (fun w => (dats m 0 c).arrAt w (cfgs 0).N) (Proc.tc.devRef b) = V0 m c (Proc.tc.devRef b) :=
  Pipeline.withArrays_of_ne _ c (V0 m c) _ b hb

theorem last_kc (c : Dev nD) : last m c main_v26 = heads (fin m c 11) := by
  unfold last Pipeline.afterTail₀
  simp only [hostOps1, List.flatten_cons, List.flatten_nil, List.append_nil, List.cons_append, List.nil_append]
  after_results
  exact congrArg heads (at_arr m c 11)

theorem last_ks (c : Dev nD) : last m c main_v27 = heads (fin m c 12) := by
  unfold last Pipeline.afterTail₀
  simp only [hostOps1, List.flatten_cons, List.flatten_nil, List.append_nil, List.cons_append, List.nil_append]
  after_results
  exact congrArg heads (at_arr m c 12)

theorem last_window (c : Dev nD) : last m c main_v28 = window (m ((c : Thread nD τ).loc main_arg1)) (fin m c 13) := by
  unfold last Pipeline.afterTail₀
  simp only [hostOps1, List.flatten_cons, List.flatten_nil, List.append_nil, List.cons_append, List.nil_append]
  after_results
  exact congrArg₂ window ((at_arg m c main_arg1 (by decide)).trans (V_main_arg1 m c)) (at_arr m c 13)

theorem last_state (c : Dev nD) : last m c main_v29 = state (m ((c : Thread nD τ).loc main_arg2)) (fin m c 15) := by
  unfold last Pipeline.afterTail₀
  simp only [hostOps1, List.flatten_cons, List.flatten_nil, List.append_nil, List.cons_append, List.nil_append]
  after_results
  exact congrArg₂ state ((at_arg m c main_arg2 (by decide)).trans (V_main_arg2 m c)) (at_arr m c 15)

theorem last_gates (c : Dev nD) : last m c main_v30 = gates (fin m c 14) := by
  unfold last Pipeline.afterTail₀
  simp only [hostOps1, List.flatten_cons, List.flatten_nil, List.append_nil, List.cons_append, List.nil_append]
  after_results
  exact congrArg gates (at_arr m c 14)

end Cert.SampleIdeal.Inproj

namespace Cert.Inproj

open Idealize.ShloMosaic Idealize.ShloMosaic.TcCoe
open Cert.SampleRefIdeal.Inproj (kc ks wn cs qs gt cn cv vp prod hid kc_at ks_at wn_old wn_new cs_at qs_at gt_at cn_at cv_at vp_at prod_at hid_at)
open Cert.SampleIdeal.Inproj

variable (m : (ℓ : Loc SampleIdeal.nD SampleIdeal.τ SampleIdeal.sig) → Buf (Elt Ideal) ℓ)

/-- The reference's products at the kernel's arguments. -/
def uRef (c : Dev SampleIdeal.nD) : FVec Ideal SampleRefIdeal.S32x1x2840 .f32 :=
  prod (hid (m (c.tc.loc SampleIdeal.main_arg0)) (m (c.tc.loc SampleIdeal.main_arg3)) (m (c.tc.loc SampleIdeal.main_arg4)) (m (c.tc.loc SampleIdeal.main_arg5))) (m (c.tc.loc SampleIdeal.main_arg6))

theorem uRef_at (c : Dev SampleIdeal.nD) (r : Fin 32) (j : Fin 2840) : uRef m c (ix3 r 0 j) = uArg m c r j :=
  (prod_at _ _ r j).trans (congrArg (fun h => proj h _ j) (funext (hid_at _ _ _ _ r)))

theorem kc_eq (c : Dev SampleIdeal.nD) : heads (fin m c 11) = kc (uRef m c) := by
  funext i
  obtain ⟨z, r, o, a, b, d, rfl⟩ : ∃ (z : Fin 1) (r : Fin 32) (o : Fin 1) (a b : Fin 2) (d : Fin 64), i = ix6 z r o a b d := ⟨_, _, _, _, _, _, eq_ix6 (n0 := 1) (n1 := 32) (n2 := 1) (n3 := 2) (n4 := 2) (n5 := 64) i⟩
  obtain rfl := Subsingleton.elim z 0
  obtain rfl := Subsingleton.elim o 0
  exact (heads_at _ r a b d).trans ((arr11 m c r _).trans (((kc_at _ r a b d).trans (uRef_at m c r _)).symm))

theorem ks_eq (c : Dev SampleIdeal.nD) : heads (fin m c 12) = ks (uRef m c) := by
  funext i
  obtain ⟨z, r, o, a, b, d, rfl⟩ : ∃ (z : Fin 1) (r : Fin 32) (o : Fin 1) (a b : Fin 2) (d : Fin 64), i = ix6 z r o a b d := ⟨_, _, _, _, _, _, eq_ix6 (n0 := 1) (n1 := 32) (n2 := 1) (n3 := 2) (n4 := 2) (n5 := 64) i⟩
  obtain rfl := Subsingleton.elim z 0
  obtain rfl := Subsingleton.elim o 0
  refine (heads_at _ r a b d).trans ((arr12 m c r _).trans (Eq.trans ?_ ((ks_at _ r a b d).trans (uRef_at m c r _)).symm))
  exact congrArg (uArg m c r) (Fin.ext (by show 2048 + (256 + (a.val * 128 + b.val * 64 + d.val)) = 2304 + (a.val * 128 + b.val * 64 + d.val); omega))

theorem window_eq (c : Dev SampleIdeal.nD) : window (m (c.tc.loc SampleIdeal.main_arg1)) (fin m c 13) = wn (uRef m c) (m (c.tc.loc SampleIdeal.main_arg1)) := by
  funext i
  obtain ⟨z, r, w, a, b, d, rfl⟩ : ∃ (z : Fin 1) (r : Fin 32) (w : Fin 512) (a b : Fin 2) (d : Fin 64), i = ix6 z r w a b d := ⟨_, _, _, _, _, _, eq_ix6 (n0 := 1) (n1 := 32) (n2 := 512) (n3 := 2) (n4 := 2) (n5 := 64) i⟩
  obtain rfl := Subsingleton.elim z 0
  by_cases hw : w.val < 511
  · exact (window_old _ _ r w hw a b d).trans (wn_old _ _ r w (by omega) a b d).symm
  · obtain rfl : w = 511 := Fin.ext (by show w.val = 511; omega)
    refine (window_new _ _ r a b d).trans ((arr13 m c r _).trans (Eq.trans ?_ ((wn_new _ _ r a b d).trans (uRef_at m c r _)).symm))
    exact congrArg (uArg m c r) (Fin.ext (by show 2048 + (512 + (a.val * 128 + b.val * 64 + d.val)) = 2560 + (a.val * 128 + b.val * 64 + d.val); omega))

theorem gated_uRef (c : Dev SampleIdeal.nD) (r : Fin 32) : gated (fun j => uRef m c (ix3 r 0 j)) = gated (uArg m c r) :=
  congrArg gated (funext (uRef_at m c r))

theorem state_eq (c : Dev SampleIdeal.nD) : state (m (c.tc.loc SampleIdeal.main_arg2)) (fin m c 15) = cs (vp (uRef m c) (m (c.tc.loc SampleIdeal.main_arg2))) := by
  funext i
  obtain ⟨z, r, o, j, rfl⟩ : ∃ (z : Fin 1) (r : Fin 32) (o : Fin 2) (j : Fin 512), i = ix4 z r o j := ⟨_, _, _, _, eq_ix4 (n0 := 1) (n1 := 32) (n2 := 2) (n3 := 512) i⟩
  obtain rfl := Subsingleton.elim z 0
  match o with
  | ⟨0, _⟩ => exact (state_at _ _ r j).1.trans ((cs_at _ r j).1.trans (vp_at _ _ r j).2.1).symm
  | ⟨1, _⟩ => exact (state_at _ _ r j).2.trans ((arr15 m c r j).trans (((cs_at _ r j).2.trans (vp_at _ _ r j).2.2).trans (congrFun (gated_uRef m c r) j)).symm)

theorem convn_eq (c : Dev SampleIdeal.nD) :
    fin m c 9 = cn (cv (uRef m c) (vp (uRef m c) (m (c.tc.loc SampleIdeal.main_arg2))) (m (c.tc.loc SampleIdeal.main_arg7))) (m (c.tc.loc SampleIdeal.main_arg8)) := by
  funext i
  obtain ⟨z, r, j, rfl⟩ : ∃ (z : Fin 1) (r : Fin 32) (j : Fin 512), i = ix3 z r j := ⟨_, _, _, eq_ix3 (n0 := 1) (n1 := 32) (n2 := 512) i⟩
  obtain rfl := Subsingleton.elim z 0
  refine (arr9 m c r j).trans (Eq.trans ?_ (cn_at _ _ r j).symm)
  unfold convArg convn
  refine congrArg (fun y => normed _ y _ j) (funext fun j => Eq.trans ?_ (cv_at _ _ _ r j).symm)
  exact congrFun (congr (congr (congr (congrFun (congrArg conv (funext (uRef_at m c r)).symm) _) (funext fun j => (vp_at _ _ r j).1.symm)) (funext fun j => (vp_at _ _ r j).2.1.symm))
    (funext fun j => ((vp_at _ _ r j).2.2.trans (congrFun (gated_uRef m c r) j)).symm)) j

theorem queries_eq (c : Dev SampleIdeal.nD) : fin m c 10 = qs (uRef m c) := by
  funext i
  obtain ⟨z, h, r, d, rfl⟩ : ∃ (z : Fin 1) (h : Fin 8) (r : Fin 32) (d : Fin 64), i = ix4 z h r d := ⟨_, _, _, _, eq_ix4 (n0 := 1) (n1 := 8) (n2 := 32) (n3 := 64) i⟩
  obtain rfl := Subsingleton.elim z 0
  exact (arr10 m c h r d).trans (((qs_at _ h r d).trans (congrArg (· * Ideal.ofBits .f32 0x3E000000#32) (uRef_at m c r _))).symm)

theorem gates_eq (c : Dev SampleIdeal.nD) : gates (fin m c 14) = gt (uRef m c) := by
  funext i
  obtain ⟨z, r, j, rfl⟩ : ∃ (z : Fin 1) (r : Fin 32) (j : Fin 24), i = ix3 z r j := ⟨_, _, _, eq_ix3 (n0 := 1) (n1 := 32) (n2 := 24) i⟩
  obtain rfl := Subsingleton.elim z 0
  exact (gates_at _ r j).trans ((arr14 m c r j).trans ((gt_at _ r j).trans (congrArg gateOf (uRef_at m c r _))).symm)

/-- The sample rows' launch and the reference end with equal results. -/
theorem value_sample : @Cert.algebraic_SampleIdeal_SampleRefIdeal Cert.SampleIdeal.Gen.facts Cert.SampleRefIdeal.Gen.facts := by
  intro m g m' g' _ hagree
  refine ⟨fun c => kc (uRef m c), fun c => ks (uRef m c), fun c => wn (uRef m c) (m (c.tc.loc SampleIdeal.main_arg1)), fun c => cs (vp (uRef m c) (m (c.tc.loc SampleIdeal.main_arg2))),
    fun c => cn (cv (uRef m c) (vp (uRef m c) (m (c.tc.loc SampleIdeal.main_arg2))) (m (c.tc.loc SampleIdeal.main_arg7))) (m (c.tc.loc SampleIdeal.main_arg8)),
    fun c => qs (uRef m c), fun c => gt (uRef m c), ?_, ?_⟩
  · refine (θ_run _ _ _).mono (fun r h c => ?_) (θ_run_and (SampleIdeal.Gen.frame m g) (SampleIdeal.Gen.run_main m g))
    exact ⟨((h.2 c).2 SampleIdeal.main_v26 (Pipeline.mem_restRefs_of SampleIdeal.main_v26 (by decide) (by decide))).trans ((last_kc m c).trans (kc_eq m c)),
      ((h.2 c).2 SampleIdeal.main_v27 (Pipeline.mem_restRefs_of SampleIdeal.main_v27 (by decide) (by decide))).trans ((last_ks m c).trans (ks_eq m c)),
      ((h.2 c).2 SampleIdeal.main_v28 (Pipeline.mem_restRefs_of SampleIdeal.main_v28 (by decide) (by decide))).trans ((last_window m c).trans (window_eq m c)),
      ((h.2 c).2 SampleIdeal.main_v29 (Pipeline.mem_restRefs_of SampleIdeal.main_v29 (by decide) (by decide))).trans ((last_state m c).trans (state_eq m c)),
      ((h.2 c).1 9).trans (convn_eq m c), ((h.2 c).1 10).trans (queries_eq m c),
      ((h.2 c).2 SampleIdeal.main_v30 (Pipeline.mem_restRefs_of SampleIdeal.main_v30 (by decide) (by decide))).trans ((last_gates m c).trans (gates_eq m c)), h.1.1 c⟩
  · refine (θ_run _ _ _).mono (fun r h c => ?_) (SampleRefIdeal.Inproj.run_stages m' g')
    obtain ⟨e0, e1, e2, e3, e4, e5, e6, e7, e8⟩ := hagree c
    have hu : SampleRefIdeal.Inproj.uOf m' c = uRef m c := by unfold SampleRefIdeal.Inproj.uOf uRef; rw [e0, e3, e4, e5, e6]
    have hc := h c
    rw [hu, e1, e2, e7, e8] at hc
    rw [e1, e2, e7, e8]
    exact hc

end Cert.Inproj

end
-- ==== Proof.InpPromptRun.lean ====
/-
  The prompt's input-projection body on any staging buffers, in its two cases: the first block of rows of a
  sequence, where the two rows before it come from an operand, and a later block, where the scratch carries them.
-/
module

public import proofs.«01_k».proof.Proof.Gen.PromptIdeal.Skeleton
public import Idealize.ShloMosaic.Lib.Pipeline.Kit
public import Idealize.ShloMosaic.Lib.Pipeline.FrameBody
public import Idealize.ShloMosaic.Lib.Pipeline.Value
public import Idealize.ShloMosaic.Lib.WholeRead
public import Idealize.ShloMosaic.Lib.WritesUnit
public import Idealize.ShloMosaic.Lib.Tactic
public import Idealize.ShloMosaic.Lib.WordCmp

@[expose] public section

set_option maxRecDepth 16384

noncomputable section

namespace Cert.PromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What the body leaves, over the input blocks and the two carried rows -/

section Outs

/-- The two carried rows inside the scratch, and each of them. -/
abbrev rCarry : Rect S8x512 := Rect.unit (s := S8x512) ![0, 0] S2x512.size inb_S8x512_S2x512_0_0
theorem inb_row (o : Fin 2) : ∀ a, (![o.val, 0] : Fin 2 → Nat) a + S1x512.size a ≤ S2x512.size a := by revert o; decide
abbrev rRow (o : Fin 2) : Rect S2x512 := Rect.unit (s := S2x512) ![o.val, 0] S1x512.size (inb_row o)

/-- The scratch holds the two rows `u`. -/
def Holds (s : Vec F S8x512 .f32) (u : Vec F S2x512 .f32) : Prop := View.ld s rCarry = u

/-- The first product's columns of the weights, the queries', the keys and values', the gates'. -/
abbrev rWa : Rect S1024x2944 := Rect.unit (s := S1024x2944) ![0, 0] S1024x1536.size inb_S1024x2944_S1024x1536_0_0
abbrev rWq : Rect S1024x2944 := Rect.unit (s := S1024x2944) ![0, 1536] S1024x512.size inb_S1024x2944_S1024x512_0_1536
abbrev rWk : Rect S1024x2944 := Rect.unit (s := S1024x2944) ![0, 2048] S1024x768.size inb_S1024x2944_S1024x768_0_2048
abbrev rWg : Rect S1024x2944 := Rect.unit (s := S1024x2944) ![0, 2816] S1024x128.size inb_S1024x2944_S1024x128_0_2816

variable (x0 : Vec F S1x512x1024 .f32) (x1 x2 : Vec F S1x1x1024 .f32) (x3 : Vec F S1x1024 .f32) (x4 : Vec F S1024x2944 .bf16) (x5 : Vec F S3x512 .f32) (x6 : Vec F S1x512 .f32)

/-- The normed and modulated rows. -/
def hVal : FVec F S512x1024 .bf16 := k0_pay2 x0 x3 x2 x1
/-- The convolution's gate. -/
def aVal : FVec F S512x512 .f32 := k0_pay4 x0 x3 x2 x1 (View.ld x4 rWa)
/-- The convolution's input rows. -/
def vVal : FVec F S512x512 .f32 := k0_pay5 x0 x3 x2 x1 (View.ld x4 rWa)
/-- The queries. -/
def qVal : FVec F S512x512 .f32 := k0_pay13 (hVal x0 x1 x2 x3) (View.ld x4 rWq)
/-- The keys and values. -/
def kvVal : FVec F S512x768 .f32 := k0_pay26 (hVal x0 x1 x2 x3) (View.ld x4 rWk)

def res9 (u : Vec F S2x512 .f32) : Vec F S1x512x512 .bf16 :=
  k0_pay12 (aVal x0 x1 x2 x3 x4) (vVal x0 x1 x2 x3 x4) (k0_pay9 x5)
    (k0_pay10 (vVal x0 x1 x2 x3 x4) (View.ld u (rRow 0)) (View.ld u (rRow 1)) x5) (k0_pay11 (vVal x0 x1 x2 x3 x4) (View.ld u (rRow 1)) x5) x6
def res10 : Vec F S1x2x4x64x512 .bf16 :=
  View.canon (Val := Elt F) [⟨Rect.unit (s := S1x2x4x64x512) ![0, 1, 3, 0, 0] S1x1x1x64x512.size inb_S1x2x4x64x512_S1x1x1x64x512_0_1_3_0_0, k0_pay25 (qVal x0 x1 x2 x3 x4)⟩,
    ⟨Rect.unit (s := S1x2x4x64x512) ![0, 1, 2, 0, 0] S1x1x1x64x512.size inb_S1x2x4x64x512_S1x1x1x64x512_0_1_2_0_0, k0_pay24 (qVal x0 x1 x2 x3 x4)⟩,
    ⟨Rect.unit (s := S1x2x4x64x512) ![0, 1, 1, 0, 0] S1x1x1x64x512.size inb_S1x2x4x64x512_S1x1x1x64x512_0_1_1_0_0, k0_pay23 (qVal x0 x1 x2 x3 x4) (k0_pay21 (qVal x0 x1 x2 x3 x4)) (k0_pay22 (qVal x0 x1 x2 x3 x4))⟩,
    ⟨Rect.unit (s := S1x2x4x64x512) ![0, 1, 0, 0, 0] S1x1x1x64x512.size inb_S1x2x4x64x512_S1x1x1x64x512_0_1_0_0_0, k0_pay20 (qVal x0 x1 x2 x3 x4)⟩,
    ⟨Rect.unit (s := S1x2x4x64x512) ![0, 0, 3, 0, 0] S1x1x1x64x512.size inb_S1x2x4x64x512_S1x1x1x64x512_0_0_3_0_0, k0_pay19 (qVal x0 x1 x2 x3 x4)⟩,
    ⟨Rect.unit (s := S1x2x4x64x512) ![0, 0, 2, 0, 0] S1x1x1x64x512.size inb_S1x2x4x64x512_S1x1x1x64x512_0_0_2_0_0, k0_pay18 (qVal x0 x1 x2 x3 x4)⟩,
    ⟨Rect.unit (s := S1x2x4x64x512) ![0, 0, 1, 0, 0] S1x1x1x64x512.size inb_S1x2x4x64x512_S1x1x1x64x512_0_0_1_0_0, k0_pay17 (qVal x0 x1 x2 x3 x4) (k0_pay15 (hVal x0 x1 x2 x3) (View.ld x4 rWq)) (k0_pay16 (hVal x0 x1 x2 x3) (View.ld x4 rWq))⟩,
    ⟨Rect.unit (s := S1x2x4x64x512) ![0, 0, 0, 0, 0] S1x1x1x64x512.size inb_S1x2x4x64x512_S1x1x1x64x512_0_0_0_0_0, k0_pay14 (hVal x0 x1 x2 x3) (View.ld x4 rWq)⟩]
def res11 : Vec F S1x512x256 .f32 := k0_pay27 (hVal x0 x1 x2 x3) (View.ld x4 rWk)
def res12 : Vec F S1x512x256 .f32 := k0_pay29 (k0_pay28 (hVal x0 x1 x2 x3) (View.ld x4 rWk))
def res13 : Vec F S1x512x256 .f32 := k0_pay30 (kvVal x0 x1 x2 x3 x4)
def res14 : Vec F S1x512x128 .f32 := k0_pay1 (k0_pay42 (hVal x0 x1 x2 x3) (View.ld x4 rWg))
def res15 : Vec F S1x2x512 .f32 := k0_pay8 (vVal x0 x1 x2 x3 x4)
def res16 : Vec F S1x4x512x64 .bf16 :=
  View.canon (Val := Elt F) [⟨Rect.unit (s := S1x4x512x64) ![0, 3, 0, 0] S1x1x512x64.size inb_S1x4x512x64_S1x1x512x64_0_3_0_0, k0_pay38 (kvVal x0 x1 x2 x3 x4)⟩,
    ⟨Rect.unit (s := S1x4x512x64) ![0, 2, 0, 0] S1x1x512x64.size inb_S1x4x512x64_S1x1x512x64_0_2_0_0, k0_pay37 (k0_pay36 (kvVal x0 x1 x2 x3 x4))⟩,
    ⟨Rect.unit (s := S1x4x512x64) ![0, 1, 0, 0] S1x1x512x64.size inb_S1x4x512x64_S1x1x512x64_0_1_0_0, k0_pay32 (kvVal x0 x1 x2 x3 x4)⟩,
    ⟨Rect.unit (s := S1x4x512x64) ![0, 0, 0, 0] S1x1x512x64.size inb_S1x4x512x64_S1x1x512x64_0_0_0_0, k0_pay31 (kvVal x0 x1 x2 x3 x4)⟩]
def res17 : Vec F S1x4x64x512 .bf16 :=
  View.canon (Val := Elt F) [⟨Rect.unit (s := S1x4x64x512) ![0, 3, 0, 0] S1x1x64x512.size inb_S1x4x64x512_S1x1x64x512_0_3_0_0, k0_pay41 (kvVal x0 x1 x2 x3 x4)⟩,
    ⟨Rect.unit (s := S1x4x64x512) ![0, 2, 0, 0] S1x1x64x512.size inb_S1x4x64x512_S1x1x64x512_0_2_0_0, k0_pay40 (kvVal x0 x1 x2 x3 x4)⟩,
    ⟨Rect.unit (s := S1x4x64x512) ![0, 1, 0, 0] S1x1x64x512.size inb_S1x4x64x512_S1x1x64x512_0_1_0_0, k0_pay35 (kvVal x0 x1 x2 x3 x4)⟩,
    ⟨Rect.unit (s := S1x4x64x512) ![0, 0, 0, 0] S1x1x64x512.size inb_S1x4x64x512_S1x1x64x512_0_0_0_0, k0_pay34 (kvVal x0 x1 x2 x3 x4)⟩]

end Outs

/-- The body's triple at a point whose carried rows are `u`, over the scratch contents `s` it starts from. -/
abbrev RunSpec (c : Dev nD) (i : grid0.Coords) (x0 : Vec F S1x512x1024 .f32) (x1 x2 : Vec F S1x1x1024 .f32) (x3 : Vec F S1x1024 .f32) (x4 : Vec F S1024x2944 .bf16)
    (x5 : Vec F S3x512 .f32) (x6 : Vec F S1x512 .f32) (x7 x8 : Vec F S1x2x512 .f32) (s : Vec F S8x512 .f32) (u : Vec F S2x512 .f32) : Prop :=
  ∀ (a0 : Memref sig .tc .vmem S1x512x1024 .f32) (h0 : a0.IsWhole) (a1 : Memref sig .tc .vmem S1x1x1024 .f32) (h1 : a1.IsWhole) (a2 : Memref sig .tc .vmem S1x1x1024 .f32) (h2 : a2.IsWhole)
    (a3 : Memref sig .tc .vmem S1x1024 .f32) (h3 : a3.IsWhole) (a4 : Memref sig .tc .vmem S1024x2944 .bf16) (h4 : a4.IsWhole) (a5 : Memref sig .tc .vmem S3x512 .f32) (h5 : a5.IsWhole)
    (a6 : Memref sig .tc .vmem S1x512 .f32) (h6 : a6.IsWhole) (a7 : Memref sig .tc .vmem S1x2x512 .f32) (h7 : a7.IsWhole) (a8 : Memref sig .tc .vmem S1x2x512 .f32) (h8 : a8.IsWhole)
    (a9 : Memref sig .tc .vmem S1x512x512 .bf16) (h9 : a9.IsWhole) (a10 : Memref sig .tc .vmem S1x2x4x64x512 .bf16) (h10 : a10.IsWhole) (a11 : Memref sig .tc .vmem S1x512x256 .f32) (h11 : a11.IsWhole)
    (a12 : Memref sig .tc .vmem S1x512x256 .f32) (h12 : a12.IsWhole) (a13 : Memref sig .tc .vmem S1x512x256 .f32) (h13 : a13.IsWhole) (a14 : Memref sig .tc .vmem S1x512x128 .f32) (h14 : a14.IsWhole)
    (a15 : Memref sig .tc .vmem S1x2x512 .f32) (h15 : a15.IsWhole) (a16 : Memref sig .tc .vmem S1x4x512x64 .bf16) (h16 : a16.IsWhole) (a17 : Memref sig .tc .vmem S1x4x64x512 .bf16) (h17 : a17.IsWhole)
    (a18 : Memref sig .tc .vmem S8x512 .f32) (h18 : a18.IsWhole) (E : Set ℕ) (K : PUnit → sProp 𝕄),
    iprop(owns (c : Thread nD τ) a0 fullShare x0 ∗ owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6 ∗ owns (c : Thread nD τ) a7 fullShare x7
        ∗ owns (c : Thread nD τ) a8 fullShare x8 ∗ (∃ d, owns (c : Thread nD τ) a9 fullShare d) ∗ (∃ d, owns (c : Thread nD τ) a10 fullShare d) ∗ (∃ d, owns (c : Thread nD τ) a11 fullShare d)
        ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d)
        ∗ (∃ d, owns (c : Thread nD τ) a16 fullShare d) ∗ (∃ d, owns (c : Thread nD τ) a17 fullShare d) ∗ owns (c : Thread nD τ) a18 fullShare s
        ∗ (iprop(owns (c : Thread nD τ) a0 fullShare x0 ∗ owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) a8 fullShare x8 ∗ owns (c : Thread nD τ) a9 fullShare (res9 x0 x1 x2 x3 x4 x5 x6 u) ∗ owns (c : Thread nD τ) a10 fullShare (res10 x0 x1 x2 x3 x4) ∗ owns (c : Thread nD τ) a11 fullShare (res11 x0 x1 x2 x3 x4)
            ∗ owns (c : Thread nD τ) a12 fullShare (res12 x0 x1 x2 x3 x4) ∗ owns (c : Thread nD τ) a13 fullShare (res13 x0 x1 x2 x3 x4) ∗ owns (c : Thread nD τ) a14 fullShare (res14 x0 x1 x2 x3 x4) ∗ owns (c : Thread nD τ) a15 fullShare (res15 x0 x1 x2 x3 x4)
            ∗ owns (c : Thread nD τ) a16 fullShare (res16 x0 x1 x2 x3 x4) ∗ owns (c : Thread nD τ) a17 fullShare (res17 x0 x1 x2 x3 x4) ∗ (∃ s', ⌜Holds s' (k0_pay7 (vVal x0 x1 x2 x3 x4))⌝ ∗ owns (c : Thread nD τ) a18 fullShare s')) -∗ K ⟨⟩))
      ⊢ wp frame (wpE (defs₀ (F := F)) Variants.none c none) E (cc0_inproj_seq i a0 h0 a1 h1 a2 h2 a3 h3 a4 h4 a5 h5 a6 h6 a7 h7 a8 h8 a9 h9 a10 h10 a11 h11 a12 h12 a13 h13 a14 h14 a15 h15 a16 h16 a17 h17 a18 h18) K

/-- One store over a whole buffer leaves what was stored. -/
theorem read_stored {sp : Space} {S : Shape} {e : EltTy} (v : View sig .tc sp S e) (f : v.ty.Contents (Elt F)) {off : Fin S.rank → Nat}
    (h : off = fun _ => 0) (inb : ∀ a, off a + S.size a ≤ S.size a) (w : S.Idx → Elt F e) :
    View.read (Elt F) v (v.writes (Elt F) f [⟨Rect.unit off S.size inb, w⟩]) = w :=
  (View.read_writes_eq_canon _ _ _ fun y => ⟨_, List.mem_singleton_self _, View.mem_set_unit_zero h inb y⟩).trans (View.canon_unit_zero h inb w)

/-- A load reads what the buffer holds at the rectangle. -/
theorem readAt_held {sp : Space} {S : Shape} {e : EltTy} {a : Memref sig .tc sp S e} (ha : a.IsWhole) (r : Rect S) (X : S.Idx → Elt F e) :
    View.readAt (Elt F) a.view r.toLoadRect (ha.unread X) = View.ld X r :=
  funext fun x => ha.readAt_unread X _ x

/-- A load of a whole buffer reads what the buffer holds. -/
theorem readAt_whole {sp : Space} {S : Shape} {e : EltTy} {a : Memref sig .tc sp S e} (ha : a.IsWhole) {off : Fin S.rank → Nat}
    (h : off = fun _ => 0) (inb : ∀ a, off a + S.size a ≤ S.size a) (X : S.Idx → Elt F e) :
    View.readAt (Elt F) a.view (Rect.unit off S.size inb).toLoadRect (ha.unread X) = X :=
  (readAt_held ha _ X).trans (View.ld_unit_zero h inb X)

theorem zero2 : (![0, 0] : Fin 2 → Nat) = fun _ => 0 := by decide
theorem zero3 : (![0, 0, 0] : Fin 3 → Nat) = fun _ => 0 := by decide

/-- A carried row read back after the two rows were stored is that row of them. -/
theorem row_of_store (v : View sig .tc .vmem S8x512 .f32) (o : Fin 2) (inb : ∀ a, (![o.val, 0] : Fin 2 → Nat) a + S1x512.size a ≤ S8x512.size a)
    (w : Vec F S2x512 .f32) :
    v.readCov (Val := Elt F) [⟨rCarry, w⟩] (Rect.unit (s := S8x512) ![o.val, 0] S1x512.size inb).toLoadRect = View.ld w (rRow o) :=
  funext fun x => View.read_writes_cons_unit_of_mem v v.junk _ w [] _ ((rRow o).emb x) rfl fun a => by
    have h : (![0, 0] : Fin 2 → Nat) a = 0 := congrFun zero2 a
    show (![o.val, 0] : Fin 2 → Nat) a + 1 * (x a).val = (![0, 0] : Fin 2 → Nat) a + ((![o.val, 0] : Fin 2 → Nat) a + 1 * (x a).val)
    omega

/-- A row read off the scratch is that row of the two carried ones. -/
theorem row_of_scratch (s : Vec F S8x512 .f32) (o : Fin 2) (inb : ∀ a, (![o.val, 0] : Fin 2 → Nat) a + S1x512.size a ≤ S8x512.size a) :
    View.ld s (Rect.unit (s := S8x512) ![o.val, 0] S1x512.size inb) = View.ld (View.ld s rCarry) (rRow o) :=
  funext fun x => congrArg s (funext fun a => Fin.ext (by
    have h : (![0, 0] : Fin 2 → Nat) a = 0 := congrFun zero2 a
    show (![o.val, 0] : Fin 2 → Nat) a + 1 * (x a).val = (![0, 0] : Fin 2 → Nat) a + 1 * ((![o.val, 0] : Fin 2 → Nat) a + 1 * (x a).val)
    omega))

/-- Once two rows are stored at its head, the scratch holds them. -/
theorem holds_stored (v : View sig .tc .vmem S8x512 .f32) (f : v.ty.Contents (Elt F)) (w : Vec F S2x512 .f32) (L : List (View.Piece (Elt F) S8x512 .f32)) :
    Holds (View.read (Elt F) v (v.writes (Elt F) f (⟨rCarry, w⟩ :: L))) w :=
  funext fun x => View.read_writes_cons_unit_of_mem v f _ w L _ x rfl fun a => by
    show (![0, 0] : Fin 2 → Nat) a + 1 * (x a).val = (![0, 0] : Fin 2 → Nat) a + (x a).val
    omega

/-- The rows before a sequence's first block are taken from the operand. -/
abbrev isFirst (i : grid0.Coords) : Prop := (Scalar.cmpi .ne (Scalar.extui (Scalar.cmpi .eq (BitVec.ofNat 32 (i 1).val) 0#32)) 0#32) = 1#1

variable (c : Dev nD) (i : grid0.Coords) (x0 : Vec F S1x512x1024 .f32) (x1 x2 : Vec F S1x1x1024 .f32) (x3 : Vec F S1x1024 .f32) (x4 : Vec F S1024x2944 .bf16)
    (x5 : Vec F S3x512 .f32) (x6 : Vec F S1x512 .f32) (x7 x8 : Vec F S1x2x512 .f32) (s : Vec F S8x512 .f32) (u : Vec F S2x512 .f32)

set_option maxHeartbeats 2000000 in
/-- A sequence's first block: the two rows before it are the operand's. -/
theorem run_first (hc : isFirst i) : RunSpec c i x0 x1 x2 x3 x4 x5 x6 x7 x8 s (k0_pay6 x7) := by
  intro a0 h0 a1 h1 a2 h2 a3 h3 a4 h4 a5 h5 a6 h6 a7 h7 a8 h8 a9 h9 a10 h10 a11 h11 a12 h12 a13 h13 a14 h14 a15 h15 a16 h16 a17 h17 a18 h18 E K
  simp only [cc0_inproj_seq_eq_skeleton]; unfold cc0_inproj_seq_skel
  simp only [k0_part7_eq_skeleton, k0_part1_eq_skeleton, k0_part2_eq_skeleton, k0_part3_eq_skeleton, k0_part4_eq_skeleton, k0_part5_eq_skeleton, k0_part6_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %e18, H18⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h18.eq_unread e18
  sl_exec (disch := first | sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; swap; · iexact H9
    ipureintro
    refine (read_stored _ _ zero3 _ _).trans ?_
    have q0 : run_first.sl.v37 c x7 a7 h7 a18 = View.ld (k0_pay6 x7) (rRow 0) := by
      unfold run_first.sl.v37 run_first.sl.H18_1
      rw [readAt_whole h7 zero3]
      exact row_of_store _ 0 _ _
    have q1 : run_first.sl.v38 c x7 a7 h7 a18 = View.ld (k0_pay6 x7) (rRow 1) := by
      unfold run_first.sl.v38 run_first.sl.H18_1
      rw [readAt_whole h7 zero3]
      exact row_of_store _ 1 _ _
    unfold run_first.sl.r_5 run_first.sl.r_4 run_first.sl.r_3 run_first.sl.r_2 run_first.sl.r_1 res9 aVal vVal
    rw [readAt_whole h0 zero3, readAt_whole h3 zero2, readAt_whole h2 zero3, readAt_whole h1 zero3, readAt_held h4, readAt_whole h5 zero2, readAt_whole h6 zero2, q0, q1]
  isplitl [H10]
  · iexists _; isplitr; swap; · iexact H10
    ipureintro
    refine (View.read_writes_eq_canon _ _ _ ?_).trans ?_
    · exact View.cover_of_tiled _ S1x1x1x64x512.size (by rfl)
    unfold run_first.sl.r_10 run_first.sl.r_9 run_first.sl.r_8 run_first.sl.r_7 run_first.sl.r_6 run_first.sl.r res10 qVal hVal
    rw [readAt_whole h0 zero3, readAt_whole h3 zero2, readAt_whole h2 zero3, readAt_whole h1 zero3, readAt_held h4]
  isplitl [H11]
  · iexists _; isplitr; swap; · iexact H11
    ipureintro
    refine (read_stored _ _ zero3 _ _).trans ?_
    unfold run_first.sl.r res11 hVal
    rw [readAt_whole h0 zero3, readAt_whole h3 zero2, readAt_whole h2 zero3, readAt_whole h1 zero3, readAt_held h4]
  isplitl [H12]
  · iexists _; isplitr; swap; · iexact H12
    ipureintro
    refine (read_stored _ _ zero3 _ _).trans ?_
    unfold run_first.sl.r_12 run_first.sl.r res12 hVal
    rw [readAt_whole h0 zero3, readAt_whole h3 zero2, readAt_whole h2 zero3, readAt_whole h1 zero3, readAt_held h4]
  isplitl [H13]
  · iexists _; isplitr; swap; · iexact H13
    ipureintro
    refine (read_stored _ _ zero3 _ _).trans ?_
    unfold run_first.sl.r_11 run_first.sl.r res13 kvVal hVal
    rw [readAt_whole h0 zero3, readAt_whole h3 zero2, readAt_whole h2 zero3, readAt_whole h1 zero3, readAt_held h4]
  isplitl [H14]
  · iexists _; isplitr; swap; · iexact H14
    ipureintro
    refine (read_stored _ _ zero3 _ _).trans ?_
    unfold run_first.sl.r_14 run_first.sl.r res14 hVal
    rw [readAt_whole h0 zero3, readAt_whole h3 zero2, readAt_whole h2 zero3, readAt_whole h1 zero3, readAt_held h4]
  isplitl [H15]
  · iexists _; isplitr; swap; · iexact H15
    ipureintro
    refine (read_stored _ _ zero3 _ _).trans ?_
    unfold run_first.sl.r_2 res15 vVal
    rw [readAt_whole h0 zero3, readAt_whole h3 zero2, readAt_whole h2 zero3, readAt_whole h1 zero3, readAt_held h4]
  isplitl [H16]
  · iexists _; isplitr; swap; · iexact H16
    ipureintro
    refine (View.read_writes_eq_canon _ _ _ ?_).trans ?_
    · exact View.cover_of_tiled _ S1x1x512x64.size (by rfl)
    unfold run_first.sl.r_13 run_first.sl.r_11 run_first.sl.r res16 kvVal hVal
    rw [readAt_whole h0 zero3, readAt_whole h3 zero2, readAt_whole h2 zero3, readAt_whole h1 zero3, readAt_held h4]
  isplitl [H17]
  · iexists _; isplitr; swap; · iexact H17
    ipureintro
    refine (View.read_writes_eq_canon _ _ _ ?_).trans ?_
    · exact View.cover_of_tiled _ S1x1x64x512.size (by rfl)
    unfold run_first.sl.r_11 run_first.sl.r res17 kvVal hVal
    rw [readAt_whole h0 zero3, readAt_whole h3 zero2, readAt_whole h2 zero3, readAt_whole h1 zero3, readAt_held h4]
  iexists _; isplitr; swap
  · iexists _; isplitr; swap; · iexact H18
    ipureintro; rfl
  ipureintro
  refine (holds_stored _ _ _ _).trans ?_
  unfold run_first.sl.r_2 vVal
  rw [readAt_whole h0 zero3, readAt_whole h3 zero2, readAt_whole h2 zero3, readAt_whole h1 zero3, readAt_held h4]

set_option maxHeartbeats 2000000 in
/-- A later block: the two rows before it are the ones the scratch carries. -/
theorem run_later (hc : ¬ isFirst i) (hs : Holds s u) : RunSpec c i x0 x1 x2 x3 x4 x5 x6 x7 x8 s u := by
  intro a0 h0 a1 h1 a2 h2 a3 h3 a4 h4 a5 h5 a6 h6 a7 h7 a8 h8 a9 h9 a10 h10 a11 h11 a12 h12 a13 h13 a14 h14 a15 h15 a16 h16 a17 h17 a18 h18 E K
  simp only [cc0_inproj_seq_eq_skeleton]; unfold cc0_inproj_seq_skel
  simp only [k0_part7_eq_skeleton, k0_part1_eq_skeleton, k0_part2_eq_skeleton, k0_part3_eq_skeleton, k0_part4_eq_skeleton, k0_part5_eq_skeleton, k0_part6_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %e18, H18⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h18.eq_unread e18
  sl_exec (disch := first | sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; swap; · iexact H9
    ipureintro
    refine (read_stored _ _ zero3 _ _).trans ?_
    have q0 : View.readAt (Elt F) a18.view (Rect.unit (s := S8x512) ![0, 0] S1x512.size inb_S8x512_S1x512_0_0).toLoadRect (h18.unread s) = View.ld u (rRow 0) :=
      (readAt_held h18 _ s).trans ((row_of_scratch s 0 _).trans (congrArg (fun z => View.ld z (rRow 0)) hs))
    have q1 : View.readAt (Elt F) a18.view (Rect.unit (s := S8x512) ![1, 0] S1x512.size inb_S8x512_S1x512_1_0).toLoadRect (h18.unread s) = View.ld u (rRow 1) :=
      (readAt_held h18 _ s).trans ((row_of_scratch s 1 _).trans (congrArg (fun z => View.ld z (rRow 1)) hs))
    unfold run_later.sl.r_5 run_later.sl.r_4 run_later.sl.r_3 run_later.sl.r_2 run_later.sl.r_1 res9 aVal vVal
    rw [readAt_whole h0 zero3, readAt_whole h3 zero2, readAt_whole h2 zero3, readAt_whole h1 zero3, readAt_held h4, readAt_whole h5 zero2, readAt_whole h6 zero2, q0, q1]
  isplitl [H10]
  · iexists _; isplitr; swap; · iexact H10
    ipureintro
    refine (View.read_writes_eq_canon _ _ _ ?_).trans ?_
    · exact View.cover_of_tiled _ S1x1x1x64x512.size (by rfl)
    unfold run_later.sl.r_10 run_later.sl.r_9 run_later.sl.r_8 run_later.sl.r_7 run_later.sl.r_6 run_later.sl.r res10 qVal hVal
    rw [readAt_whole h0 zero3, readAt_whole h3 zero2, readAt_whole h2 zero3, readAt_whole h1 zero3, readAt_held h4]
  isplitl [H11]
  · iexists _; isplitr; swap; · iexact H11
    ipureintro
    refine (read_stored _ _ zero3 _ _).trans ?_
    unfold run_later.sl.r res11 hVal
    rw [readAt_whole h0 zero3, readAt_whole h3 zero2, readAt_whole h2 zero3, readAt_whole h1 zero3, readAt_held h4]
  isplitl [H12]
  · iexists _; isplitr; swap; · iexact H12
    ipureintro
    refine (read_stored _ _ zero3 _ _).trans ?_
    unfold run_later.sl.r_12 run_later.sl.r res12 hVal
    rw [readAt_whole h0 zero3, readAt_whole h3 zero2, readAt_whole h2 zero3, readAt_whole h1 zero3, readAt_held h4]
  isplitl [H13]
  · iexists _; isplitr; swap; · iexact H13
    ipureintro
    refine (read_stored _ _ zero3 _ _).trans ?_
    unfold run_later.sl.r_11 run_later.sl.r res13 kvVal hVal
    rw [readAt_whole h0 zero3, readAt_whole h3 zero2, readAt_whole h2 zero3, readAt_whole h1 zero3, readAt_held h4]
  isplitl [H14]
  · iexists _; isplitr; swap; · iexact H14
    ipureintro
    refine (read_stored _ _ zero3 _ _).trans ?_
    unfold run_later.sl.r_14 run_later.sl.r res14 hVal
    rw [readAt_whole h0 zero3, readAt_whole h3 zero2, readAt_whole h2 zero3, readAt_whole h1 zero3, readAt_held h4]
  isplitl [H15]
  · iexists _; isplitr; swap; · iexact H15
    ipureintro
    refine (read_stored _ _ zero3 _ _).trans ?_
    unfold run_later.sl.r_2 res15 vVal
    rw [readAt_whole h0 zero3, readAt_whole h3 zero2, readAt_whole h2 zero3, readAt_whole h1 zero3, readAt_held h4]
  isplitl [H16]
  · iexists _; isplitr; swap; · iexact H16
    ipureintro
    refine (View.read_writes_eq_canon _ _ _ ?_).trans ?_
    · exact View.cover_of_tiled _ S1x1x512x64.size (by rfl)
    unfold run_later.sl.r_13 run_later.sl.r_11 run_later.sl.r res16 kvVal hVal
    rw [readAt_whole h0 zero3, readAt_whole h3 zero2, readAt_whole h2 zero3, readAt_whole h1 zero3, readAt_held h4]
  isplitl [H17]
  · iexists _; isplitr; swap; · iexact H17
    ipureintro
    refine (View.read_writes_eq_canon _ _ _ ?_).trans ?_
    · exact View.cover_of_tiled _ S1x1x64x512.size (by rfl)
    unfold run_later.sl.r_11 run_later.sl.r res17 kvVal hVal
    rw [readAt_whole h0 zero3, readAt_whole h3 zero2, readAt_whole h2 zero3, readAt_whole h1 zero3, readAt_held h4]
  iexists _; isplitr; swap
  · iexists _; isplitr; swap; · iexact H18
    ipureintro; rfl
  ipureintro
  refine (holds_stored _ _ _ _).trans ?_
  unfold run_later.sl.r_2 vVal
  rw [readAt_whole h0 zero3, readAt_whole h3 zero2, readAt_whole h2 zero3, readAt_whole h1 zero3, readAt_held h4]

end Cert.PromptIdeal.Gen

end
-- ==== Proof.InpPromptFrame.lean ====
/-
  The prompt's input projection over the grid: what each block of each result is, that the scratch carries the last
  two rows of the convolution's input from block to block, and the launch.
-/
module

public import proofs.«01_k».proof.Proof.InpPromptRun
public import proofs.«01_k».proof.Proof.Gen.PromptIdeal.Frame
public import proofs.«01_k».proof.Proof.Gen.PromptIdeal.Launch
public import Idealize.ShloMosaic.Lib.Claim

@[expose] public section

set_option maxRecDepth 16384

noncomputable section

namespace Cert.PromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordCmp
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first block of each of the four sequences: every sixteenth point. -/
theorem isFirst_iff (t : Fin cfg0.N) : isFirst (grid0.coords t) ↔ t.val % 16 = 0 := by
  have ht : t.val < 64 := Nat.lt_of_lt_of_eq t.isLt N_0
  have e0 : (grid0.coords t 0).val = t.val / 16 % 4 := Pipeline.Grid.coords_val t 0 (by decide) rfl
  have e1 : (grid0.coords t 1).val = t.val / 1 % 16 := Pipeline.Grid.coords_val t 1 (by decide) rfl
  simp only [isFirst, e0, e1]
  word_cmp

/-- The last two of a block's rows of the convolution's input. -/
def lastRows (c : Dev nD) (t : Fin cfg0.N) : Vec F S2x512 .f32 :=
  k0_pay7 (vVal (iblk m c 0 t) (iblk m c 1 t) (iblk m c 2 t) (iblk m c 3 t) (iblk m c 4 t))

/-- The two rows before a block: the operand's at a sequence's first block, the block before's last two otherwise. -/
def carried (c : Dev nD) (t : Fin cfg0.N) : Vec F S2x512 .f32 :=
  if t.val % 16 = 0 then k0_pay6 (iblk m c 7 t) else lastRows m c ⟨t.val - 1, lt_of_le_of_lt (Nat.sub_le _ _) t.isLt⟩

/-- Before point `n` the scratch holds the last two rows of the block before. -/
def Carries (c : Dev nD) (n : Nat) (s : Vec F S8x512 .f32) : Prop := ∀ t : Fin cfg0.N, t.val + 1 = n → Holds s (lastRows m c t)

/-- The carried rows' scratch. -/
abbrev scM : Memref sig .tc .vmem S8x512 .f32 := Memref.whole cc0_scratch0
theorem hscM : scM.IsWhole := Memref.isWhole_whole _

/-- The invariant before point `n`: the scratch and the generator register. -/
def Inv (c : Dev nD) (n : Nat) : sProp 𝕄 :=
  iprop((∃ s, ⌜Carries m c n s⌝ ∗ owns (c : Thread nD τ) scM fullShare s) ∗ (∃ g, prngReg c g))

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The proof data: each input's buffer at its block, each output's at what the body leaves, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => res9 (iblk m c 0 t) (iblk m c 1 t) (iblk m c 2 t) (iblk m c 3 t) (iblk m c 4 t) (iblk m c 5 t) (iblk m c 6 t) (carried m c t)
    | ⟨10, _⟩ => res10 (iblk m c 0 t) (iblk m c 1 t) (iblk m c 2 t) (iblk m c 3 t) (iblk m c 4 t)
    | ⟨11, _⟩ => res11 (iblk m c 0 t) (iblk m c 1 t) (iblk m c 2 t) (iblk m c 3 t) (iblk m c 4 t)
    | ⟨12, _⟩ => res12 (iblk m c 0 t) (iblk m c 1 t) (iblk m c 2 t) (iblk m c 3 t) (iblk m c 4 t)
    | ⟨13, _⟩ => res13 (iblk m c 0 t) (iblk m c 1 t) (iblk m c 2 t) (iblk m c 3 t) (iblk m c 4 t)
    | ⟨14, _⟩ => res14 (iblk m c 0 t) (iblk m c 1 t) (iblk m c 2 t) (iblk m c 3 t) (iblk m c 4 t)
    | ⟨15, _⟩ => res15 (iblk m c 0 t) (iblk m c 1 t) (iblk m c 2 t) (iblk m c 3 t) (iblk m c 4 t)
    | ⟨16, _⟩ => res16 (iblk m c 0 t) (iblk m c 1 t) (iblk m c 2 t) (iblk m c 3 t) (iblk m c 4 t)
    | ⟨17, _⟩ => res17 (iblk m c 0 t) (iblk m c 1 t) (iblk m c 2 t) (iblk m c 3 t) (iblk m c 4 t)
    | ⟨_ + 18, h⟩ => absurd h (Nat.not_lt.2 (Nat.le_add_left _ _))
  Φ t := Inv m c t.val
  q w := Pipeline.shareOf spec0 w
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = res9 (iblk m c 0 t) (iblk m c 1 t) (iblk m c 2 t) (iblk m c 3 t) (iblk m c 4 t) (iblk m c 5 t) (iblk m c 6 t) (carried m c t) := by dsimp only [dats]
theorem after10 (c : Dev nD) (t : Fin cfg0.N) : (dats m 0 c).after 10 t = res10 (iblk m c 0 t) (iblk m c 1 t) (iblk m c 2 t) (iblk m c 3 t) (iblk m c 4 t) := by dsimp only [dats]
theorem after11 (c : Dev nD) (t : Fin cfg0.N) : (dats m 0 c).after 11 t = res11 (iblk m c 0 t) (iblk m c 1 t) (iblk m c 2 t) (iblk m c 3 t) (iblk m c 4 t) := by dsimp only [dats]
theorem after12 (c : Dev nD) (t : Fin cfg0.N) : (dats m 0 c).after 12 t = res12 (iblk m c 0 t) (iblk m c 1 t) (iblk m c 2 t) (iblk m c 3 t) (iblk m c 4 t) := by dsimp only [dats]
theorem after13 (c : Dev nD) (t : Fin cfg0.N) : (dats m 0 c).after 13 t = res13 (iblk m c 0 t) (iblk m c 1 t) (iblk m c 2 t) (iblk m c 3 t) (iblk m c 4 t) := by dsimp only [dats]
theorem after14 (c : Dev nD) (t : Fin cfg0.N) : (dats m 0 c).after 14 t = res14 (iblk m c 0 t) (iblk m c 1 t) (iblk m c 2 t) (iblk m c 3 t) (iblk m c 4 t) := by dsimp only [dats]
theorem after15 (c : Dev nD) (t : Fin cfg0.N) : (dats m 0 c).after 15 t = res15 (iblk m c 0 t) (iblk m c 1 t) (iblk m c 2 t) (iblk m c 3 t) (iblk m c 4 t) := by dsimp only [dats]
theorem after16 (c : Dev nD) (t : Fin cfg0.N) : (dats m 0 c).after 16 t = res16 (iblk m c 0 t) (iblk m c 1 t) (iblk m c 2 t) (iblk m c 3 t) (iblk m c 4 t) := by dsimp only [dats]
theorem after17 (c : Dev nD) (t : Fin cfg0.N) : (dats m 0 c).after 17 t = res17 (iblk m c 0 t) (iblk m c 1 t) (iblk m c 2 t) (iblk m c 3 t) (iblk m c 4 t) := by dsimp only [dats]

/-- An input's staging buffer holds its block at every point. -/
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d

theorem Phi_castSucc (c : Dev nD) (t : Fin cfg0.N) : (dats m 0 c).Φ t.castSucc = Inv m c t.val := by
  dsimp only [dats]; exact Pipeline.Dat.Φ_castSucc (fun n _ => Inv m c n) t
theorem Phi_succ (c : Dev nD) (t : Fin cfg0.N) : (dats m 0 c).Φ t.succ = Inv m c (t.val + 1) := by dsimp only [dats]; rfl
theorem Phi_eq (c : Dev nD) (n : Fin (cfg0.N + 1)) : (dats m 0 c).Φ n = Inv m c n.val := by dsimp only [dats]

/-! ## The body at a point -/

/-- The two cases as one. -/
theorem run_at (c : Dev nD) (t : Fin cfg0.N) (s : Vec F S8x512 .f32) (hs : Carries m c t.val s) :
    RunSpec c (grid0.coords t) (iblk m c 0 t) (iblk m c 1 t) (iblk m c 2 t) (iblk m c 3 t) (iblk m c 4 t) (iblk m c 5 t) (iblk m c 6 t) (iblk m c 7 t) (iblk m c 8 t) s (carried m c t) := by
  unfold carried
  by_cases h : t.val % 16 = 0
  · rw [if_pos h]
    exact run_first c _ _ _ _ _ _ _ _ _ _ s ((isFirst_iff t).mpr h)
  · rw [if_neg h]
    exact run_later c _ _ _ _ _ _ _ _ _ _ s _ (fun k => h ((isFirst_iff t).mp k)) (hs ⟨t.val - 1, lt_of_le_of_lt (Nat.sub_le _ _) t.isLt⟩ (by show t.val - 1 + 1 = t.val; omega))

theorem carries_next (c : Dev nD) (t : Fin cfg0.N) (s : Vec F S8x512 .f32) (h : Holds s (lastRows m c t)) : Carries m c (t.val + 1) s := by
  intro t' ht
  obtain rfl : t' = t := Fin.ext (by omega)
  exact h

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl,
    after0, after1, after2, after3, after4, after5, after6, after7, after8, after9, after10, after11, after12, after13, after14, after15, after16, after17, Phi_castSucc, Phi_succ]
  unfold Inv
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (run_at m c t s hs _ _ _ _ _ _ _ _ _ _ _ _ _ _ _ _ _ _ _ _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [HS]; · iexact HS
  iintro ⟨H0, H1, H2, H3, H4, H5, H6, H7, H8, H9, H10, H11, H12, H13, H14, H15, H16, H17, ⟨%s', %hs', HS⟩⟩
  isplitl [HS Hg]
  · isplitl [HS]
    · iexists _; isplitr; · ipureintro; exact carries_next m c t _ hs'
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem enter (c : Dev nD) : Pipeline.ΦA spec0 c ⊢ (dats m 0 c).Φ 0 := by
  rw [Phi_eq, PhiA_eq]
  unfold Inv
  iintro ⟨⟨%s, HS⟩, Hg⟩
  isplitl [HS]
  · iexists s; isplitr; · ipureintro; intro t h; exact absurd h (Nat.succ_ne_zero _)
    iexact HS
  iexact Hg

theorem leave (c : Dev nD) : (dats m 0 c).Φ (Fin.last cfg0.N) ⊢ Pipeline.ΦA spec0 c := by
  rw [Phi_eq, PhiA_eq]
  unfold Inv
  iintro ⟨⟨%s, %hs, HS⟩, Hg⟩
  isplitl [HS]
  · iexists s; iexact HS
  iexact Hg

set_option backward.isDefEq.respectTransparency.types false in
/-- The run: every array at what its write-backs leave, the lines after the region run on it, every semaphore at zero. -/
theorem run_all : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m)
    (hin := enter m) (hout := leave m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_all m ρ)

/-- The arguments end as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_all m ρ))

end Cert.PromptIdeal.Gen

end
-- ==== Proof.InpPromptCarry.lean ====
/-
  The printed prompt projection and its idealized twin are one program: the first ends as the second does.
-/
module

public import proofs.«01_k».proof.Proof.InpPromptFrame
public import proofs.«01_k».proof.Proof.Gen.Prompt

@[expose] public section

set_option maxRecDepth 16384

noncomputable section

namespace Cert.Inproj

open Idealize.ShloMosaic Idealize.ShloMosaic.TcCoe Idealize.SL.Sem

variable {F : FTy → Type} [FloatOps F]

set_option maxHeartbeats 20000000 in
/-- The two body tables run one body. -/
theorem defs0_prompt : @Cert.Prompt.defs₀ F _ Cert.Prompt.Gen.facts = @Cert.PromptIdeal.defs₀ F _ Cert.PromptIdeal.Gen.facts := by
  unfold Cert.Prompt.defs₀ Cert.PromptIdeal.defs₀
  refine congrArg Defs.onTc (funext fun l => funext fun x => ?_)
  match l, x with
  | ⟨0, _⟩, (t, s) => rfl

theorem defs_prompt : @Cert.Prompt.defs F _ Cert.Prompt.Gen.facts = @Cert.PromptIdeal.defs F _ Cert.PromptIdeal.Gen.facts :=
  congrArg (Pipeline.defs (Cert.PromptIdeal.pcfgs (F := F))) defs0_prompt

set_option maxHeartbeats 20000000 in
/-- The two hosts' lines are one. -/
theorem main_prompt : @Cert.Prompt.main F _ Cert.Prompt.Gen.facts = @Cert.PromptIdeal.main F _ Cert.PromptIdeal.Gen.facts := by
  unfold Cert.Prompt.main Cert.PromptIdeal.main
  rfl

/-- The prompt projection's frame. -/
theorem frame_prompt (m : (ℓ : Loc Cert.Prompt.nD Cert.Prompt.τ Cert.Prompt.sig) → Buf (Elt F) ℓ) (g : Dev Cert.Prompt.nD → PrngReg) :
    θ_run (Cert.Prompt.defs (F := F)) (onTc (τ := Cert.Prompt.τ) (Cert.Prompt.main (F := F))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6))
      ∧ r.2.sem = fun _ => 0) := by
  rw [defs_prompt, main_prompt]
  exact Cert.PromptIdeal.Gen.frame (F := F) m g

end Cert.Inproj

end
-- ==== Proof.InpPromptBlk.lean ====
/-
  The prompt's kernel: what each result's block holds, element by element.
-/
module

public import proofs.«01_k».proof.Proof.InpPromptRun
public import proofs.«01_k».proof.Proof.InpRow
public import Idealize.ShloMosaic.Lib.Pipeline.ValueKit
public import Idealize.ShloMosaic.Lib.ValueIdxRank6
public import Idealize.ShloMosaic.Lib.WordCmp

@[expose] public section

set_option maxRecDepth 16384

noncomputable section

namespace Cert.PromptIdeal.Inproj

open Idealize.ShloMosaic Idealize.ShloMosaic.TcCoe Cert.PromptIdeal Cert.PromptIdeal.Gen Cert.Inproj

variable (x0 : Vec Ideal S1x512x1024 .f32) (x1 : Vec Ideal S1x1x1024 .f32) (x2 : Vec Ideal S1x1x1024 .f32) (x3 : Vec Ideal S1x1024 .f32) (x4 : Vec Ideal S1024x2944 .bf16)
  (x5 : Vec Ideal S3x512 .f32) (x6 : Vec Ideal S1x512 .f32) (w : Vec Ideal S2x512 .f32)

/-- The normed and modulated row `r` of the block. -/
def hrow (r : Fin 512) : Fin 1024 → EReal :=
  hiddenRow (fun k => x0 (ix3 0 r k)) (fun k => x1 (ix3 0 0 k)) (fun k => x2 (ix3 0 0 k)) (fun k => x3 (ix2 0 k))

/-- Its product with the weight's columns. -/
def urow (r : Fin 512) : Fin 2840 → EReal :=
  proj (hrow x0 x1 x2 x3 r) (fun k j => x4 (ix2 k ⟨j.val, by omega⟩))

theorem hVal_at (r : Fin 512) (k : Fin 1024) : hVal (F := Ideal) x0 x1 x2 x3 (ix2 r k) = hrow x0 x1 x2 x3 r k := by
  unfold hVal
  pointwise [k0_pay2, hrow, hiddenRow, normed]

theorem pay3_at (r : Fin 512) (j : Fin 1536) : k0_pay3 (F := Ideal) x0 x3 x2 x1 (View.ld x4 rWa) (ix2 r j) = urow x0 x1 x2 x3 x4 r ⟨j.val, by omega⟩ := by
  pointwise [k0_pay3, k0_pay2, urow, proj, hrow, hiddenRow, normed]

theorem aVal_at (r : Fin 512) (j : Fin 512) : aVal (F := Ideal) x0 x1 x2 x3 x4 (ix2 r j) = urow x0 x1 x2 x3 x4 r ⟨j.val, by omega⟩ := by
  unfold aVal
  pointwise [k0_pay4, pay3_at]

theorem vVal_at (r : Fin 512) (j : Fin 512) : vVal (F := Ideal) x0 x1 x2 x3 x4 (ix2 r j) = gated (urow x0 x1 x2 x3 x4 r) j := by
  unfold vVal
  pointwise [k0_pay5, pay3_at, gated]

/-- The queries lie transposed: a column to a row of the block. -/
theorem qVal_at (j : Fin 512) (r : Fin 512) :
    qVal (F := Ideal) x0 x1 x2 x3 x4 (ix2 j r) = urow x0 x1 x2 x3 x4 r ⟨1536 + j.val, by omega⟩ * Ideal.ofBits .f32 0x3E38AA3B#32 := by
  unfold qVal
  pointwise [k0_pay13, hVal_at, urow, proj]

theorem kvVal_at (r : Fin 512) (j : Fin 768) : kvVal (F := Ideal) x0 x1 x2 x3 x4 (ix2 r j) = urow x0 x1 x2 x3 x4 r ⟨2048 + j.val, by omega⟩ := by
  unfold kvVal
  pointwise [k0_pay26, hVal_at, urow, proj]

theorem res11_at (r : Fin 512) (j : Fin 256) : res11 (F := Ideal) x0 x1 x2 x3 x4 (ix3 0 r j) = urow x0 x1 x2 x3 x4 r ⟨2048 + j.val, by omega⟩ := by
  unfold res11
  pointwise [k0_pay27, k0_pay26, hVal_at, urow, proj]

theorem res12_at (r : Fin 512) (j : Fin 256) : res12 (F := Ideal) x0 x1 x2 x3 x4 (ix3 0 r j) = urow x0 x1 x2 x3 x4 r ⟨2048 + (256 + j.val), by omega⟩ := by
  unfold res12
  pointwise [k0_pay29, k0_pay28, k0_pay26, hVal_at, urow, proj]

theorem res13_at (r : Fin 512) (j : Fin 256) : res13 (F := Ideal) x0 x1 x2 x3 x4 (ix3 0 r j) = urow x0 x1 x2 x3 x4 r ⟨2048 + (512 + j.val), by omega⟩ := by
  unfold res13
  pointwise [k0_pay30, kvVal_at]

theorem res14_all (r : Fin 512) (j : Fin 128) :
    res14 (F := Ideal) x0 x1 x2 x3 x4 (ix3 0 r j) = gateOf (∑ k : Fin 1024, hrow x0 x1 x2 x3 r k * x4 (ix2 k ⟨2816 + j.val, by omega⟩)) := by
  unfold res14
  pointwise [k0_pay1, k0_pay42, hVal_at, gateOf]
  rw [zero_sub]

theorem res15_at (z : Fin 2) (j : Fin 512) : res15 (F := Ideal) x0 x1 x2 x3 x4 (ix3 0 z j) = gated (urow x0 x1 x2 x3 x4 ⟨510 + z.val, by omega⟩) j := by
  unfold res15
  pointwise [k0_pay8, vVal_at]

theorem last_at (z : Fin 2) (j : Fin 512) : k0_pay7 (F := Ideal) (vVal x0 x1 x2 x3 x4) (ix2 z j) = gated (urow x0 x1 x2 x3 x4 ⟨510 + z.val, by omega⟩) j := by
  pointwise [k0_pay7, vVal_at]

/-! ## The convolution: the two rows before a row, the carried rows `w` before the block's first -/

/-- The row `k` rows before row `r`, the carried rows before the block's first. -/
def prev (v : Fin 512 → Fin 512 → EReal) (k : Fin 3) (r : Fin 512) (j : Fin 512) : EReal :=
  if h : k.val ≤ r.val then v ⟨r.val - k.val, by omega⟩ j else w (ix2 ⟨2 + r.val - k.val, by omega⟩ j)

omit w in
/-- A choice by the row's number. -/
theorem sel_row (r : Fin 512) (n : BitVec 32) (a b : EReal) :
    Scalar.select (IntOp.cmpi .eq (BitVec.ofNat 32 r.val) n) a b = if r.val = n.toNat then a else b := by
  have hr : (BitVec.ofNat 32 r.val).toNat = r.val := by
    rw [BitVec.toNat_ofNat]
    have := r.isLt
    omega
  unfold Scalar.select
  rw [WordCmp.cmpi_eq_eq_toNat, hr]
  refine if_congr ?_ rfl rfl
  exact WordCmp.ofBool_decide_eq_one_iff _

theorem pay11_at (v : FVec Ideal S512x512 .f32) (r j : Fin 512) :
    k0_pay11 (F := Ideal) v (View.ld w (rRow 1)) x5 (ix2 r j) = x5 (ix2 1 j) * prev w (fun r j => v (ix2 r j)) 1 r j := by
  have hr := r.isLt
  have e : k0_pay11 (F := Ideal) v (View.ld w (rRow 1)) x5 (ix2 r j)
      = x5 (ix2 1 j) * Scalar.select (IntOp.cmpi .eq (BitVec.ofNat 32 r.val) 0#32) (w (ix2 1 j)) (v (ix2 ⟨(r.val + 512 - 1) % 512, Nat.mod_lt _ (by decide)⟩ j)) := by
    pointwise [k0_pay11, k0_pay9]
  rw [e, sel_row]
  unfold prev
  refine congrArg (x5 (ix2 1 j) * ·) ?_
  by_cases h : 1 ≤ r.val
  · rw [dif_pos (show (1 : Fin 3).val ≤ r.val from h), if_neg (show ¬ r.val = (0#32 : BitVec 32).toNat from by show ¬ r.val = 0; omega)]
    exact congrArg (fun q => v (ix2 q j)) (Fin.ext (by show (r.val + 512 - 1) % 512 = r.val - 1; omega))
  · rw [dif_neg (show ¬ (1 : Fin 3).val ≤ r.val from h), if_pos (show r.val = (0#32 : BitVec 32).toNat from by show r.val = 0; omega)]
    exact congrArg (fun q => w (ix2 q j)) (Fin.ext (by show 1 = 2 + r.val - 1; omega))

theorem pay10_at (v : FVec Ideal S512x512 .f32) (r j : Fin 512) :
    k0_pay10 (F := Ideal) v (View.ld w (rRow 0)) (View.ld w (rRow 1)) x5 (ix2 r j) = x5 (ix2 0 j) * prev w (fun r j => v (ix2 r j)) 2 r j := by
  have hr := r.isLt
  have e : k0_pay10 (F := Ideal) v (View.ld w (rRow 0)) (View.ld w (rRow 1)) x5 (ix2 r j)
      = x5 (ix2 0 j) * Scalar.select (IntOp.cmpi .eq (BitVec.ofNat 32 r.val) 0#32) (w (ix2 0 j))
          (Scalar.select (IntOp.cmpi .eq (BitVec.ofNat 32 r.val) 1#32) (w (ix2 1 j)) (v (ix2 ⟨(r.val + 512 - 2) % 512, Nat.mod_lt _ (by decide)⟩ j))) := by
    pointwise [k0_pay10, k0_pay9]
  rw [e, sel_row, sel_row]
  unfold prev
  refine congrArg (x5 (ix2 0 j) * ·) ?_
  by_cases h : 2 ≤ r.val
  · rw [dif_pos (show (2 : Fin 3).val ≤ r.val from h), if_neg (show ¬ r.val = (0#32 : BitVec 32).toNat from by show ¬ r.val = 0; omega),
      if_neg (show ¬ r.val = (1#32 : BitVec 32).toNat from by show ¬ r.val = 1; omega)]
    exact congrArg (fun q => v (ix2 q j)) (Fin.ext (by show (r.val + 512 - 2) % 512 = r.val - 2; omega))
  · rw [dif_neg (show ¬ (2 : Fin 3).val ≤ r.val from h)]
    by_cases h0 : r.val = 0
    · rw [if_pos (show r.val = (0#32 : BitVec 32).toNat from h0)]
      exact congrArg (fun q => w (ix2 q j)) (Fin.ext (by show 0 = 2 + r.val - 2; omega))
    · rw [if_neg (show ¬ r.val = (0#32 : BitVec 32).toNat from h0), if_pos (show r.val = (1#32 : BitVec 32).toNat from by show r.val = 1; omega)]
      exact congrArg (fun q => w (ix2 q j)) (Fin.ext (by show 1 = 2 + r.val - 2; omega))

theorem res9_at (r j : Fin 512) :
    res9 (F := Ideal) x0 x1 x2 x3 x4 x5 x6 w (ix3 0 r j)
      = convn (urow x0 x1 x2 x3 x4 r) (fun k j => x5 (ix2 k j)) (fun j => x6 (ix2 0 j)) (prev w (fun r j => gated (urow x0 x1 x2 x3 x4 r) j) 2 r)
          (prev w (fun r j => gated (urow x0 x1 x2 x3 x4 r) j) 1 r) (gated (urow x0 x1 x2 x3 x4 r)) j := by
  unfold res9
  have e : (fun r j => vVal (F := Ideal) x0 x1 x2 x3 x4 (ix2 r j)) = fun r j => gated (urow x0 x1 x2 x3 x4 r) j := funext fun r => funext fun j => vVal_at x0 x1 x2 x3 x4 r j
  pointwise [k0_pay12, k0_pay9, pay10_at, pay11_at, aVal_at, vVal_at, e, convn, conv, normed]

/-! ## The queries, keys and values by heads -/

omit w in
/-- Four of the transposed queries' head rows beside one another. -/
theorem tile_at (q : FVec Ideal S512x512 .f32) (o n : Nat) (s0 : Shape.Slices S512x512 ![o, n] S64x128) (s1 : Shape.Slices S512x512 ![o + 64, n] S64x128)
    (s2 : Shape.Slices S512x512 ![o + 128, n] S64x128) (s3 : Shape.Slices S512x512 ![o + 192, n] S64x128) (d : Fin 64) (g : Fin 4) (p : Fin 128) (h : Fin 2) (b : Fin 4)
    (ho : h.val * 256 = o) (hn : b.val * 128 = n) (hgp : g.val * 128 + p.val < 512) (hq : h.val * 256 + (g.val * 64 + d.val) < 512) (hb : b.val * 128 + p.val < 512) :
    shapeCast S1x1x1x64x512 (truncf (F := Ideal) .bf16 (concatenate S64x512 1 [⟨S64x128, extractStridedSlice S64x128 ![o, n] q s0⟩, ⟨S64x128, extractStridedSlice S64x128 ![o + 64, n] q s1⟩,
      ⟨S64x128, extractStridedSlice S64x128 ![o + 128, n] q s2⟩, ⟨S64x128, extractStridedSlice S64x128 ![o + 192, n] q s3⟩] concatenates_S64x128_S64x128_S64x128_S64x128_S64x512_d1) bitsLt_bf16_f32)
      shapeCasts_S64x512_S1x1x1x64x512 (ix5 0 0 0 d ⟨g.val * 128 + p.val, hgp⟩) = q (ix2 ⟨h.val * 256 + (g.val * 64 + d.val), hq⟩ ⟨b.val * 128 + p.val, hb⟩) := by
  subst ho hn
  have hp := p.isLt
  match g with
  | ⟨0, _⟩ =>
    have c0 : 0 * 128 + p.val < 64 + 64 := by omega
    pointwise [c0]
  | ⟨1, _⟩ =>
    pointwise
    exact congrArg q (congrArg (fun z => ix2 z _) (Fin.ext (Nat.add_assoc _ _ _)))
  | ⟨2, _⟩ =>
    pointwise
    rw [dif_neg (by omega), dif_neg (by omega), dif_pos (by omega)]
    exact congrArg q (congr (congrArg ix2 (Fin.ext (by show h.val * 256 + 128 + d.val = h.val * 256 + (128 + d.val); omega))) (Fin.ext (by show b.val * 128 + (256 + p.val - 128 - 128) = b.val * 128 + p.val; omega)))
  | ⟨3, _⟩ =>
    pointwise
    rw [dif_neg (by omega), dif_neg (by omega), dif_neg (by omega)]
    exact congrArg q (congr (congrArg ix2 (Fin.ext (by show h.val * 256 + 192 + d.val = h.val * 256 + (192 + d.val); omega))) (Fin.ext (by show b.val * 128 + (384 + p.val - 128 - 128 - 128) = b.val * 128 + p.val; omega)))

/-- The first column of each of the four heads of a group of columns: the keys' from `0`, the values' from `128`. -/
def headCol (a : Fin 4) (b : Nat) : Nat := 256 + b + a.val * 64 + a.val / 2 * 128

theorem res16_at (a : Fin 4) (r : Fin 512) (d : Fin 64) (hc : headCol a 0 + d.val < 768) :
    res16 (F := Ideal) x0 x1 x2 x3 x4 (ix4 0 a r d) = urow x0 x1 x2 x3 x4 r ⟨2048 + (headCol a 0 + d.val), by omega⟩ := by
  refine Eq.trans ?_ (kvVal_at x0 x1 x2 x3 x4 r ⟨headCol a 0 + d.val, hc⟩)
  unfold res16
  canon_tiles x q
  all_goals
    (have h1 : a.val = _ := q1
     have h2 : r.val = _ := q2
     have h3 : d.val = _ := q3
     rw [Nat.lt_one_iff.1 x1_lt] at h1
     have h4 : headCol a 0 = 256 + 0 + a.val * 64 + a.val / 2 * 128 := rfl
     open_payloads; pointwise; blk_ext <;> omega)

theorem res17_at (a : Fin 4) (d : Fin 64) (r : Fin 512) (hc : headCol a 128 + d.val < 768) :
    res17 (F := Ideal) x0 x1 x2 x3 x4 (ix4 0 a d r) = urow x0 x1 x2 x3 x4 r ⟨2048 + (headCol a 128 + d.val), by omega⟩ := by
  refine Eq.trans ?_ (kvVal_at x0 x1 x2 x3 x4 r ⟨headCol a 128 + d.val, hc⟩)
  unfold res17
  canon_tiles x q
  all_goals
    (have h1 : a.val = _ := q1
     have h2 : d.val = _ := q2
     have h3 : r.val = _ := q3
     rw [Nat.lt_one_iff.1 x1_lt] at h1
     have h4 : headCol a 128 = 256 + 128 + a.val * 64 + a.val / 2 * 128 := rfl
     open_payloads; pointwise; blk_ext <;> omega)

theorem res10_at (h : Fin 2) (n : Fin 4) (d : Fin 64) (g : Fin 4) (p : Fin 128) :
    res10 (F := Ideal) x0 x1 x2 x3 x4 (ix5 0 h n d ⟨g.val * 128 + p.val, by omega⟩)
      = urow x0 x1 x2 x3 x4 ⟨n.val * 128 + p.val, by omega⟩ ⟨1536 + ((h.val * 4 + g.val) * 64 + d.val), by omega⟩ * Ideal.ofBits .f32 0x3E38AA3B#32 := by
  refine Eq.trans (b := qVal x0 x1 x2 x3 x4 (ix2 ⟨h.val * 256 + (g.val * 64 + d.val), by omega⟩ ⟨n.val * 128 + p.val, by omega⟩)) ?_
    ((qVal_at ..).trans (congrArg (· * _) (congrArg (urow x0 x1 x2 x3 x4 _) (Fin.ext (by show 1536 + (h.val * 256 + (g.val * 64 + d.val)) = 1536 + ((h.val * 4 + g.val) * 64 + d.val); omega)))))
  have hgp : g.val * 128 + p.val < 512 := by omega
  unfold res10
  canon_tiles x q
  all_goals
    (have h1 : h.val = _ := q1
     have h2 : n.val = _ := q2
     rw [Nat.lt_one_iff.1 x1_lt] at h1
     rw [Nat.lt_one_iff.1 x2_lt] at h2
     obtain rfl : x = (ix5 0 0 0 d ⟨g.val * 128 + p.val, hgp⟩ : S1x1x1x64x512.Idx) := funext fun a => Fin.ext (by
       match a with
       | ⟨0, _⟩ => exact Nat.lt_one_iff.1 x0_lt
       | ⟨1, _⟩ => exact Nat.lt_one_iff.1 x1_lt
       | ⟨2, _⟩ => exact Nat.lt_one_iff.1 x2_lt
       | ⟨3, _⟩ => exact q3.symm
       | ⟨4, _⟩ => exact q4.symm))
  · exact tile_at _ 256 384 slices_S512x512_o256_384_S64x128 slices_S512x512_o320_384_S64x128 slices_S512x512_o384_384_S64x128 slices_S512x512_o448_384_S64x128 d g p h n (by omega) (by omega) _ _ _
  · exact tile_at _ 256 256 slices_S512x512_o256_256_S64x128 slices_S512x512_o320_256_S64x128 slices_S512x512_o384_256_S64x128 slices_S512x512_o448_256_S64x128 d g p h n (by omega) (by omega) _ _ _
  · exact tile_at _ 256 128 slices_S512x512_o256_128_S64x128 slices_S512x512_o320_128_S64x128 slices_S512x512_o384_128_S64x128 slices_S512x512_o448_128_S64x128 d g p h n (by omega) (by omega) _ _ _
  · exact tile_at _ 256 0 slices_S512x512_o256_0_S64x128 slices_S512x512_o320_0_S64x128 slices_S512x512_o384_0_S64x128 slices_S512x512_o448_0_S64x128 d g p h n (by omega) (by omega) _ _ _
  · exact tile_at _ 0 384 slices_S512x512_o0_384_S64x128 slices_S512x512_o64_384_S64x128 slices_S512x512_o128_384_S64x128 slices_S512x512_o192_384_S64x128 d g p h n (by omega) (by omega) _ _ _
  · exact tile_at _ 0 256 slices_S512x512_o0_256_S64x128 slices_S512x512_o64_256_S64x128 slices_S512x512_o128_256_S64x128 slices_S512x512_o192_256_S64x128 d g p h n (by omega) (by omega) _ _ _
  · exact tile_at _ 0 128 slices_S512x512_o0_128_S64x128 slices_S512x512_o64_128_S64x128 slices_S512x512_o128_128_S64x128 slices_S512x512_o192_128_S64x128 d g p h n (by omega) (by omega) _ _ _
  · exact tile_at _ 0 0 slices_S512x512_o0_0_S64x128 slices_S512x512_o64_0_S64x128 slices_S512x512_o128_0_S64x128 slices_S512x512_o192_0_S64x128 d g p h n (by omega) (by omega) _ _ _

end Cert.PromptIdeal.Inproj

end
-- ==== Proof.InpPromptRef.lean ====
/-
  The prompt rows' reference in stages, element by element.
-/
module

public import proofs.«01_k».proof.Proof.Gen.PromptRefIdeal.Run
public import proofs.«01_k».proof.Proof.InpRow
public import Idealize.ShloMosaic.Lib.ValueIdxRank6

@[expose] public section

set_option maxRecDepth 16384

noncomputable section

namespace Cert.Inproj

/-- The row `k` before row `p` of a sequence, zero before its start. -/
def before (v : Fin 8192 → Fin 512 → EReal) (k : Nat) (p : Fin 8192) (j : Fin 512) : EReal :=
  if k ≤ p.val then v ⟨p.val - k, lt_of_le_of_lt (Nat.sub_le _ _) p.isLt⟩ j else 0

end Cert.Inproj

namespace Cert.PromptRefIdeal.Inproj

open Idealize.ShloMosaic Cert.PromptRefIdeal Cert.PromptRefIdeal.Gen Cert.Inproj

/-! ## The stages -/

/-- The normed and modulated rows. -/
def hid (a0 : FVec Ideal S4x8192x1024 .f32) (a1 a2 : FVec Ideal S4x1x1024 .f32) (a3 : FVec Ideal S1x1024 .f32) : FVec Ideal S4x8192x1024 .f32 :=
  addf (mulf (mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1
      (Host.reduceAdd (mulf a0 a0) (constant S_ .f32 0x00000000#32) reducesTo_S4x8192x1024_S4x8192_d2 h_S_)) (broadcastInDim S4x8192x1 ![] bcast_S_S4x8192x1 (constant S_ .f32 0x44800000#32)))
      (broadcastInDim S4x8192x1 ![] bcast_S_S4x8192x1 (constant S_ .f32 0x358637BD#32)))))) (broadcastInDim S4x8192x1024 ![0, 1, 2] bcast_S1x1x1024_S4x8192x1024_0_1_2
      (broadcastInDim S1x1x1024 ![2] bcast_S1024_S1x1x1024_2 (shapeCast _ a3 shapeCasts_S1x1024_S1024))))
      (broadcastInDim S4x8192x1024 ![0, 1, 2] bcast_S4x1x1024_S4x8192x1024_0_1_2 (addf (broadcastInDim S4x1x1024 ![] bcast_S_S4x1x1024 (constant S_ .f32 0x3F800000#32)) a2)))
    (broadcastInDim S4x8192x1024 ![0, 1, 2] bcast_S4x1x1024_S4x8192x1024_0_1_2 a1)

/-- The rows' products with the weight. -/
def prod (h : FVec Ideal S4x8192x1024 .f32) (a4 : FVec Ideal S1x1024x2840 .f32) : FVec Ideal S4x8192x2840 .f32 :=
  Host.dotGeneral dot_S4x8192x1024_S1024x2840_S4x8192x2840_2_0_01_1_n_n none h (shapeCast _ a4 shapeCasts_S1x1024x2840_S1024x2840)

/-- The convolution's input after two rows of zeros. -/
def vp (u : FVec Ideal S4x8192x2840 .f32) : FVec Ideal S4x8194x512 .f32 :=
  concatenate S4x8194x512 1 [⟨S4x2x512, (broadcastInDim S4x2x512 ![] bcast_S_S4x2x512 (constant S_ .f32 0x00000000#32))⟩, ⟨S4x8192x512, (mulf (extractStridedSlice S4x8192x512 ![0, 0, 512] u slices_S4x8192x2840_S4x8192x512_0_0_512)
    (extractStridedSlice S4x8192x512 ![0, 0, 1024] u slices_S4x8192x2840_S4x8192x512_0_0_1024))⟩] concatenates_S4x2x512_S4x8192x512_S4x8194x512_d1

/-- The gated convolution. -/
def cv (u : FVec Ideal S4x8192x2840 .f32) (p : FVec Ideal S4x8194x512 .f32) (a5 : FVec Ideal S1x3x512 .f32) : FVec Ideal S4x8192x512 .f32 :=
  mulf (extractStridedSlice S4x8192x512 ![0, 0, 0] u slices_S4x8192x2840_S4x8192x512_0_0_0) (addf (addf (addf (broadcastInDim S4x8192x512 ![] bcast_S_S4x8192x512 (constant S_ .f32 0x00000000#32))
    (mulf (broadcastInDim S4x8192x512 ![0, 1, 2] bcast_S1x1x512_S4x8192x512_0_1_2 (broadcastInDim S1x1x512 ![2] bcast_S512_S1x1x512_2 (shapeCast _ (extractStridedSlice S1x512 ![0, 0] (shapeCast _ a5 shapeCasts_S1x3x512_S3x512) slices_S3x512_S1x512_0_0) shapeCasts_S1x512_S512)))
      (extractStridedSlice S4x8192x512 ![0, 0, 0] p slices_S4x8194x512_S4x8192x512_0_0_0)))
    (mulf (broadcastInDim S4x8192x512 ![0, 1, 2] bcast_S1x1x512_S4x8192x512_0_1_2 (broadcastInDim S1x1x512 ![2] bcast_S512_S1x1x512_2 (shapeCast _ (extractStridedSlice S1x512 ![1, 0] (shapeCast _ a5 shapeCasts_S1x3x512_S3x512) slices_S3x512_S1x512_1_0) shapeCasts_S1x512_S512)))
      (extractStridedSlice S4x8192x512 ![0, 1, 0] p slices_S4x8194x512_S4x8192x512_0_1_0)))
    (mulf (broadcastInDim S4x8192x512 ![0, 1, 2] bcast_S1x1x512_S4x8192x512_0_1_2 (broadcastInDim S1x1x512 ![2] bcast_S512_S1x1x512_2 (shapeCast _ (extractStridedSlice S1x512 ![2, 0] (shapeCast _ a5 shapeCasts_S1x3x512_S3x512) slices_S3x512_S1x512_2_0) shapeCasts_S1x512_S512)))
      (extractStridedSlice S4x8192x512 ![0, 2, 0] p slices_S4x8194x512_S4x8192x512_0_2_0)))

/-- The convolution normed. -/
def cn (y : FVec Ideal S4x8192x512 .f32) (a6 : FVec Ideal S1x512 .f32) : FVec Ideal S4x8192x512 .bf16 :=
  truncf .bf16 (mulf (mulf y (broadcastInDim S4x8192x512 ![0, 1, 2] bcast_S4x8192x1_S4x8192x512_0_1_2 (Host.rsqrt (addf (Host.divf (broadcastInDim S4x8192x1 ![0, 1] bcast_S4x8192_S4x8192x1_0_1
      (Host.reduceAdd (mulf y y) (constant S_ .f32 0x00000000#32) reducesTo_S4x8192x512_S4x8192_d2 h_S_)) (broadcastInDim S4x8192x1 ![] bcast_S_S4x8192x1 (constant S_ .f32 0x44000000#32)))
      (broadcastInDim S4x8192x1 ![] bcast_S_S4x8192x1 (constant S_ .f32 0x358637BD#32))))))
    (broadcastInDim S4x8192x512 ![0, 1, 2] bcast_S1x1x512_S4x8192x512_0_1_2 (broadcastInDim S1x1x512 ![2] bcast_S512_S1x1x512_2 (shapeCast _ a6 shapeCasts_S1x512_S512)))) bitsLt_bf16_f32

/-- The keys and values for the compression, page by page. -/
def kc (u : FVec Ideal S4x8192x2840 .f32) : FVec Ideal S1x4x64x128x2x2x64 .f32 :=
  shapeCast _ (shapeCast _ (extractStridedSlice S4x8192x256 ![0, 0, 2048] u slices_S4x8192x2840_S4x8192x256_0_0_2048) shapeCasts_S4x8192x256_S4x8192x2x2x64) shapeCasts_S4x8192x2x2x64_S1x4x64x128x2x2x64

/-- The keys and values for the selection, page by page. -/
def ks (u : FVec Ideal S4x8192x2840 .f32) : FVec Ideal S1x4x64x128x2x2x64 .f32 :=
  shapeCast _ (shapeCast _ (extractStridedSlice S4x8192x256 ![0, 0, 2304] u slices_S4x8192x2840_S4x8192x256_0_0_2304) shapeCasts_S4x8192x256_S4x8192x2x2x64) shapeCasts_S4x8192x2x2x64_S1x4x64x128x2x2x64

/-- The last 512 rows' keys and values for the window. -/
def wn (u : FVec Ideal S4x8192x2840 .f32) : FVec Ideal S1x4x512x2x2x64 .f32 :=
  broadcastInDim S1x4x512x2x2x64 ![1, 2, 3, 4, 5] bcast_S4x512x2x2x64_S1x4x512x2x2x64_1_2_3_4_5 (extractStridedSlice S4x512x2x2x64 ![0, 7680, 0, 0, 0] (shapeCast _ (extractStridedSlice S4x8192x256 ![0, 0, 2560] u slices_S4x8192x2840_S4x8192x256_0_0_2560) shapeCasts_S4x8192x256_S4x8192x2x2x64) slices_S4x8192x2x2x64_S4x512x2x2x64_0_7680_0_0_0)

/-- The convolution's last two input rows. -/
def cs (p : FVec Ideal S4x8194x512 .f32) : FVec Ideal S1x4x2x512 .f32 :=
  broadcastInDim S1x4x2x512 ![1, 2, 3] bcast_S4x2x512_S1x4x2x512_1_2_3 (extractStridedSlice S4x2x512 ![0, 8192, 0] p slices_S4x8194x512_S4x2x512_0_8192_0)

/-- The scaled queries, by key head and block of rows, a column a row of one of the head's four queries. -/
def qs (u : FVec Ideal S4x8192x2840 .f32) : FVec Ideal S4x2x64x64x512 .bf16 :=
  truncf .bf16 (shapeCast _ (transpose S4x2x64x64x4x128 [0, 3, 1, 5, 4, 2] (shapeCast _ (mulf (shapeCast _ (extractStridedSlice S4x8192x512 ![0, 0, 1536] u slices_S4x8192x2840_S4x8192x512_0_0_1536) shapeCasts_S4x8192x512_S4x8192x8x64)
    (broadcastInDim S4x8192x8x64 ![] bcast_S_S4x8192x8x64 (constant S_ .f32 0x3E38AA3B#32))) shapeCasts_S4x8192x8x64_S4x64x128x2x4x64) transposes_S4x64x128x2x4x64_S4x2x64x64x4x128_0_3_1_5_4_2) shapeCasts_S4x2x64x64x4x128_S4x2x64x64x512) bitsLt_bf16_f32

/-- The gates of the attention's branches. -/
def gt (u : FVec Ideal S4x8192x2840 .f32) : FVec Ideal S4x8192x24 .f32 :=
  Host.divf (broadcastInDim S4x8192x24 ![] bcast_S_S4x8192x24 (constant S_ .f32 0x3F800000#32)) (addf (broadcastInDim S4x8192x24 ![] bcast_S_S4x8192x24 (constant S_ .f32 0x3F800000#32))
    (Host.exp (Host.negf (extractStridedSlice S4x8192x24 ![0, 0, 2816] u slices_S4x8192x2840_S4x8192x24_0_0_2816))))

/-- The selection's and the window's keys, head by head. -/
def kh (u : FVec Ideal S4x8192x2840 .f32) : FVec Ideal S4x4x8192x64 .bf16 :=
  truncf .bf16 (transpose S4x4x8192x64 [0, 2, 1, 3] (concatenate S4x8192x4x64 2 [⟨S4x8192x2x64, (shapeCast _ (extractStridedSlice S4x8192x1x2x64 ![0, 0, 0, 0, 0] (shapeCast _ (extractStridedSlice S4x8192x256 ![0, 0, 2304] u slices_S4x8192x2840_S4x8192x256_0_0_2304) shapeCasts_S4x8192x256_S4x8192x2x2x64) slices_S4x8192x2x2x64_S4x8192x1x2x64_0_0_0_0_0) shapeCasts_S4x8192x1x2x64_S4x8192x2x64)⟩,
      ⟨S4x8192x2x64, (shapeCast _ (extractStridedSlice S4x8192x1x2x64 ![0, 0, 0, 0, 0] (shapeCast _ (extractStridedSlice S4x8192x256 ![0, 0, 2560] u slices_S4x8192x2840_S4x8192x256_0_0_2560) shapeCasts_S4x8192x256_S4x8192x2x2x64) slices_S4x8192x2x2x64_S4x8192x1x2x64_0_0_0_0_0) shapeCasts_S4x8192x1x2x64_S4x8192x2x64)⟩] concatenates_S4x8192x2x64_S4x8192x2x64_S4x8192x4x64_d2) transposes_S4x8192x4x64_S4x4x8192x64_0_2_1_3) bitsLt_bf16_f32

/-- The selection's and the window's values, head by head, a row a column. -/
def vt (u : FVec Ideal S4x8192x2840 .f32) : FVec Ideal S4x4x64x8192 .bf16 :=
  truncf .bf16 (transpose S4x4x64x8192 [0, 2, 3, 1] (concatenate S4x8192x4x64 2 [⟨S4x8192x2x64, (shapeCast _ (extractStridedSlice S4x8192x1x2x64 ![0, 0, 1, 0, 0] (shapeCast _ (extractStridedSlice S4x8192x256 ![0, 0, 2304] u slices_S4x8192x2840_S4x8192x256_0_0_2304) shapeCasts_S4x8192x256_S4x8192x2x2x64) slices_S4x8192x2x2x64_S4x8192x1x2x64_0_0_1_0_0) shapeCasts_S4x8192x1x2x64_S4x8192x2x64)⟩,
      ⟨S4x8192x2x64, (shapeCast _ (extractStridedSlice S4x8192x1x2x64 ![0, 0, 1, 0, 0] (shapeCast _ (extractStridedSlice S4x8192x256 ![0, 0, 2560] u slices_S4x8192x2840_S4x8192x256_0_0_2560) shapeCasts_S4x8192x256_S4x8192x2x2x64) slices_S4x8192x2x2x64_S4x8192x1x2x64_0_0_1_0_0) shapeCasts_S4x8192x1x2x64_S4x8192x2x64)⟩] concatenates_S4x8192x2x64_S4x8192x2x64_S4x8192x4x64_d2) transposes_S4x8192x4x64_S4x4x64x8192_0_2_3_1) bitsLt_bf16_f32

variable (m : (ℓ : Loc nD τ sig) → Buf (Elt Ideal) ℓ) in
/-- The rows' products over the arguments. -/
def uOf (c : Dev nD) : FVec Ideal S4x8192x2840 .f32 :=
  prod (hid (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))

variable (m : (ℓ : Loc nD τ sig) → Buf (Elt Ideal) ℓ) in
/-- The run's results by stages. -/
theorem run_stages (ρ : Dev nD → PrngReg) :
    θ_run defs (onTc (τ := τ) (main (F := Ideal))) ⟨m, fun _ => 0, ρ⟩ fun r => ∀ c : Dev nD,
      r.2.mem ((c.tc : Thread nD τ).loc main_v85) = kc (uOf m c)
      ∧ r.2.mem ((c.tc : Thread nD τ).loc main_v86) = ks (uOf m c)
      ∧ r.2.mem ((c.tc : Thread nD τ).loc main_v88) = wn (uOf m c)
      ∧ r.2.mem ((c.tc : Thread nD τ).loc main_v89) = cs (vp (uOf m c))
      ∧ r.2.mem ((c.tc : Thread nD τ).loc main_v104) = cn (cv (uOf m c) (vp (uOf m c)) (m ((c.tc : Thread nD τ).loc main_arg5))) (m ((c.tc : Thread nD τ).loc main_arg6))
      ∧ r.2.mem ((c.tc : Thread nD τ).loc main_v105) = qs (uOf m c)
      ∧ r.2.mem ((c.tc : Thread nD τ).loc main_v39) = gt (uOf m c)
      ∧ r.2.mem ((c.tc : Thread nD τ).loc main_v106) = kh (uOf m c)
      ∧ r.2.mem ((c.tc : Thread nD τ).loc main_v107) = vt (uOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c => h c) (Value.run m ρ)

/-! ## Each stage at an element -/

theorem hid_at (a0 : FVec Ideal S4x8192x1024 .f32) (a1 a2 : FVec Ideal S4x1x1024 .f32) (a3 : FVec Ideal S1x1024 .f32) (b : Fin 4) (p : Fin 8192) (k : Fin 1024) :
    hid a0 a1 a2 a3 (ix3 b p k) = hiddenRow (fun k => a0 (ix3 b p k)) (fun k => a1 (ix3 b 0 k)) (fun k => a2 (ix3 b 0 k)) (fun k => a3 (ix2 0 k)) k := by
  pointwise [hid, hiddenRow, normed]

theorem prod_at (h : FVec Ideal S4x8192x1024 .f32) (a4 : FVec Ideal S1x1024x2840 .f32) (b : Fin 4) (p : Fin 8192) (j : Fin 2840) :
    prod h a4 (ix3 b p j) = proj (fun k => h (ix3 b p k)) (fun k j => a4 (ix3 0 k j)) j := by
  pointwise [prod, proj]

theorem vp_start (u : FVec Ideal S4x8192x2840 .f32) (b : Fin 4) (q : Fin 8194) (h : q.val < 2) (j : Fin 512) : vp u (ix3 b q j) = 0 := by
  pointwise [vp, dif_pos h]

theorem vp_row (u : FVec Ideal S4x8192x2840 .f32) (b : Fin 4) (q : Fin 8194) (h : ¬ q.val < 2) (j : Fin 512) :
    vp u (ix3 b q j) = gated (fun j => u (ix3 b ⟨q.val - 2, by omega⟩ j)) j := by
  pointwise [vp, gated, dif_neg h]

/-- The padded rows are the rows before. -/
theorem vp_before (u : FVec Ideal S4x8192x2840 .f32) (b : Fin 4) (p : Fin 8192) (k q : Nat) (hq : q + k = 2) (h : q + p.val < 8194) (j : Fin 512) :
    vp u (ix3 b ⟨q + p.val, h⟩ j) = before (fun p => gated fun j => u (ix3 b p j)) k p j := by
  unfold before
  by_cases hp : k ≤ p.val
  · rw [if_pos hp]
    refine (vp_row u b _ (by show ¬ q + p.val < 2; omega) j).trans ?_
    have e : (⟨q + p.val - 2, by omega⟩ : Fin 8192) = ⟨p.val - k, lt_of_le_of_lt (Nat.sub_le _ _) p.isLt⟩ := Fin.ext (by show q + p.val - 2 = p.val - k; omega)
    exact congrArg (fun p => gated (fun j => u (ix3 b p j)) j) e
  · rw [if_neg hp]
    exact vp_start u b _ (by show q + p.val < 2; omega) j

theorem cv_at (u : FVec Ideal S4x8192x2840 .f32) (p : FVec Ideal S4x8194x512 .f32) (a5 : FVec Ideal S1x3x512 .f32) (b : Fin 4) (r : Fin 8192) (j : Fin 512) :
    cv u p a5 (ix3 b r j) = conv (fun j => u (ix3 b r j)) (fun k j => a5 (ix3 0 k j)) (fun j => p (ix3 b ⟨r.val, by omega⟩ j)) (fun j => p (ix3 b ⟨1 + r.val, by omega⟩ j)) (fun j => p (ix3 b ⟨2 + r.val, by omega⟩ j)) j := by
  pointwise [cv, conv]

theorem cn_at (y : FVec Ideal S4x8192x512 .f32) (a6 : FVec Ideal S1x512 .f32) (b : Fin 4) (p : Fin 8192) (j : Fin 512) :
    cn y a6 (ix3 b p j) = normed 0x44000000#32 (fun j => y (ix3 b p j)) (fun j => a6 (ix2 0 j)) j := by
  pointwise [cn, normed]

theorem kc_cast (u : FVec Ideal S4x8192x2840 .f32) (h : S4x8192x256.ShapeCasts S1x4x64x128x2x2x64) : kc u = shapeCast _ (extractStridedSlice S4x8192x256 ![0, 0, 2048] u slices_S4x8192x2840_S4x8192x256_0_0_2048) h := by
  unfold kc
  exact shapeCast_comp _ _ _

theorem ks_cast (u : FVec Ideal S4x8192x2840 .f32) (h : S4x8192x256.ShapeCasts S1x4x64x128x2x2x64) : ks u = shapeCast _ (extractStridedSlice S4x8192x256 ![0, 0, 2304] u slices_S4x8192x2840_S4x8192x256_0_0_2304) h := by
  unfold ks
  exact shapeCast_comp _ _ _

theorem wn_at (u : FVec Ideal S4x8192x2840 .f32) (b : Fin 4) (w : Fin 512) (a h : Fin 2) (d : Fin 64) :
    wn u (ix6 0 b w a h d) = u (ix3 b ⟨7680 + w.val, by omega⟩ ⟨2560 + (a.val * 128 + h.val * 64 + d.val), by omega⟩) := by
  pointwise [wn]

theorem cs_at (p : FVec Ideal S4x8194x512 .f32) (b : Fin 4) (z : Fin 2) (j : Fin 512) : cs p (ix4 0 b z j) = p (ix3 b ⟨8192 + z.val, by omega⟩ j) := by
  pointwise [cs]

theorem qs_at (u : FVec Ideal S4x8192x2840 .f32) (b : Fin 4) (h : Fin 2) (n : Fin 64) (d : Fin 64) (g : Fin 4) (p : Fin 128) :
    qs u (ix5 b h n d ⟨g.val * 128 + p.val, by omega⟩) = u (ix3 b ⟨n.val * 128 + p.val, by omega⟩ ⟨1536 + ((h.val * 4 + g.val) * 64 + d.val), by omega⟩) * Ideal.ofBits .f32 0x3E38AA3B#32 := by
  pointwise [qs]

theorem gt_at (u : FVec Ideal S4x8192x2840 .f32) (b : Fin 4) (p : Fin 8192) (j : Fin 24) : gt u (ix3 b p j) = gateOf (u (ix3 b p ⟨2816 + j.val, by omega⟩)) := by
  pointwise [gt, gateOf]

theorem kh_at (u : FVec Ideal S4x8192x2840 .f32) (b : Fin 4) (p : Fin 8192) (d : Fin 64) :
    kh u (ix4 b 0 p d) = u (ix3 b p ⟨2304 + d.val, by omega⟩) ∧ kh u (ix4 b 1 p d) = u (ix3 b p ⟨2304 + (64 + d.val), by omega⟩)
    ∧ kh u (ix4 b 2 p d) = u (ix3 b p ⟨2560 + d.val, by omega⟩) ∧ kh u (ix4 b 3 p d) = u (ix3 b p ⟨2560 + (64 + d.val), by omega⟩) := by
  refine ⟨?_, ?_, ?_, ?_⟩ <;> pointwise [kh]

theorem vt_at (u : FVec Ideal S4x8192x2840 .f32) (b : Fin 4) (p : Fin 8192) (d : Fin 64) :
    vt u (ix4 b 0 d p) = u (ix3 b p ⟨2304 + (128 + d.val), by omega⟩) ∧ vt u (ix4 b 1 d p) = u (ix3 b p ⟨2304 + (192 + d.val), by omega⟩)
    ∧ vt u (ix4 b 2 d p) = u (ix3 b p ⟨2560 + (128 + d.val), by omega⟩) ∧ vt u (ix4 b 3 d p) = u (ix3 b p ⟨2560 + (192 + d.val), by omega⟩) := by
  refine ⟨?_, ?_, ?_, ?_⟩ <;> pointwise [vt]

end Cert.PromptRefIdeal.Inproj

end
-- ==== Proof.InpPrompt.lean ====
/-
  The prompt's kernel: the region's result arrays, element by element, over the arguments.
-/
module

public import proofs.«01_k».proof.Proof.InpPromptFrame
public import proofs.«01_k».proof.Proof.InpPromptBlk
public import proofs.«01_k».proof.Proof.InpPromptRef
public import Idealize.ShloMosaic.Lib.Pipeline.Covers

@[expose] public section

set_option maxRecDepth 16384

noncomputable section

namespace Cert.PromptIdeal.Inproj

open Idealize.ShloMosaic Idealize.ShloMosaic.TcCoe Cert.PromptIdeal Cert.PromptIdeal.Gen Cert.Inproj
open Idealize.ShloMosaic.Pipeline (Dat)

variable (m : (ℓ : Loc nD τ sig) → Buf (Elt Ideal) ℓ)

/-! ## The points: sixteen blocks of rows to a sequence -/

/-- A point's sequence. -/
def seqOf (t : Fin cfg0.N) : Fin 4 := ⟨t.val / 16, by have h : t.val < 64 := t.isLt; omega⟩

/-- Row `r` of a point's block, in the sequence. -/
def rowOf (t : Fin cfg0.N) (r : Fin 512) : Fin 8192 := ⟨t.val % 16 * 512 + r.val, by omega⟩

theorem idx0 : ∀ t : Fin cfg0.N, win0_0.index t 0 = t.val / 16 ∧ win0_0.index t 1 = t.val % 16 ∧ win0_0.index t 2 = 0 :=
  (by decide +kernel : ∀ t : Fin grid0.N, _)

/-- The operands kept for a whole sequence. -/
theorem idxSeq : ∀ t : Fin cfg0.N, win0_1.index t 0 = t.val / 16 ∧ win0_1.index t 1 = 0 ∧ win0_1.index t 2 = 0 ∧ win0_2.index t 0 = t.val / 16 ∧ win0_2.index t 1 = 0 ∧ win0_2.index t 2 = 0
    ∧ win0_7.index t 0 = t.val / 16 ∧ win0_7.index t 1 = 0 ∧ win0_7.index t 2 = 0 :=
  (by decide +kernel : ∀ t : Fin grid0.N, _)

/-- The operands read whole. -/
theorem idxAll : ∀ t : Fin cfg0.N, win0_3.index t 0 = 0 ∧ win0_3.index t 1 = 0 ∧ win0_4.index t 0 = 0 ∧ win0_4.index t 1 = 0 ∧ win0_5.index t 0 = 0 ∧ win0_5.index t 1 = 0 ∧ win0_6.index t 0 = 0 ∧ win0_6.index t 1 = 0 :=
  (by decide +kernel : ∀ t : Fin grid0.N, _)

/-- The arrays as the region finds them. -/
theorem entry (c : Dev nD) :
    (V m c main_v7 : S1x1024.Idx → EReal) = shapeCast S1x1024 (shapeCast S1024 (m ((c : Thread nD τ).loc main_arg3) : S1x1024.Idx → EReal) shapeCasts_S1x1024_S1024) shapeCasts_S1024_S1x1024
    ∧ (V m c main_v2 : S1024x2944.Idx → EReal) = truncf (F := Ideal) (φ := .f32) .bf16 (pad S1024x2944 ![0, 0] ![0, 104] ![0, 0] (shapeCast S1024x2840 (m ((c : Thread nD τ).loc main_arg4) : S1x1024x2840.Idx → EReal) shapeCasts_S1x1024x2840_S1024x2840)
        (sitofp (F := Ideal) .f32 (constantI S_ 32 0#32)) pads_S1024x2840_S1024x2944_000_01040 h_S_) bitsLt_bf16_f32
    ∧ (V m c main_v5 : S3x512.Idx → EReal) = shapeCast S3x512 (m ((c : Thread nD τ).loc main_arg5) : S1x3x512.Idx → EReal) shapeCasts_S1x3x512_S3x512
    ∧ (V m c main_v8 : S1x512.Idx → EReal) = shapeCast S1x512 (shapeCast S512 (m ((c : Thread nD τ).loc main_arg6) : S1x512.Idx → EReal) shapeCasts_S1x512_S512) shapeCasts_S512_S1x512
    ∧ (V m c main_v3 : S4x2x512.Idx → EReal) = broadcastInDim S4x2x512 ![] bcast_S_S4x2x512 (constant (F := Ideal) S_ .f32 0x00000000#32) := by
  refine ⟨?_, ?_, ?_, ?_, ?_⟩ <;>
  · show StableHlo.after (List.flatten [hostOps0, hostOps0_1, hostOps0_2]) (fun b => m (c, b)) _ = _
    simp only [hostOps0, hostOps0_1, hostOps0_2, List.flatten_cons, List.flatten_nil, List.append_nil, List.cons_append, List.nil_append]
    after_results
    try rfl

/-! The arrays the host lines make, at coordinates. -/

theorem move3 (a : S1x1024.Idx → EReal) (k : Fin 1024) : shapeCast S1x1024 (shapeCast S1024 a shapeCasts_S1x1024_S1024) shapeCasts_S1024_S1x1024 (ix2 0 k) = a (ix2 0 k) := by pointwise

theorem move4 (a : S1x1024x2840.Idx → EReal) (k : Fin 1024) (j : Fin 2840) :
    truncf (F := Ideal) (φ := .f32) .bf16 (pad S1024x2944 ![0, 0] ![0, 104] ![0, 0] (shapeCast S1024x2840 a shapeCasts_S1x1024x2840_S1024x2840) (sitofp (F := Ideal) .f32 (constantI S_ 32 0#32)) pads_S1024x2840_S1024x2944_000_01040 h_S_)
      bitsLt_bf16_f32 (ix2 k ⟨j.val, by omega⟩) = a (ix3 0 k j) := by pointwise

theorem move5 (a : S1x3x512.Idx → EReal) (k : Fin 3) (j : Fin 512) : shapeCast S3x512 a shapeCasts_S1x3x512_S3x512 (ix2 k j) = a (ix3 0 k j) := by pointwise

theorem move6 (a : S1x512.Idx → EReal) (j : Fin 512) : shapeCast S1x512 (shapeCast S512 a shapeCasts_S1x512_S512) shapeCasts_S512_S1x512 (ix2 0 j) = a (ix2 0 j) := by pointwise

theorem move7 (b : Fin 4) (z : Fin 2) (j : Fin 512) : broadcastInDim S4x2x512 ![] bcast_S_S4x2x512 (constant (F := Ideal) S_ .f32 0x00000000#32) (ix3 b z j) = (0 : EReal) := by pointwise

/-! The input windows' blocks at coordinates. -/

theorem iblk0_at (c : Dev nD) (t : Fin cfg0.N) (r : Fin 512) (k : Fin 1024) :
    (iblk m c 0 t : S1x512x1024.Idx → EReal) (ix3 0 r k) = (m ((c : Thread nD τ).loc main_arg0) : S4x8192x1024.Idx → EReal) (ix3 (seqOf t) (rowOf t r) k) := by
  refine Eq.trans (b := (V m c main_arg0 : S4x8192x1024.Idx → EReal) (ix3 (seqOf t) (rowOf t r) k)) ?_ (by rw [V_main_arg0])
  refine congrArg (V m c main_arg0 : S4x8192x1024.Idx → EReal) (funext fun a => Fin.ext ?_)
  have e := idx0 t
  match a with
  | ⟨0, _⟩ => show win0_0.index t 0 * 1 + 1 * 0 = t.val / 16; omega
  | ⟨1, _⟩ => show win0_0.index t 1 * 512 + 1 * r.val = t.val % 16 * 512 + r.val; omega
  | ⟨2, _⟩ => show win0_0.index t 2 * 1024 + 1 * k.val = k.val; omega

theorem iblk1_at (c : Dev nD) (t : Fin cfg0.N) (k : Fin 1024) : (iblk m c 1 t : S1x1x1024.Idx → EReal) (ix3 0 0 k) = (m ((c : Thread nD τ).loc main_arg1) : S4x1x1024.Idx → EReal) (ix3 (seqOf t) 0 k) := by
  refine Eq.trans (b := (V m c main_arg1 : S4x1x1024.Idx → EReal) (ix3 (seqOf t) 0 k)) ?_ (by rw [V_main_arg1])
  refine congrArg (V m c main_arg1 : S4x1x1024.Idx → EReal) (funext fun a => Fin.ext ?_)
  have e := idxSeq t
  match a with
  | ⟨0, _⟩ => show win0_1.index t 0 * 1 + 1 * 0 = t.val / 16; omega
  | ⟨1, _⟩ => show win0_1.index t 1 * 1 + 1 * 0 = 0; omega
  | ⟨2, _⟩ => show win0_1.index t 2 * 1024 + 1 * k.val = k.val; omega

theorem iblk2_at (c : Dev nD) (t : Fin cfg0.N) (k : Fin 1024) : (iblk m c 2 t : S1x1x1024.Idx → EReal) (ix3 0 0 k) = (m ((c : Thread nD τ).loc main_arg2) : S4x1x1024.Idx → EReal) (ix3 (seqOf t) 0 k) := by
  refine Eq.trans (b := (V m c main_arg2 : S4x1x1024.Idx → EReal) (ix3 (seqOf t) 0 k)) ?_ (by rw [V_main_arg2])
  refine congrArg (V m c main_arg2 : S4x1x1024.Idx → EReal) (funext fun a => Fin.ext ?_)
  have e := idxSeq t
  match a with
  | ⟨0, _⟩ => show win0_2.index t 0 * 1 + 1 * 0 = t.val / 16; omega
  | ⟨1, _⟩ => show win0_2.index t 1 * 1 + 1 * 0 = 0; omega
  | ⟨2, _⟩ => show win0_2.index t 2 * 1024 + 1 * k.val = k.val; omega

theorem iblk3_at (c : Dev nD) (t : Fin cfg0.N) (k : Fin 1024) : (iblk m c 3 t : S1x1024.Idx → EReal) (ix2 0 k) = (m ((c : Thread nD τ).loc main_arg3) : S1x1024.Idx → EReal) (ix2 0 k) := by
  refine Eq.trans (b := (V m c main_v7 : S1x1024.Idx → EReal) (ix2 0 k)) (by blk_ext [iblk, idxAll t]) ?_
  exact (congrFun (entry m c).1 _).trans (move3 _ k)

theorem iblk4_at (c : Dev nD) (t : Fin cfg0.N) (k : Fin 1024) (j : Fin 2840) : (iblk m c 4 t : S1024x2944.Idx → EReal) (ix2 k ⟨j.val, by omega⟩) = (m ((c : Thread nD τ).loc main_arg4) : S1x1024x2840.Idx → EReal) (ix3 0 k j) := by
  refine Eq.trans (b := (V m c main_v2 : S1024x2944.Idx → EReal) (ix2 k ⟨j.val, by omega⟩)) (by blk_ext [iblk, idxAll t]) ?_
  exact (congrFun (entry m c).2.1 _).trans (move4 _ k j)

theorem iblk5_at (c : Dev nD) (t : Fin cfg0.N) (k : Fin 3) (j : Fin 512) : (iblk m c 5 t : S3x512.Idx → EReal) (ix2 k j) = (m ((c : Thread nD τ).loc main_arg5) : S1x3x512.Idx → EReal) (ix3 0 k j) := by
  refine Eq.trans (b := (V m c main_v5 : S3x512.Idx → EReal) (ix2 k j)) (by blk_ext [iblk, idxAll t]) ?_
  exact (congrFun (entry m c).2.2.1 _).trans (move5 _ k j)

theorem iblk6_at (c : Dev nD) (t : Fin cfg0.N) (j : Fin 512) : (iblk m c 6 t : S1x512.Idx → EReal) (ix2 0 j) = (m ((c : Thread nD τ).loc main_arg6) : S1x512.Idx → EReal) (ix2 0 j) := by
  refine Eq.trans (b := (V m c main_v8 : S1x512.Idx → EReal) (ix2 0 j)) (by blk_ext [iblk, idxAll t]) ?_
  exact (congrFun (entry m c).2.2.2.1 _).trans (move6 _ j)

/-- The rows before a sequence's first are zero. -/
theorem iblk7_at (c : Dev nD) (t : Fin cfg0.N) (z : Fin 2) (j : Fin 512) : (iblk m c 7 t : S1x2x512.Idx → EReal) (ix3 0 z j) = (0 : EReal) := by
  refine Eq.trans (b := (V m c main_v3 : S4x2x512.Idx → EReal) (ix3 (seqOf t) z j)) ?_ ((congrFun (entry m c).2.2.2.2 _).trans (move7 _ z j))
  refine congrArg (V m c main_v3 : S4x2x512.Idx → EReal) (funext fun a => Fin.ext ?_)
  have e := idxSeq t
  match a with
  | ⟨0, _⟩ => show win0_7.index t 0 * 1 + 1 * 0 = t.val / 16; omega
  | ⟨1, _⟩ => show win0_7.index t 1 * 2 + 1 * z.val = z.val; omega
  | ⟨2, _⟩ => show win0_7.index t 2 * 512 + 1 * j.val = j.val; omega

/-! ## A row's products and convolution over the arguments -/

/-- The products of row `p` of sequence `b`. -/
def uArg (c : Dev nD) (b : Fin 4) (p : Fin 8192) : Fin 2840 → EReal :=
  proj (hiddenRow (fun k => (m ((c : Thread nD τ).loc main_arg0) : S4x8192x1024.Idx → EReal) (ix3 b p k)) (fun k => (m ((c : Thread nD τ).loc main_arg1) : S4x1x1024.Idx → EReal) (ix3 b 0 k))
      (fun k => (m ((c : Thread nD τ).loc main_arg2) : S4x1x1024.Idx → EReal) (ix3 b 0 k)) (fun k => (m ((c : Thread nD τ).loc main_arg3) : S1x1024.Idx → EReal) (ix2 0 k)))
    (fun k j => (m ((c : Thread nD τ).loc main_arg4) : S1x1024x2840.Idx → EReal) (ix3 0 k j))

theorem urow_iblk (c : Dev nD) (t : Fin cfg0.N) (r : Fin 512) :
    urow (iblk m c 0 t) (iblk m c 1 t) (iblk m c 2 t) (iblk m c 3 t) (iblk m c 4 t) r = uArg m c (seqOf t) (rowOf t r) := by
  unfold urow hrow uArg
  exact congr (congrArg proj (congr (congr (congr (congrArg hiddenRow (funext (iblk0_at m c t r))) (funext (iblk1_at m c t))) (funext (iblk2_at m c t))) (funext (iblk3_at m c t))))
    (funext fun k => funext (iblk4_at m c t k))

/-- The convolution's input in a sequence. -/
def vArg (c : Dev nD) (b : Fin 4) (p : Fin 8192) : Fin 512 → EReal := gated (uArg m c b p)

theorem vrow_iblk (c : Dev nD) (t : Fin cfg0.N) (r : Fin 512) :
    gated (urow (iblk m c 0 t) (iblk m c 1 t) (iblk m c 2 t) (iblk m c 3 t) (iblk m c 4 t) r) = vArg m c (seqOf t) (rowOf t r) := congrArg gated (urow_iblk m c t r)

theorem carried_first (c : Dev nD) (t : Fin cfg0.N) (h : t.val % 16 = 0) (z : Fin 2) (j : Fin 512) : (carried m c t : S2x512.Idx → EReal) (ix2 z j) = (0 : EReal) := by
  unfold carried
  rw [if_pos h]
  refine Eq.trans ?_ (iblk7_at m c t z j)
  pointwise [k0_pay6]

theorem carried_later (c : Dev nD) (t : Fin cfg0.N) (h : ¬ t.val % 16 = 0) (z : Fin 2) (j : Fin 512) (p : Fin 8192) (hp : p.val + 2 = t.val % 16 * 512 + z.val) :
    (carried m c t : S2x512.Idx → EReal) (ix2 z j) = vArg m c (seqOf t) p j := by
  unfold carried
  rw [if_neg h]
  unfold lastRows
  refine (last_at _ _ _ _ _ z j).trans ((congrFun (vrow_iblk m c _ _) j).trans ?_)
  exact congrFun (congr (congrArg (vArg m c) (Fin.ext (by show (t.val - 1) / 16 = t.val / 16; omega))) (Fin.ext (by show (t.val - 1) % 16 * 512 + (510 + z.val) = p.val; omega))) j

/-- The row `k` rows before a row of the block, across the blocks of the sequence. -/
theorem prev_eq (c : Dev nD) (t : Fin cfg0.N) (k : Fin 3) (r : Fin 512) (j : Fin 512) (hk : 1 ≤ k.val) :
    prev (carried m c t) (fun r j => gated (urow (iblk m c 0 t) (iblk m c 1 t) (iblk m c 2 t) (iblk m c 3 t) (iblk m c 4 t) r) j) k r j = before (vArg m c (seqOf t)) k.val (rowOf t r) j := by
  have hk3 := k.isLt
  have hr := r.isLt
  unfold prev before
  by_cases h : k.val ≤ r.val
  · rw [dif_pos h, if_pos (show k.val ≤ (rowOf t r).val by show k.val ≤ t.val % 16 * 512 + r.val; omega)]
    refine (congrFun (vrow_iblk m c t _) j).trans ?_
    exact congrFun (congrArg (vArg m c (seqOf t)) (Fin.ext (by show t.val % 16 * 512 + (r.val - k.val) = t.val % 16 * 512 + r.val - k.val; omega))) j
  · rw [dif_neg h]
    by_cases h0 : t.val % 16 = 0
    · rw [if_neg (show ¬ k.val ≤ (rowOf t r).val by show ¬ k.val ≤ t.val % 16 * 512 + r.val; omega)]
      exact carried_first m c t h0 _ j
    · rw [if_pos (show k.val ≤ (rowOf t r).val by show k.val ≤ t.val % 16 * 512 + r.val; omega)]
      exact carried_later m c t h0 _ j _ (by show t.val % 16 * 512 + r.val - k.val + 2 = t.val % 16 * 512 + (2 + r.val - k.val); omega)

/-- The normed convolution's row `p` of sequence `b`, over the arguments. -/
def convArg (c : Dev nD) (b : Fin 4) (p : Fin 8192) : Fin 512 → EReal :=
  convn (uArg m c b p) (fun k j => (m ((c : Thread nD τ).loc main_arg5) : S1x3x512.Idx → EReal) (ix3 0 k j)) (fun j => (m ((c : Thread nD τ).loc main_arg6) : S1x512.Idx → EReal) (ix2 0 j))
    (before (vArg m c b) 2 p) (before (vArg m c b) 1 p) (vArg m c b p)

theorem convn_iblk (c : Dev nD) (t : Fin cfg0.N) (r : Fin 512) :
    convn (urow (iblk m c 0 t) (iblk m c 1 t) (iblk m c 2 t) (iblk m c 3 t) (iblk m c 4 t) r) (fun k j => (iblk m c 5 t : S3x512.Idx → EReal) (ix2 k j)) (fun j => (iblk m c 6 t : S1x512.Idx → EReal) (ix2 0 j))
      (prev (carried m c t) (fun r j => gated (urow (iblk m c 0 t) (iblk m c 1 t) (iblk m c 2 t) (iblk m c 3 t) (iblk m c 4 t) r) j) 2 r)
      (prev (carried m c t) (fun r j => gated (urow (iblk m c 0 t) (iblk m c 1 t) (iblk m c 2 t) (iblk m c 3 t) (iblk m c 4 t) r) j) 1 r)
      (gated (urow (iblk m c 0 t) (iblk m c 1 t) (iblk m c 2 t) (iblk m c 3 t) (iblk m c 4 t) r)) = convArg m c (seqOf t) (rowOf t r) := by
  unfold convArg
  exact congr (congr (congr (congr (congr (congrArg convn (urow_iblk m c t r)) (funext fun k => funext (iblk5_at m c t k))) (funext (iblk6_at m c t))) (funext fun j => prev_eq m c t 2 r j (by decide)))
    (funext fun j => prev_eq m c t 1 r j (by decide))) (vrow_iblk m c t r)

/-! ## The region's result arrays -/

attribute [local irreducible] res9 res10 res11 res12 res13 res14 res15 res16 res17

theorem idx9 : ∀ t : Fin cfg0.N, win0_9.index t 0 = t.val / 16 ∧ win0_9.index t 1 = t.val % 16 ∧ win0_9.index t 2 = 0 :=
  (by decide +kernel : ∀ t : Fin grid0.N, _)

theorem covers9 : (cfg0.win 9).Covers :=
  Pipeline.Window.covers_of_index_surj _ rfl (fun a => by match a with | ⟨0, _⟩ => exact (by decide : 0 < 1) | ⟨1, _⟩ => exact (by decide : 0 < 512) | ⟨2, _⟩ => exact (by decide : 0 < 512)) fun β => by
    have h0 : (β (0 : Fin 3)).val < 4 := (β (0 : Fin 3)).isLt
    have h1 : (β (1 : Fin 3)).val < 16 := Nat.lt_of_lt_of_eq (β (1 : Fin 3)).isLt (show (8192 + 512 - 1) / 512 = 16 from by norm_num)
    have h2 : (β (2 : Fin 3)).val < 1 := Nat.lt_of_lt_of_eq (β (2 : Fin 3)).isLt (show (512 + 512 - 1) / 512 = 1 from by norm_num)
    have ht : (β (0 : Fin 3)).val * 16 + (β (1 : Fin 3)).val < cfg0.N := by show _ < 64; omega
    have e := idx9 ⟨_, ht⟩
    refine ⟨⟨_, ht⟩, fun a => ?_⟩
    match a with
    | ⟨0, _⟩ => exact e.1.trans (by show ((β (0 : Fin 3)).val * 16 + (β (1 : Fin 3)).val) / 16 = (β (0 : Fin 3)).val; omega)
    | ⟨1, _⟩ => exact e.2.1.trans (by show ((β (0 : Fin 3)).val * 16 + (β (1 : Fin 3)).val) % 16 = (β (1 : Fin 3)).val; omega)
    | ⟨2, _⟩ => exact e.2.2.trans (by omega : 0 = (β (2 : Fin 3)).val)

theorem emb9 (t : Fin cfg0.N) (r : Fin 512) (j : Fin 512) : ((cfg0.win 9).blk t).view.emb (ix3 0 r j : S1x512x512.Idx) = (ix3 (seqOf t) (rowOf t r) j : S4x8192x512.Idx) := by
  have e := idx9 t
  refine funext fun a => Fin.ext ?_
  match a with
  | ⟨0, _⟩ => show win0_9.index t 0 * 1 + 1 * 0 = t.val / 16; omega
  | ⟨1, _⟩ => show win0_9.index t 1 * 512 + 1 * r.val = t.val % 16 * 512 + r.val; omega
  | ⟨2, _⟩ => show win0_9.index t 2 * 512 + 1 * j.val = j.val; omega

/-- The normed convolutions. -/
def convs (c : Dev nD) : S4x8192x512.Idx → EReal := fun i => convArg m c (i 0) (i 1) (i 2)

theorem arr9 (c : Dev nD) : ((dats m 0 c).arrAt 9 cfg0.N : S4x8192x512.Idx → EReal) = convs m c := by
  refine (dats m 0 c).arrAt_eq_of_covers 9 _ covers9 (fun t _ y => ?_) (Memref.isWhole_whole _)
  rw [after9]
  obtain ⟨z, r, j, rfl⟩ : ∃ (z : Fin 1) (r : Fin 512) (j : Fin 512), y = (ix3 z r j : S1x512x512.Idx) := ⟨_, _, _, eq_ix3 (n0 := 1) (n1 := 512) (n2 := 512) y⟩
  obtain rfl := Subsingleton.elim z 0
  refine Eq.trans ?_ (congrArg (convs m c) (emb9 t r j).symm)
  exact (res9_at _ _ _ _ _ _ _ _ r j).trans (congrFun (convn_iblk m c t r) j)

theorem idx11 : ∀ t : Fin cfg0.N, win0_11.index t 0 = t.val / 16 ∧ win0_11.index t 1 = t.val % 16 ∧ win0_11.index t 2 = 0 :=
  (by decide +kernel : ∀ t : Fin grid0.N, _)

theorem covers11 : (cfg0.win 11).Covers :=
  Pipeline.Window.covers_of_index_surj _ rfl (fun a => by match a with | ⟨0, _⟩ => exact (by decide : 0 < 1) | ⟨1, _⟩ => exact (by decide : 0 < 512) | ⟨2, _⟩ => exact (by decide : 0 < 256)) fun β => by
    have h0 : (β (0 : Fin 3)).val < 4 := (β (0 : Fin 3)).isLt
    have h1 : (β (1 : Fin 3)).val < 16 := Nat.lt_of_lt_of_eq (β (1 : Fin 3)).isLt (show (8192 + 512 - 1) / 512 = 16 from by norm_num)
    have h2 : (β (2 : Fin 3)).val < 1 := Nat.lt_of_lt_of_eq (β (2 : Fin 3)).isLt (show (256 + 256 - 1) / 256 = 1 from by norm_num)
    have ht : (β (0 : Fin 3)).val * 16 + (β (1 : Fin 3)).val < cfg0.N := by show _ < 64; omega
    have e := idx11 ⟨_, ht⟩
    refine ⟨⟨_, ht⟩, fun a => ?_⟩
    match a with
    | ⟨0, _⟩ => exact e.1.trans (by show ((β (0 : Fin 3)).val * 16 + (β (1 : Fin 3)).val) / 16 = (β (0 : Fin 3)).val; omega)
    | ⟨1, _⟩ => exact e.2.1.trans (by show ((β (0 : Fin 3)).val * 16 + (β (1 : Fin 3)).val) % 16 = (β (1 : Fin 3)).val; omega)
    | ⟨2, _⟩ => exact e.2.2.trans (by omega : 0 = (β (2 : Fin 3)).val)

theorem emb11 (t : Fin cfg0.N) (r : Fin 512) (j : Fin 256) : ((cfg0.win 11).blk t).view.emb (ix3 0 r j : S1x512x256.Idx) = (ix3 (seqOf t) (rowOf t r) j : S4x8192x256.Idx) := by
  have e := idx11 t
  refine funext fun a => Fin.ext ?_
  match a with
  | ⟨0, _⟩ => show win0_11.index t 0 * 1 + 1 * 0 = t.val / 16; omega
  | ⟨1, _⟩ => show win0_11.index t 1 * 512 + 1 * r.val = t.val % 16 * 512 + r.val; omega
  | ⟨2, _⟩ => show win0_11.index t 2 * 256 + 1 * j.val = j.val; omega

/-- The keys and values of the compressed branch. -/
def cols11 (c : Dev nD) : S4x8192x256.Idx → EReal := fun i => uArg m c (i 0) (i 1) ⟨2048 + (i 2).val, by have h : (i 2).val < 256 := (i 2).isLt; omega⟩

theorem arr11 (c : Dev nD) : ((dats m 0 c).arrAt 11 cfg0.N : S4x8192x256.Idx → EReal) = cols11 m c := by
  refine (dats m 0 c).arrAt_eq_of_covers 11 _ covers11 (fun t _ y => ?_) (Memref.isWhole_whole _)
  rw [after11]
  obtain ⟨z, r, j, rfl⟩ : ∃ (z : Fin 1) (r : Fin 512) (j : Fin 256), y = (ix3 z r j : S1x512x256.Idx) := ⟨_, _, _, eq_ix3 (n0 := 1) (n1 := 512) (n2 := 256) y⟩
  obtain rfl := Subsingleton.elim z 0
  refine Eq.trans ?_ (congrArg (cols11 m c) (emb11 t r j).symm)
  exact (res11_at _ _ _ _ _ r j).trans (congrFun (urow_iblk m c t r) _)

theorem idx12 : ∀ t : Fin cfg0.N, win0_12.index t 0 = t.val / 16 ∧ win0_12.index t 1 = t.val % 16 ∧ win0_12.index t 2 = 0 :=
  (by decide +kernel : ∀ t : Fin grid0.N, _)

theorem covers12 : (cfg0.win 12).Covers :=
  Pipeline.Window.covers_of_index_surj _ rfl (fun a => by match a with | ⟨0, _⟩ => exact (by decide : 0 < 1) | ⟨1, _⟩ => exact (by decide : 0 < 512) | ⟨2, _⟩ => exact (by decide : 0 < 256)) fun β => by
    have h0 : (β (0 : Fin 3)).val < 4 := (β (0 : Fin 3)).isLt
    have h1 : (β (1 : Fin 3)).val < 16 := Nat.lt_of_lt_of_eq (β (1 : Fin 3)).isLt (show (8192 + 512 - 1) / 512 = 16 from by norm_num)
    have h2 : (β (2 : Fin 3)).val < 1 := Nat.lt_of_lt_of_eq (β (2 : Fin 3)).isLt (show (256 + 256 - 1) / 256 = 1 from by norm_num)
    have ht : (β (0 : Fin 3)).val * 16 + (β (1 : Fin 3)).val < cfg0.N := by show _ < 64; omega
    have e := idx12 ⟨_, ht⟩
    refine ⟨⟨_, ht⟩, fun a => ?_⟩
    match a with
    | ⟨0, _⟩ => exact e.1.trans (by show ((β (0 : Fin 3)).val * 16 + (β (1 : Fin 3)).val) / 16 = (β (0 : Fin 3)).val; omega)
    | ⟨1, _⟩ => exact e.2.1.trans (by show ((β (0 : Fin 3)).val * 16 + (β (1 : Fin 3)).val) % 16 = (β (1 : Fin 3)).val; omega)
    | ⟨2, _⟩ => exact e.2.2.trans (by omega : 0 = (β (2 : Fin 3)).val)

theorem emb12 (t : Fin cfg0.N) (r : Fin 512) (j : Fin 256) : ((cfg0.win 12).blk t).view.emb (ix3 0 r j : S1x512x256.Idx) = (ix3 (seqOf t) (rowOf t r) j : S4x8192x256.Idx) := by
  have e := idx12 t
  refine funext fun a => Fin.ext ?_
  match a with
  | ⟨0, _⟩ => show win0_12.index t 0 * 1 + 1 * 0 = t.val / 16; omega
  | ⟨1, _⟩ => show win0_12.index t 1 * 512 + 1 * r.val = t.val % 16 * 512 + r.val; omega
  | ⟨2, _⟩ => show win0_12.index t 2 * 256 + 1 * j.val = j.val; omega

/-- The keys and values of the selected branch. -/
def cols12 (c : Dev nD) : S4x8192x256.Idx → EReal := fun i => uArg m c (i 0) (i 1) ⟨2048 + (256 + (i 2).val), by have h : (i 2).val < 256 := (i 2).isLt; omega⟩

theorem arr12 (c : Dev nD) : ((dats m 0 c).arrAt 12 cfg0.N : S4x8192x256.Idx → EReal) = cols12 m c := by
  refine (dats m 0 c).arrAt_eq_of_covers 12 _ covers12 (fun t _ y => ?_) (Memref.isWhole_whole _)
  rw [after12]
  obtain ⟨z, r, j, rfl⟩ : ∃ (z : Fin 1) (r : Fin 512) (j : Fin 256), y = (ix3 z r j : S1x512x256.Idx) := ⟨_, _, _, eq_ix3 (n0 := 1) (n1 := 512) (n2 := 256) y⟩
  obtain rfl := Subsingleton.elim z 0
  refine Eq.trans ?_ (congrArg (cols12 m c) (emb12 t r j).symm)
  exact (res12_at _ _ _ _ _ r j).trans (congrFun (urow_iblk m c t r) _)

theorem idx13 : ∀ t : Fin cfg0.N, win0_13.index t 0 = t.val / 16 ∧ win0_13.index t 1 = t.val % 16 ∧ win0_13.index t 2 = 0 :=
  (by decide +kernel : ∀ t : Fin grid0.N, _)

theorem covers13 : (cfg0.win 13).Covers :=
  Pipeline.Window.covers_of_index_surj _ rfl (fun a => by match a with | ⟨0, _⟩ => exact (by decide : 0 < 1) | ⟨1, _⟩ => exact (by decide : 0 < 512) | ⟨2, _⟩ => exact (by decide : 0 < 256)) fun β => by
    have h0 : (β (0 : Fin 3)).val < 4 := (β (0 : Fin 3)).isLt
    have h1 : (β (1 : Fin 3)).val < 16 := Nat.lt_of_lt_of_eq (β (1 : Fin 3)).isLt (show (8192 + 512 - 1) / 512 = 16 from by norm_num)
    have h2 : (β (2 : Fin 3)).val < 1 := Nat.lt_of_lt_of_eq (β (2 : Fin 3)).isLt (show (256 + 256 - 1) / 256 = 1 from by norm_num)
    have ht : (β (0 : Fin 3)).val * 16 + (β (1 : Fin 3)).val < cfg0.N := by show _ < 64; omega
    have e := idx13 ⟨_, ht⟩
    refine ⟨⟨_, ht⟩, fun a => ?_⟩
    match a with
    | ⟨0, _⟩ => exact e.1.trans (by show ((β (0 : Fin 3)).val * 16 + (β (1 : Fin 3)).val) / 16 = (β (0 : Fin 3)).val; omega)
    | ⟨1, _⟩ => exact e.2.1.trans (by show ((β (0 : Fin 3)).val * 16 + (β (1 : Fin 3)).val) % 16 = (β (1 : Fin 3)).val; omega)
    | ⟨2, _⟩ => exact e.2.2.trans (by omega : 0 = (β (2 : Fin 3)).val)

theorem emb13 (t : Fin cfg0.N) (r : Fin 512) (j : Fin 256) : ((cfg0.win 13).blk t).view.emb (ix3 0 r j : S1x512x256.Idx) = (ix3 (seqOf t) (rowOf t r) j : S4x8192x256.Idx) := by
  have e := idx13 t
  refine funext fun a => Fin.ext ?_
  match a with
  | ⟨0, _⟩ => show win0_13.index t 0 * 1 + 1 * 0 = t.val / 16; omega
  | ⟨1, _⟩ => show win0_13.index t 1 * 512 + 1 * r.val = t.val % 16 * 512 + r.val; omega
  | ⟨2, _⟩ => show win0_13.index t 2 * 256 + 1 * j.val = j.val; omega

/-- The keys and values of the windows. -/
def cols13 (c : Dev nD) : S4x8192x256.Idx → EReal := fun i => uArg m c (i 0) (i 1) ⟨2048 + (512 + (i 2).val), by have h : (i 2).val < 256 := (i 2).isLt; omega⟩

theorem arr13 (c : Dev nD) : ((dats m 0 c).arrAt 13 cfg0.N : S4x8192x256.Idx → EReal) = cols13 m c := by
  refine (dats m 0 c).arrAt_eq_of_covers 13 _ covers13 (fun t _ y => ?_) (Memref.isWhole_whole _)
  rw [after13]
  obtain ⟨z, r, j, rfl⟩ : ∃ (z : Fin 1) (r : Fin 512) (j : Fin 256), y = (ix3 z r j : S1x512x256.Idx) := ⟨_, _, _, eq_ix3 (n0 := 1) (n1 := 512) (n2 := 256) y⟩
  obtain rfl := Subsingleton.elim z 0
  refine Eq.trans ?_ (congrArg (cols13 m c) (emb13 t r j).symm)
  exact (res13_at _ _ _ _ _ r j).trans (congrFun (urow_iblk m c t r) _)

/-- The normed and modulated row `p` of sequence `b`. -/
def hArg (c : Dev nD) (b : Fin 4) (p : Fin 8192) : Fin 1024 → EReal :=
  hiddenRow (fun k => (m ((c : Thread nD τ).loc main_arg0) : S4x8192x1024.Idx → EReal) (ix3 b p k)) (fun k => (m ((c : Thread nD τ).loc main_arg1) : S4x1x1024.Idx → EReal) (ix3 b 0 k))
      (fun k => (m ((c : Thread nD τ).loc main_arg2) : S4x1x1024.Idx → EReal) (ix3 b 0 k)) (fun k => (m ((c : Thread nD τ).loc main_arg3) : S1x1024.Idx → EReal) (ix2 0 k))

theorem hrow_iblk (c : Dev nD) (t : Fin cfg0.N) (r : Fin 512) :
    hrow (iblk m c 0 t) (iblk m c 1 t) (iblk m c 2 t) (iblk m c 3 t) r = hArg m c (seqOf t) (rowOf t r) := by
  unfold hrow hArg
  exact congr (congr (congr (congrArg hiddenRow (funext (iblk0_at m c t r))) (funext (iblk1_at m c t))) (funext (iblk2_at m c t))) (funext (iblk3_at m c t))

theorem iblk4_pad (c : Dev nD) (t : Fin cfg0.N) (k : Fin 1024) (j : Fin 2944) : (iblk m c 4 t : S1024x2944.Idx → EReal) (ix2 k j) = (V m c main_v2 : S1024x2944.Idx → EReal) (ix2 k j) := by
  blk_ext [iblk, idxAll t]

theorem idx14 : ∀ t : Fin cfg0.N, win0_14.index t 0 = t.val / 16 ∧ win0_14.index t 1 = t.val % 16 ∧ win0_14.index t 2 = 0 :=
  (by decide +kernel : ∀ t : Fin grid0.N, _)

theorem covers14 : (cfg0.win 14).Covers :=
  Pipeline.Window.covers_of_index_surj _ rfl (fun a => by match a with | ⟨0, _⟩ => exact (by decide : 0 < 1) | ⟨1, _⟩ => exact (by decide : 0 < 512) | ⟨2, _⟩ => exact (by decide : 0 < 128)) fun β => by
    have h0 : (β (0 : Fin 3)).val < 4 := (β (0 : Fin 3)).isLt
    have h1 : (β (1 : Fin 3)).val < 16 := Nat.lt_of_lt_of_eq (β (1 : Fin 3)).isLt (show (8192 + 512 - 1) / 512 = 16 from by norm_num)
    have h2 : (β (2 : Fin 3)).val < 1 := Nat.lt_of_lt_of_eq (β (2 : Fin 3)).isLt (show (128 + 128 - 1) / 128 = 1 from by norm_num)
    have ht : (β (0 : Fin 3)).val * 16 + (β (1 : Fin 3)).val < cfg0.N := by show _ < 64; omega
    have e := idx14 ⟨_, ht⟩
    refine ⟨⟨_, ht⟩, fun a => ?_⟩
    match a with
    | ⟨0, _⟩ => exact e.1.trans (by show ((β (0 : Fin 3)).val * 16 + (β (1 : Fin 3)).val) / 16 = (β (0 : Fin 3)).val; omega)
    | ⟨1, _⟩ => exact e.2.1.trans (by show ((β (0 : Fin 3)).val * 16 + (β (1 : Fin 3)).val) % 16 = (β (1 : Fin 3)).val; omega)
    | ⟨2, _⟩ => exact e.2.2.trans (by omega : 0 = (β (2 : Fin 3)).val)

theorem emb14 (t : Fin cfg0.N) (r : Fin 512) (j : Fin 128) : ((cfg0.win 14).blk t).view.emb (ix3 0 r j : S1x512x128.Idx) = (ix3 (seqOf t) (rowOf t r) j : S4x8192x128.Idx) := by
  have e := idx14 t
  refine funext fun a => Fin.ext ?_
  match a with
  | ⟨0, _⟩ => show win0_14.index t 0 * 1 + 1 * 0 = t.val / 16; omega
  | ⟨1, _⟩ => show win0_14.index t 1 * 512 + 1 * r.val = t.val % 16 * 512 + r.val; omega
  | ⟨2, _⟩ => show win0_14.index t 2 * 128 + 1 * j.val = j.val; omega

/-- The gates, with the columns that fill the block. -/
def gate14 (c : Dev nD) : S4x8192x128.Idx → EReal := fun i => gateOf (∑ k : Fin 1024, hArg m c (i 0) (i 1) k * (V m c main_v2 : S1024x2944.Idx → EReal) (ix2 k ⟨2816 + (i 2).val, by have h : (i 2).val < 128 := (i 2).isLt; omega⟩))

theorem arr14 (c : Dev nD) : ((dats m 0 c).arrAt 14 cfg0.N : S4x8192x128.Idx → EReal) = gate14 m c := by
  refine (dats m 0 c).arrAt_eq_of_covers 14 _ covers14 (fun t _ y => ?_) (Memref.isWhole_whole _)
  rw [after14]
  obtain ⟨z, r, j, rfl⟩ : ∃ (z : Fin 1) (r : Fin 512) (j : Fin 128), y = (ix3 z r j : S1x512x128.Idx) := ⟨_, _, _, eq_ix3 (n0 := 1) (n1 := 512) (n2 := 128) y⟩
  obtain rfl := Subsingleton.elim z 0
  refine Eq.trans ?_ (congrArg (gate14 m c) (emb14 t r j).symm)
  exact (res14_all _ _ _ _ _ r j).trans (congrArg gateOf (Finset.sum_congr rfl fun k _ => congrArg₂ (· * ·) (congrFun (hrow_iblk m c t r) k) (iblk4_pad m c t k _)))

theorem gate14_at (c : Dev nD) (b : Fin 4) (p : Fin 8192) (j : Fin 24) : gate14 m c (ix3 b p ⟨j.val, by omega⟩) = gateOf (uArg m c b p ⟨2816 + j.val, by omega⟩) :=
  congrArg gateOf (Finset.sum_congr rfl fun k _ => congrArg (hArg m c b p k * ·) ((congrFun (entry m c).2.1 _).trans (move4 _ k ⟨2816 + j.val, by omega⟩)))

theorem idx15 : ∀ t : Fin cfg0.N, win0_15.index t 0 = t.val / 16 ∧ win0_15.index t 1 = 0 ∧ win0_15.index t 2 = 0 :=
  (by decide +kernel : ∀ t : Fin grid0.N, _)

theorem covers15 : (cfg0.win 15).Covers :=
  Pipeline.Window.covers_of_index_surj _ rfl (fun a => by match a with | ⟨0, _⟩ => exact (by decide : 0 < 1) | ⟨1, _⟩ => exact (by decide : 0 < 2) | ⟨2, _⟩ => exact (by decide : 0 < 512)) fun β => by
    have h0 : (β (0 : Fin 3)).val < 4 := (β (0 : Fin 3)).isLt
    have h1 : (β (1 : Fin 3)).val < 1 := Nat.lt_of_lt_of_eq (β (1 : Fin 3)).isLt (show (2 + 2 - 1) / 2 = 1 from by norm_num)
    have h2 : (β (2 : Fin 3)).val < 1 := Nat.lt_of_lt_of_eq (β (2 : Fin 3)).isLt (show (512 + 512 - 1) / 512 = 1 from by norm_num)
    have ht : (β (0 : Fin 3)).val * 16 < cfg0.N := by show _ < 64; omega
    have e := idx15 ⟨_, ht⟩
    refine ⟨⟨_, ht⟩, fun a => ?_⟩
    match a with
    | ⟨0, _⟩ => exact e.1.trans (by show ((β (0 : Fin 3)).val * 16) / 16 = (β (0 : Fin 3)).val; omega)
    | ⟨1, _⟩ => exact e.2.1.trans (by omega : 0 = (β (1 : Fin 3)).val)
    | ⟨2, _⟩ => exact e.2.2.trans (by omega : 0 = (β (2 : Fin 3)).val)

theorem emb15 (t : Fin cfg0.N) (z : Fin 2) (j : Fin 512) : ((cfg0.win 15).blk t).view.emb (ix3 0 z j : S1x2x512.Idx) = (ix3 (seqOf t) z j : S4x2x512.Idx) := by
  have e := idx15 t
  refine funext fun a => Fin.ext ?_
  match a with
  | ⟨0, _⟩ => show win0_15.index t 0 * 1 + 1 * 0 = t.val / 16; omega
  | ⟨1, _⟩ => show win0_15.index t 1 * 2 + 1 * z.val = z.val; omega
  | ⟨2, _⟩ => show win0_15.index t 2 * 512 + 1 * j.val = j.val; omega

/-- A sequence's last two rows of the convolution's input. -/
def lastTwo (c : Dev nD) : S4x2x512.Idx → EReal := fun i => vArg m c (i 0) ⟨8190 + (i 1).val, by have h : (i 1).val < 2 := (i 1).isLt; omega⟩ (i 2)

theorem arr15 (c : Dev nD) : ((dats m 0 c).arrAt 15 cfg0.N : S4x2x512.Idx → EReal) = lastTwo m c := by
  refine (dats m 0 c).arrAt_eq_of_covers 15 _ covers15 (fun t hf y => ?_) (Memref.isWhole_whole _)
  have h := (flush0_15 t).1 hf
  rw [after15]
  obtain ⟨o, z, j, rfl⟩ : ∃ (o : Fin 1) (z : Fin 2) (j : Fin 512), y = (ix3 o z j : S1x2x512.Idx) := ⟨_, _, _, eq_ix3 (n0 := 1) (n1 := 2) (n2 := 512) y⟩
  obtain rfl := Subsingleton.elim o 0
  refine Eq.trans ?_ (congrArg (lastTwo m c) (emb15 t z j).symm)
  refine (res15_at _ _ _ _ _ z j).trans ((congrFun (vrow_iblk m c t _) j).trans ?_)
  exact congrFun (congrArg (vArg m c (seqOf t)) (Fin.ext (by show t.val % 16 * 512 + (510 + z.val) = 8190 + z.val; omega))) j

theorem idx10 : ∀ t : Fin cfg0.N, win0_10.index t 0 = t.val / 16 ∧ win0_10.index t 1 = 0 ∧ win0_10.index t 2 = t.val % 16 ∧ win0_10.index t 3 = 0 ∧ win0_10.index t 4 = 0 :=
  (by decide +kernel : ∀ t : Fin grid0.N, _)

theorem covers10 : (cfg0.win 10).Covers :=
  Pipeline.Window.covers_of_index_surj _ rfl (fun a => by match a with | ⟨0, _⟩ => exact (by decide : 0 < 1) | ⟨1, _⟩ => exact (by decide : 0 < 2) | ⟨2, _⟩ => exact (by decide : 0 < 4) | ⟨3, _⟩ => exact (by decide : 0 < 64) | ⟨4, _⟩ => exact (by decide : 0 < 512)) fun β => by
    have h0 : (β (0 : Fin 5)).val < 4 := (β (0 : Fin 5)).isLt
    have h1 : (β (1 : Fin 5)).val < 1 := Nat.lt_of_lt_of_eq (β (1 : Fin 5)).isLt (show (2 + 2 - 1) / 2 = 1 from by norm_num)
    have h2 : (β (2 : Fin 5)).val < 16 := Nat.lt_of_lt_of_eq (β (2 : Fin 5)).isLt (show (64 + 4 - 1) / 4 = 16 from by norm_num)
    have h3 : (β (3 : Fin 5)).val < 1 := Nat.lt_of_lt_of_eq (β (3 : Fin 5)).isLt (show (64 + 64 - 1) / 64 = 1 from by norm_num)
    have h4 : (β (4 : Fin 5)).val < 1 := Nat.lt_of_lt_of_eq (β (4 : Fin 5)).isLt (show (512 + 512 - 1) / 512 = 1 from by norm_num)
    have ht : (β (0 : Fin 5)).val * 16 + (β (2 : Fin 5)).val < cfg0.N := by show _ < 64; omega
    have e := idx10 ⟨_, ht⟩
    refine ⟨⟨_, ht⟩, fun a => ?_⟩
    match a with
    | ⟨0, _⟩ => exact e.1.trans (by show ((β (0 : Fin 5)).val * 16 + (β (2 : Fin 5)).val) / 16 = (β (0 : Fin 5)).val; omega)
    | ⟨1, _⟩ => exact e.2.1.trans (by omega : 0 = (β (1 : Fin 5)).val)
    | ⟨2, _⟩ => exact e.2.2.1.trans (by show ((β (0 : Fin 5)).val * 16 + (β (2 : Fin 5)).val) % 16 = (β (2 : Fin 5)).val; omega)
    | ⟨3, _⟩ => exact e.2.2.2.1.trans (by omega : 0 = (β (3 : Fin 5)).val)
    | ⟨4, _⟩ => exact e.2.2.2.2.trans (by omega : 0 = (β (4 : Fin 5)).val)

theorem emb10 (t : Fin cfg0.N) (h : Fin 2) (n : Fin 4) (d : Fin 64) (q : Fin 512) :
    ((cfg0.win 10).blk t).view.emb (ix5 0 h n d q : S1x2x4x64x512.Idx) = (ix5 (seqOf t) h ⟨t.val % 16 * 4 + n.val, by omega⟩ d q : S4x2x64x64x512.Idx) := by
  have e := idx10 t
  refine funext fun a => Fin.ext ?_
  match a with
  | ⟨0, _⟩ => show win0_10.index t 0 * 1 + 1 * 0 = t.val / 16; omega
  | ⟨1, _⟩ => show win0_10.index t 1 * 2 + 1 * h.val = h.val; omega
  | ⟨2, _⟩ => show win0_10.index t 2 * 4 + 1 * n.val = t.val % 16 * 4 + n.val; omega
  | ⟨3, _⟩ => show win0_10.index t 3 * 64 + 1 * d.val = d.val; omega
  | ⟨4, _⟩ => show win0_10.index t 4 * 512 + 1 * q.val = q.val; omega

/-- The queries at a block of 128 rows, a head and a column, by the head's place in its group and the row. -/
def query (c : Dev nD) (b : Fin 4) (h : Fin 2) (n : Fin 64) (d : Fin 64) (q : Fin 512) : EReal :=
  uArg m c b ⟨n.val * 128 + q.val % 128, by omega⟩ ⟨1536 + ((h.val * 4 + q.val / 128) * 64 + d.val), by omega⟩ * Ideal.ofBits .f32 0x3E38AA3B#32

/-- The queries. -/
def queries (c : Dev nD) : S4x2x64x64x512.Idx → EReal := fun i => query m c (i 0) (i 1) (i 2) (i 3) (i 4)

theorem arr10 (c : Dev nD) : ((dats m 0 c).arrAt 10 cfg0.N : S4x2x64x64x512.Idx → EReal) = queries m c := by
  refine (dats m 0 c).arrAt_eq_of_covers 10 _ covers10 (fun t _ y => ?_) (Memref.isWhole_whole _)
  rw [after10]
  obtain ⟨z, h, n, d, q, rfl⟩ : ∃ (z : Fin 1) (h : Fin 2) (n : Fin 4) (d : Fin 64) (q : Fin 512), y = (ix5 z h n d q : S1x2x4x64x512.Idx) := ⟨_, _, _, _, _, eq_ix5 (n0 := 1) (n1 := 2) (n2 := 4) (n3 := 64) (n4 := 512) y⟩
  obtain rfl := Subsingleton.elim z 0
  refine Eq.trans ?_ (congrArg (queries m c) (emb10 t h n d q).symm)
  obtain ⟨g, p, rfl⟩ : ∃ (g : Fin 4) (p : Fin 128), q = ⟨g.val * 128 + p.val, by omega⟩ := ⟨⟨q.val / 128, by omega⟩, ⟨q.val % 128, by omega⟩, Fin.ext (by show q.val = q.val / 128 * 128 + q.val % 128; omega)⟩
  refine (res10_at _ _ _ _ _ h n d g p).trans (congrArg (· * Ideal.ofBits .f32 0x3E38AA3B#32) ((congrFun (urow_iblk m c t _) _).trans ?_))
  exact congr (congrArg (uArg m c (seqOf t)) (Fin.ext (by show t.val % 16 * 512 + (n.val * 128 + p.val) = (t.val % 16 * 4 + n.val) * 128 + (g.val * 128 + p.val) % 128; omega)))
    (Fin.ext (by show 1536 + ((h.val * 4 + g.val) * 64 + d.val) = 1536 + ((h.val * 4 + (g.val * 128 + p.val) / 128) * 64 + d.val); omega))

theorem idx16 : ∀ t : Fin cfg0.N, win0_16.index t 0 = t.val / 16 ∧ win0_16.index t 1 = 0 ∧ win0_16.index t 2 = t.val % 16 ∧ win0_16.index t 3 = 0 :=
  (by decide +kernel : ∀ t : Fin grid0.N, _)

theorem covers16 : (cfg0.win 16).Covers :=
  Pipeline.Window.covers_of_index_surj _ rfl (fun a => by match a with | ⟨0, _⟩ => exact (by decide : 0 < 1) | ⟨1, _⟩ => exact (by decide : 0 < 4) | ⟨2, _⟩ => exact (by decide : 0 < 512) | ⟨3, _⟩ => exact (by decide : 0 < 64)) fun β => by
    have h0 : (β (0 : Fin 4)).val < 4 := (β (0 : Fin 4)).isLt
    have h1 : (β (1 : Fin 4)).val < 1 := Nat.lt_of_lt_of_eq (β (1 : Fin 4)).isLt (show (4 + 4 - 1) / 4 = 1 from by norm_num)
    have h2 : (β (2 : Fin 4)).val < 16 := Nat.lt_of_lt_of_eq (β (2 : Fin 4)).isLt (show (8192 + 512 - 1) / 512 = 16 from by norm_num)
    have h3 : (β (3 : Fin 4)).val < 1 := Nat.lt_of_lt_of_eq (β (3 : Fin 4)).isLt (show (64 + 64 - 1) / 64 = 1 from by norm_num)
    have ht : (β (0 : Fin 4)).val * 16 + (β (2 : Fin 4)).val < cfg0.N := by show _ < 64; omega
    have e := idx16 ⟨_, ht⟩
    refine ⟨⟨_, ht⟩, fun a => ?_⟩
    match a with
    | ⟨0, _⟩ => exact e.1.trans (by show ((β (0 : Fin 4)).val * 16 + (β (2 : Fin 4)).val) / 16 = (β (0 : Fin 4)).val; omega)
    | ⟨1, _⟩ => exact e.2.1.trans (by omega : 0 = (β (1 : Fin 4)).val)
    | ⟨2, _⟩ => exact e.2.2.1.trans (by show ((β (0 : Fin 4)).val * 16 + (β (2 : Fin 4)).val) % 16 = (β (2 : Fin 4)).val; omega)
    | ⟨3, _⟩ => exact e.2.2.2.trans (by omega : 0 = (β (3 : Fin 4)).val)

theorem headCol_lt (a : Fin 4) (b : Nat) (hb : b ≤ 128) (d : Fin 64) : headCol a b + d.val < 768 := by
  show 256 + b + a.val * 64 + a.val / 2 * 128 + d.val < 768
  omega

theorem emb16 (t : Fin cfg0.N) (a : Fin 4) (r : Fin 512) (d : Fin 64) : ((cfg0.win 16).blk t).view.emb (ix4 0 a r d : S1x4x512x64.Idx) = (ix4 (seqOf t) a (rowOf t r) d : S4x4x8192x64.Idx) := by
  have e := idx16 t
  refine funext fun x => Fin.ext ?_
  match x with
  | ⟨0, _⟩ => show win0_16.index t 0 * 1 + 1 * 0 = t.val / 16; omega
  | ⟨1, _⟩ => show win0_16.index t 1 * 4 + 1 * a.val = a.val; omega
  | ⟨2, _⟩ => show win0_16.index t 2 * 512 + 1 * r.val = t.val % 16 * 512 + r.val; omega
  | ⟨3, _⟩ => show win0_16.index t 3 * 64 + 1 * d.val = d.val; omega

/-- Column `d` of a head's keys or values, from the first column `f` of its group. -/
def head (c : Dev nD) (f : Nat) (hf : f ≤ 128) (b a : Fin 4) (p : Fin 8192) (d : Fin 64) : EReal :=
  uArg m c b p ⟨2048 + (headCol a f + d.val), by have := headCol_lt a f hf d; omega⟩

/-- The keys by heads. -/
def keys (c : Dev nD) : S4x4x8192x64.Idx → EReal := fun i => head m c 0 (by decide) (i 0) (i 1) (i 2) (i 3)

theorem arr16 (c : Dev nD) : ((dats m 0 c).arrAt 16 cfg0.N : S4x4x8192x64.Idx → EReal) = keys m c := by
  refine (dats m 0 c).arrAt_eq_of_covers 16 _ covers16 (fun t _ y => ?_) (Memref.isWhole_whole _)
  rw [after16]
  obtain ⟨z, a, r, d, rfl⟩ : ∃ (z : Fin 1) (a : Fin 4) (r : Fin 512) (d : Fin 64), y = (ix4 z a r d : S1x4x512x64.Idx) := ⟨_, _, _, _, eq_ix4 (n0 := 1) (n1 := 4) (n2 := 512) (n3 := 64) y⟩
  obtain rfl := Subsingleton.elim z 0
  refine Eq.trans ?_ (congrArg (keys m c) (emb16 t a r d).symm)
  exact (res16_at _ _ _ _ _ a r d (headCol_lt a 0 (by decide) d)).trans (congrFun (urow_iblk m c t r) _)

theorem idx17 : ∀ t : Fin cfg0.N, win0_17.index t 0 = t.val / 16 ∧ win0_17.index t 1 = 0 ∧ win0_17.index t 2 = 0 ∧ win0_17.index t 3 = t.val % 16 :=
  (by decide +kernel : ∀ t : Fin grid0.N, _)

theorem covers17 : (cfg0.win 17).Covers :=
  Pipeline.Window.covers_of_index_surj _ rfl (fun a => by match a with | ⟨0, _⟩ => exact (by decide : 0 < 1) | ⟨1, _⟩ => exact (by decide : 0 < 4) | ⟨2, _⟩ => exact (by decide : 0 < 64) | ⟨3, _⟩ => exact (by decide : 0 < 512)) fun β => by
    have h0 : (β (0 : Fin 4)).val < 4 := (β (0 : Fin 4)).isLt
    have h1 : (β (1 : Fin 4)).val < 1 := Nat.lt_of_lt_of_eq (β (1 : Fin 4)).isLt (show (4 + 4 - 1) / 4 = 1 from by norm_num)
    have h2 : (β (2 : Fin 4)).val < 1 := Nat.lt_of_lt_of_eq (β (2 : Fin 4)).isLt (show (64 + 64 - 1) / 64 = 1 from by norm_num)
    have h3 : (β (3 : Fin 4)).val < 16 := Nat.lt_of_lt_of_eq (β (3 : Fin 4)).isLt (show (8192 + 512 - 1) / 512 = 16 from by norm_num)
    have ht : (β (0 : Fin 4)).val * 16 + (β (3 : Fin 4)).val < cfg0.N := by show _ < 64; omega
    have e := idx17 ⟨_, ht⟩
    refine ⟨⟨_, ht⟩, fun a => ?_⟩
    match a with
    | ⟨0, _⟩ => exact e.1.trans (by show ((β (0 : Fin 4)).val * 16 + (β (3 : Fin 4)).val) / 16 = (β (0 : Fin 4)).val; omega)
    | ⟨1, _⟩ => exact e.2.1.trans (by omega : 0 = (β (1 : Fin 4)).val)
    | ⟨2, _⟩ => exact e.2.2.1.trans (by omega : 0 = (β (2 : Fin 4)).val)
    | ⟨3, _⟩ => exact e.2.2.2.trans (by show ((β (0 : Fin 4)).val * 16 + (β (3 : Fin 4)).val) % 16 = (β (3 : Fin 4)).val; omega)

theorem emb17 (t : Fin cfg0.N) (a : Fin 4) (d : Fin 64) (r : Fin 512) : ((cfg0.win 17).blk t).view.emb (ix4 0 a d r : S1x4x64x512.Idx) = (ix4 (seqOf t) a d (rowOf t r) : S4x4x64x8192.Idx) := by
  have e := idx17 t
  refine funext fun x => Fin.ext ?_
  match x with
  | ⟨0, _⟩ => show win0_17.index t 0 * 1 + 1 * 0 = t.val / 16; omega
  | ⟨1, _⟩ => show win0_17.index t 1 * 4 + 1 * a.val = a.val; omega
  | ⟨2, _⟩ => show win0_17.index t 2 * 64 + 1 * d.val = d.val; omega
  | ⟨3, _⟩ => show win0_17.index t 3 * 512 + 1 * r.val = t.val % 16 * 512 + r.val; omega

/-- The values by heads, transposed. -/
def values (c : Dev nD) : S4x4x64x8192.Idx → EReal := fun i => head m c 128 (by decide) (i 0) (i 1) (i 3) (i 2)

theorem arr17 (c : Dev nD) : ((dats m 0 c).arrAt 17 cfg0.N : S4x4x64x8192.Idx → EReal) = values m c := by
  refine (dats m 0 c).arrAt_eq_of_covers 17 _ covers17 (fun t _ y => ?_) (Memref.isWhole_whole _)
  rw [after17]
  obtain ⟨z, a, d, r, rfl⟩ : ∃ (z : Fin 1) (a : Fin 4) (d : Fin 64) (r : Fin 512), y = (ix4 z a d r : S1x4x64x512.Idx) := ⟨_, _, _, _, eq_ix4 (n0 := 1) (n1 := 4) (n2 := 64) (n3 := 512) y⟩
  obtain rfl := Subsingleton.elim z 0
  refine Eq.trans ?_ (congrArg (values m c) (emb17 t a d r).symm)
  exact (res17_at _ _ _ _ _ a d r (headCol_lt a 128 (by decide) d)).trans (congrFun (urow_iblk m c t r) _)

end Cert.PromptIdeal.Inproj

end
-- ==== Proof.InpPromptEnd.lean ====
/-
  The prompt's results after the host's last lines, and their agreement with the reference.
-/
module

public import proofs.«01_k».proof.Defs
public import proofs.«01_k».proof.Proof.InpPrompt
public import proofs.«01_k».proof.Proof.InpPromptRef
public import Idealize.ShloMosaic.Lib.Claim

@[expose] public section

set_option maxRecDepth 16384

noncomputable section

namespace Cert.PromptIdeal.Inproj

open Idealize.ShloMosaic Idealize.ShloMosaic.TcCoe Cert.PromptIdeal Cert.PromptIdeal.Gen Cert.Inproj

/-! ## The last lines over plain arrays -/

/-- A sequence's keys and values, page by page. -/
def pages (x : FVec Ideal S4x8192x256 .f32) : FVec Ideal S1x4x64x128x2x2x64 .f32 := shapeCast _ x shapeCasts_S4x8192x256_S1x4x64x128x2x2x64

/-- The window: the last 512 rows' keys and values. -/
def window (x : FVec Ideal S4x8192x256 .f32) : FVec Ideal S1x4x512x2x2x64 .f32 :=
  shapeCast _ (extractStridedSlice S4x512x256 ![0, 7680, 0] x slices_S4x8192x256_S4x512x256_0_7680_0) shapeCasts_S4x512x256_S1x4x512x2x2x64

/-- The convolution's last two input rows. -/
def state (x : FVec Ideal S4x2x512 .f32) : FVec Ideal S1x4x2x512 .f32 := broadcastInDim S1x4x2x512 ![1, 2, 3] bcast_S4x2x512_S1x4x2x512_1_2_3 x

/-- The gates without the columns that fill the block. -/
def gates (x : FVec Ideal S4x8192x128 .f32) : FVec Ideal S4x8192x24 .f32 := extractStridedSlice S4x8192x24 ![0, 0, 0] x slices_S4x8192x128_S4x8192x24_0_0_0

theorem window_at (x : FVec Ideal S4x8192x256 .f32) (b : Fin 4) (w : Fin 512) (a h : Fin 2) (d : Fin 64) :
    window x (ix6 0 b w a h d) = x (ix3 b ⟨7680 + w.val, by omega⟩ ⟨a.val * 128 + h.val * 64 + d.val, by omega⟩) := by
  pointwise [window]

theorem state_at (x : FVec Ideal S4x2x512 .f32) (b : Fin 4) (z : Fin 2) (j : Fin 512) : state x (ix4 0 b z j) = x (ix3 b z j) := by
  pointwise [state]

theorem gates_at (x : FVec Ideal S4x8192x128 .f32) (b : Fin 4) (p : Fin 8192) (j : Fin 24) : gates x (ix3 b p j) = x (ix3 b p ⟨j.val, by omega⟩) := by
  pointwise [gates]

/-! ## What the last lines leave -/

variable (m : (ℓ : Loc nD τ sig) → Buf (Elt Ideal) ℓ)

/-- What a buffer holds at the end. -/
abbrev last (c : Dev nD) (b : Ref sig .tc) := Pipeline.afterTail₀ cfgs (dats m) 0 (V0 m) [hostOps1] c b

/-- A window's array when the launch ends. -/
abbrev fin (c : Dev nD) (w : Fin 18) := (dats m 0 c).arrAt w (cfgs 0).N

theorem at_arr (c : Dev nD) (w : Fin 18) :
    Pipeline.withArrays (cfgs 0).spec c (V0 m c) (fun w => (dats m 0 c).arrAt w (cfgs 0).N) (Proc.tc.devRef (Pipeline.arrRef spec0 w)) = fin m c w :=
  (dats m 0 c).withArrays_arrAt sharedIn0 (V0 m c) (A_eq m c) w

theorem last_kc (c : Dev nD) : last m c main_v10 = pages (cols11 m c) := by
  unfold last Pipeline.afterTail₀
  simp only [hostOps1, List.flatten_cons, List.flatten_nil, List.append_nil, List.cons_append, List.nil_append]
  after_results
  exact congrArg pages ((at_arr m c 11).trans (arr11 m c))

theorem last_ks (c : Dev nD) : last m c main_v11 = pages (cols12 m c) := by
  unfold last Pipeline.afterTail₀
  simp only [hostOps1, List.flatten_cons, List.flatten_nil, List.append_nil, List.cons_append, List.nil_append]
  after_results
  exact congrArg pages ((at_arr m c 12).trans (arr12 m c))

theorem last_window (c : Dev nD) : last m c main_v13 = window (cols13 m c) := by
  unfold last Pipeline.afterTail₀
  simp only [hostOps1, List.flatten_cons, List.flatten_nil, List.append_nil, List.cons_append, List.nil_append]
  after_results
  exact congrArg window ((at_arr m c 13).trans (arr13 m c))

theorem last_state (c : Dev nD) : last m c main_v14 = state (lastTwo m c) := by
  unfold last Pipeline.afterTail₀
  simp only [hostOps1, List.flatten_cons, List.flatten_nil, List.append_nil, List.cons_append, List.nil_append]
  after_results
  exact congrArg state ((at_arr m c 15).trans (arr15 m c))

theorem last_gates (c : Dev nD) : last m c main_v15 = gates (gate14 m c) := by
  unfold last Pipeline.afterTail₀
  simp only [hostOps1, List.flatten_cons, List.flatten_nil, List.append_nil, List.cons_append, List.nil_append]
  after_results
  exact congrArg gates ((at_arr m c 14).trans (arr14 m c))

end Cert.PromptIdeal.Inproj

namespace Cert.Inproj

open Idealize.ShloMosaic Idealize.ShloMosaic.TcCoe
open Cert.PromptRefIdeal.Inproj (kc ks wn cs qs gt kh vt cn cv vp prod hid kc_cast ks_cast wn_at cs_at qs_at gt_at kh_at vt_at cn_at cv_at vp_before vp_row prod_at hid_at)
open Cert.PromptIdeal.Inproj

/-- The columns that the compression's and the selection's keys and values are cut from. -/
theorem cut_at (u : FVec Ideal PromptRefIdeal.S4x8192x2840 .f32) (b : Fin 4) (p : Fin 8192) (j : Fin 256) :
    extractStridedSlice PromptRefIdeal.S4x8192x256 ![0, 0, 2048] u PromptRefIdeal.Gen.facts.slices_S4x8192x2840_S4x8192x256_0_0_2048 (ix3 b p j) = u (ix3 b p ⟨2048 + j.val, by omega⟩)
    ∧ extractStridedSlice PromptRefIdeal.S4x8192x256 ![0, 0, 2304] u PromptRefIdeal.Gen.facts.slices_S4x8192x2840_S4x8192x256_0_0_2304 (ix3 b p j) = u (ix3 b p ⟨2304 + j.val, by omega⟩) := by
  refine ⟨?_, ?_⟩ <;> pointwise

variable (m : (ℓ : Loc PromptIdeal.nD PromptIdeal.τ PromptIdeal.sig) → Buf (Elt Ideal) ℓ)

/-- The reference's products at the kernel's arguments. -/
def uSeq (c : Dev PromptIdeal.nD) : FVec Ideal PromptRefIdeal.S4x8192x2840 .f32 :=
  prod (hid (m (c.tc.loc PromptIdeal.main_arg0)) (m (c.tc.loc PromptIdeal.main_arg1)) (m (c.tc.loc PromptIdeal.main_arg2)) (m (c.tc.loc PromptIdeal.main_arg3))) (m (c.tc.loc PromptIdeal.main_arg4))

theorem uSeq_at (c : Dev PromptIdeal.nD) (b : Fin 4) (p : Fin 8192) (j : Fin 2840) : uSeq m c (ix3 b p j) = uArg m c b p j :=
  (prod_at _ _ b p j).trans (congrArg (fun h => proj h _ j) (funext (hid_at _ _ _ _ b p)))

theorem uSeq_row (c : Dev PromptIdeal.nD) (b : Fin 4) (p : Fin 8192) : (fun j => uSeq m c (ix3 b p j)) = uArg m c b p := funext (uSeq_at m c b p)

/-- The products' columns under two names of one position. -/
theorem uSeq_col (c : Dev PromptIdeal.nD) (b : Fin 4) (p : Fin 8192) (j k : Fin 2840) (h : j.val = k.val) : uArg m c b p j = uSeq m c (ix3 b p k) :=
  (congrArg (uArg m c b p) (Fin.ext h)).trans (uSeq_at m c b p k).symm

/-- The padded rows of the products. -/
theorem vp_uSeq (c : Dev PromptIdeal.nD) (b : Fin 4) (p : Fin 8192) (k q : Nat) (hq : q + k = 2) (h : q + p.val < 8194) (j : Fin 512) :
    vp (uSeq m c) (ix3 b ⟨q + p.val, h⟩ j) = before (vArg m c b) k p j :=
  (vp_before _ b p k q hq h j).trans (congrArg (fun v => before v k p j) (funext fun p => congrArg gated (uSeq_row m c b p)))

theorem before_zero (v : Fin 8192 → Fin 512 → EReal) (p : Fin 8192) (j : Fin 512) : before v 0 p j = v p j := by
  unfold before
  rw [if_pos (Nat.zero_le _)]
  exact congrArg (fun p => v p j) (Fin.ext (Nat.sub_zero _))

theorem pages_kc (c : Dev PromptIdeal.nD) : pages (cols11 m c) = kc (uSeq m c) := by
  refine Eq.trans ?_ (kc_cast (uSeq m c) PromptIdeal.Gen.facts.shapeCasts_S4x8192x256_S1x4x64x128x2x2x64).symm
  refine congrArg pages (funext fun i => ?_)
  obtain ⟨b, p, j, rfl⟩ : ∃ (b : Fin 4) (p : Fin 8192) (j : Fin 256), i = ix3 b p j := ⟨_, _, _, eq_ix3 (n0 := 4) (n1 := 8192) (n2 := 256) i⟩
  exact (uSeq_col m c b p _ _ rfl).trans (cut_at (uSeq m c) b p j).1.symm

theorem pages_ks (c : Dev PromptIdeal.nD) : pages (cols12 m c) = ks (uSeq m c) := by
  refine Eq.trans ?_ (ks_cast (uSeq m c) PromptIdeal.Gen.facts.shapeCasts_S4x8192x256_S1x4x64x128x2x2x64).symm
  refine congrArg pages (funext fun i => ?_)
  obtain ⟨b, p, j, rfl⟩ : ∃ (b : Fin 4) (p : Fin 8192) (j : Fin 256), i = ix3 b p j := ⟨_, _, _, eq_ix3 (n0 := 4) (n1 := 8192) (n2 := 256) i⟩
  exact (uSeq_col m c b p _ ⟨2304 + j.val, by omega⟩ (by show 2048 + (256 + j.val) = 2304 + j.val; omega)).trans (cut_at (uSeq m c) b p j).2.symm

theorem window_wn (c : Dev PromptIdeal.nD) : window (cols13 m c) = wn (uSeq m c) := by
  funext i
  obtain ⟨z, b, w, a, h, d, rfl⟩ : ∃ (z : Fin 1) (b : Fin 4) (w : Fin 512) (a h : Fin 2) (d : Fin 64), i = ix6 z b w a h d := ⟨_, _, _, _, _, _, eq_ix6 (n0 := 1) (n1 := 4) (n2 := 512) (n3 := 2) (n4 := 2) (n5 := 64) i⟩
  obtain rfl := Subsingleton.elim z 0
  refine (window_at _ b w a h d).trans (Eq.trans ?_ (wn_at (uSeq m c) b w a h d).symm)
  exact uSeq_col m c b _ _ _ (by show 2048 + (512 + (a.val * 128 + h.val * 64 + d.val)) = 2560 + (a.val * 128 + h.val * 64 + d.val); omega)

theorem state_cs (c : Dev PromptIdeal.nD) : state (lastTwo m c) = cs (vp (uSeq m c)) := by
  funext i
  obtain ⟨o, b, z, j, rfl⟩ : ∃ (o : Fin 1) (b : Fin 4) (z : Fin 2) (j : Fin 512), i = ix4 o b z j := ⟨_, _, _, _, eq_ix4 (n0 := 1) (n1 := 4) (n2 := 2) (n3 := 512) i⟩
  obtain rfl := Subsingleton.elim o 0
  have hz := z.isLt
  refine (state_at _ b z j).trans (Eq.trans ?_ ((cs_at (vp (uSeq m c)) b z j).trans (vp_row _ b _ (by show ¬ 8192 + z.val < 2; omega) j)).symm)
  have e : (⟨8192 + z.val - 2, by omega⟩ : Fin 8192) = ⟨8190 + z.val, by omega⟩ := Fin.ext (by show 8192 + z.val - 2 = 8190 + z.val; omega)
  exact (congrFun (congrArg gated ((congrArg (fun p => fun j => uSeq m c (ix3 b p j)) e).trans (uSeq_row m c b _))) j).symm

theorem convs_cn (c : Dev PromptIdeal.nD) : convs m c = cn (cv (uSeq m c) (vp (uSeq m c)) (m (c.tc.loc PromptIdeal.main_arg5))) (m (c.tc.loc PromptIdeal.main_arg6)) := by
  funext i
  obtain ⟨b, p, j, rfl⟩ : ∃ (b : Fin 4) (p : Fin 8192) (j : Fin 512), i = ix3 b p j := ⟨_, _, _, eq_ix3 (n0 := 4) (n1 := 8192) (n2 := 512) i⟩
  refine Eq.trans ?_ (cn_at _ _ b p j).symm
  show convArg m c b p j = _
  unfold convArg convn
  refine congrArg (fun y => normed _ y _ j) (funext fun j => Eq.trans ?_ (cv_at _ _ _ b p j).symm)
  have h2 : (fun j => vp (uSeq m c) (ix3 b ⟨p.val, by omega⟩ j)) = before (vArg m c b) 2 p := funext fun j =>
    (congrArg (fun q => vp (uSeq m c) (ix3 b q j)) (Fin.ext (Nat.zero_add _).symm)).trans (vp_uSeq m c b p 2 0 rfl (by omega) j)
  have h1 : (fun j => vp (uSeq m c) (ix3 b ⟨1 + p.val, by omega⟩ j)) = before (vArg m c b) 1 p := funext (vp_uSeq m c b p 1 1 rfl (by omega))
  have h0 : (fun j => vp (uSeq m c) (ix3 b ⟨2 + p.val, by omega⟩ j)) = vArg m c b p := funext fun j => (vp_uSeq m c b p 0 2 rfl (by omega) j).trans (before_zero _ p j)
  exact congrFun (congr (congr (congr (congrFun (congrArg conv (uSeq_row m c b p).symm) _) h2.symm) h1.symm) h0.symm) j

theorem queries_qs (c : Dev PromptIdeal.nD) : queries m c = qs (uSeq m c) := by
  funext i
  obtain ⟨b, h, n, d, q, rfl⟩ : ∃ (b : Fin 4) (h : Fin 2) (n : Fin 64) (d : Fin 64) (q : Fin 512), i = ix5 b h n d q := ⟨_, _, _, _, _, eq_ix5 (n0 := 4) (n1 := 2) (n2 := 64) (n3 := 64) (n4 := 512) i⟩
  have hq := q.isLt
  have e : q = ⟨(⟨q.val / 128, by omega⟩ : Fin 4).val * 128 + (⟨q.val % 128, by omega⟩ : Fin 128).val, by show q.val / 128 * 128 + q.val % 128 < 512; omega⟩ :=
    Fin.ext (by show q.val = q.val / 128 * 128 + q.val % 128; omega)
  refine Eq.trans ?_ ((congrArg (fun q => qs (uSeq m c) (ix5 b h n d q)) e).trans (qs_at (uSeq m c) b h n d ⟨q.val / 128, by omega⟩ ⟨q.val % 128, by omega⟩)).symm
  exact congrArg (· * Ideal.ofBits .f32 0x3E38AA3B#32) (uSeq_col m c b _ _ _ rfl)

theorem gates_gt (c : Dev PromptIdeal.nD) : gates (gate14 m c) = gt (uSeq m c) := by
  funext i
  obtain ⟨b, p, j, rfl⟩ : ∃ (b : Fin 4) (p : Fin 8192) (j : Fin 24), i = ix3 b p j := ⟨_, _, _, eq_ix3 (n0 := 4) (n1 := 8192) (n2 := 24) i⟩
  exact (gates_at _ b p j).trans ((gate14_at m c b p j).trans ((gt_at _ b p j).trans (congrArg gateOf (uSeq_at m c b p _))).symm)

theorem keys_kh (c : Dev PromptIdeal.nD) : keys m c = kh (uSeq m c) := by
  funext i
  obtain ⟨b, a, p, d, rfl⟩ : ∃ (b a : Fin 4) (p : Fin 8192) (d : Fin 64), i = ix4 b a p d := ⟨_, _, _, _, eq_ix4 (n0 := 4) (n1 := 4) (n2 := 8192) (n3 := 64) i⟩
  obtain ⟨k0, k1, k2, k3⟩ := kh_at (uSeq m c) b p d
  match a with
  | ⟨0, _⟩ => exact (uSeq_col m c b p _ _ (by show 2048 + (256 + 0 + 0 * 64 + 0 / 2 * 128 + d.val) = 2304 + d.val; omega)).trans k0.symm
  | ⟨1, _⟩ => exact (uSeq_col m c b p _ _ (by show 2048 + (256 + 0 + 1 * 64 + 1 / 2 * 128 + d.val) = 2304 + (64 + d.val); omega)).trans k1.symm
  | ⟨2, _⟩ => exact (uSeq_col m c b p _ _ (by show 2048 + (256 + 0 + 2 * 64 + 2 / 2 * 128 + d.val) = 2560 + d.val; omega)).trans k2.symm
  | ⟨3, _⟩ => exact (uSeq_col m c b p _ _ (by show 2048 + (256 + 0 + 3 * 64 + 3 / 2 * 128 + d.val) = 2560 + (64 + d.val); omega)).trans k3.symm

theorem values_vt (c : Dev PromptIdeal.nD) : values m c = vt (uSeq m c) := by
  funext i
  obtain ⟨b, a, d, p, rfl⟩ : ∃ (b a : Fin 4) (d : Fin 64) (p : Fin 8192), i = ix4 b a d p := ⟨_, _, _, _, eq_ix4 (n0 := 4) (n1 := 4) (n2 := 64) (n3 := 8192) i⟩
  obtain ⟨k0, k1, k2, k3⟩ := vt_at (uSeq m c) b p d
  match a with
  | ⟨0, _⟩ => exact (uSeq_col m c b p _ _ (by show 2048 + (256 + 128 + 0 * 64 + 0 / 2 * 128 + d.val) = 2304 + (128 + d.val); omega)).trans k0.symm
  | ⟨1, _⟩ => exact (uSeq_col m c b p _ _ (by show 2048 + (256 + 128 + 1 * 64 + 1 / 2 * 128 + d.val) = 2304 + (192 + d.val); omega)).trans k1.symm
  | ⟨2, _⟩ => exact (uSeq_col m c b p _ _ (by show 2048 + (256 + 128 + 2 * 64 + 2 / 2 * 128 + d.val) = 2560 + (128 + d.val); omega)).trans k2.symm
  | ⟨3, _⟩ => exact (uSeq_col m c b p _ _ (by show 2048 + (256 + 128 + 3 * 64 + 3 / 2 * 128 + d.val) = 2560 + (192 + d.val); omega)).trans k3.symm

/-- The prompt's launch and the reference end with equal results. -/
theorem value_prompt : @Cert.algebraic_PromptIdeal_PromptRefIdeal Cert.PromptIdeal.Gen.facts Cert.PromptRefIdeal.Gen.facts := by
  intro m g m' g' _ hagree
  refine ⟨fun c => kc (uSeq m c), fun c => ks (uSeq m c), fun c => wn (uSeq m c), fun c => cs (vp (uSeq m c)),
    fun c => cn (cv (uSeq m c) (vp (uSeq m c)) (m (c.tc.loc PromptIdeal.main_arg5))) (m (c.tc.loc PromptIdeal.main_arg6)),
    fun c => qs (uSeq m c), fun c => gt (uSeq m c), fun c => kh (uSeq m c), fun c => vt (uSeq m c), ?_, ?_⟩
  · refine (θ_run _ _ _).mono (fun r h c => ?_) (θ_run_and (PromptIdeal.Gen.frame m g) (PromptIdeal.Gen.run_main m g))
    exact ⟨((h.2 c).2 PromptIdeal.main_v10 (Pipeline.mem_restRefs_of PromptIdeal.main_v10 (by decide) (by decide))).trans ((last_kc m c).trans (pages_kc m c)),
      ((h.2 c).2 PromptIdeal.main_v11 (Pipeline.mem_restRefs_of PromptIdeal.main_v11 (by decide) (by decide))).trans ((last_ks m c).trans (pages_ks m c)),
      ((h.2 c).2 PromptIdeal.main_v13 (Pipeline.mem_restRefs_of PromptIdeal.main_v13 (by decide) (by decide))).trans ((last_window m c).trans (window_wn m c)),
      ((h.2 c).2 PromptIdeal.main_v14 (Pipeline.mem_restRefs_of PromptIdeal.main_v14 (by decide) (by decide))).trans ((last_state m c).trans (state_cs m c)),
      ((h.2 c).1 9).trans ((arr9 m c).trans (convs_cn m c)), ((h.2 c).1 10).trans ((arr10 m c).trans (queries_qs m c)),
      ((h.2 c).2 PromptIdeal.main_v15 (Pipeline.mem_restRefs_of PromptIdeal.main_v15 (by decide) (by decide))).trans ((last_gates m c).trans (gates_gt m c)),
      ((h.2 c).1 16).trans ((arr16 m c).trans (keys_kh m c)), ((h.2 c).1 17).trans ((arr17 m c).trans (values_vt m c)), h.1.1 c⟩
  · refine (θ_run _ _ _).mono (fun r h c => ?_) (PromptRefIdeal.Inproj.run_stages m' g')
    obtain ⟨e0, e1, e2, e3, e4, e5, e6⟩ := hagree c
    have hu : PromptRefIdeal.Inproj.uOf m' c = uSeq m c := by unfold PromptRefIdeal.Inproj.uOf uSeq; rw [e0, e1, e2, e3, e4]
    have hc := h c
    rw [hu, e5, e6] at hc
    rw [e5, e6]
    exact hc

end Cert.Inproj

end
-- ==== Proof.ResRow.lean ====
/-
  The residual stream's rows, as plain functions of extended reals: the mixer's product added, and the experts'
  rows added and normed.
-/
module

public import proofs.«01_k».proof.Proof.InpRow

@[expose] public section

noncomputable section

namespace Cert.Residual

open Idealize.ShloMosaic Cert.Inproj

/-- A row with its experts' rows added, each by its gate, under the modulation's scale. -/
def withExperts (x m : Fin 1024 → EReal) (y : Fin 4 → Fin 1024 → EReal) (g : Fin 4 → EReal) (k : Fin 1024) : EReal :=
  x k + m k * ∑ e : Fin 4, y e k * g e

/-- That row normed. -/
def finalRow (x m : Fin 1024 → EReal) (y : Fin 4 → Fin 1024 → EReal) (g : Fin 4 → EReal) (s : Fin 1024 → EReal) : Fin 1024 → EReal :=
  normed 0x44800000#32 (withExperts x m y g) s

/-- The convolution's and the attention's normed row side by side. -/
def mixed (a b : Fin 512 → EReal) (k : Fin 1024) : EReal := if h : k.val < 512 then a ⟨k.val, h⟩ else b ⟨k.val - 512, by omega⟩

/-- A row with the mixer's product added under the modulation's scale. -/
def withMixer (x m : Fin 1024 → EReal) (a b : Fin 512 → EReal) (w : Fin 1024 → Fin 1024 → EReal) (j : Fin 1024) : EReal :=
  x j + m j * ∑ k : Fin 1024, mixed a b k * w k j

/-- The product of the two rows side by side is the sum of their products with the weight's halves. -/
theorem mixed_sum (a b : Fin 512 → EReal) (w : Fin 1024 → EReal) :
    ∑ k : Fin 1024, mixed a b k * w k = (∑ k : Fin 512, a k * w ⟨k.val, by omega⟩) + ∑ k : Fin 512, b k * w ⟨512 + k.val, by omega⟩ := by
  refine (Fin.sum_univ_add (a := 512) (b := 512) (fun k : Fin (512 + 512) => mixed a b k * w k)).trans ?_
  refine congrArg₂ (· + ·) (Finset.sum_congr rfl fun k _ => ?_) (Finset.sum_congr rfl fun k _ => ?_)
  · exact congrArg (· * w ⟨k.val, by omega⟩) (dif_pos k.isLt)
  · refine congrArg (· * w ⟨512 + k.val, by omega⟩) ((dif_neg (show ¬ 512 + k.val < 512 by omega)).trans ?_)
    exact congrArg b (Fin.ext (by show 512 + k.val - 512 = k.val; omega))

end Cert.Residual
-- ==== Proof.ResMerge.lean ====
/-
  The prompt's merge: the mixer's product added to the residual stream, and the sum normed and modulated for the
  experts.
-/
module

public import proofs.«01_k».proof.Defs
public import proofs.«01_k».proof.Proof.Gen.MergeIdeal.Frame
public import proofs.«01_k».proof.Proof.Gen.MergeRefIdeal.Run
public import proofs.«01_k».proof.Proof.ResRow
public import Idealize.ShloMosaic.Lib.Pipeline.ValueKit
public import Idealize.ShloMosaic.Lib.Pipeline.Covers
public import Idealize.ShloMosaic.Lib.ValueIdxRank6
public import Idealize.ShloMosaic.Lib.Claim

@[expose] public section

set_option maxRecDepth 16384

noncomputable section

namespace Cert.MergeIdeal.Residual

open Idealize.ShloMosaic Idealize.ShloMosaic.TcCoe Cert.MergeIdeal Cert.MergeIdeal.Gen Cert.Residual Cert.Inproj

/-! ## A block -/

section block

variable (x0 : Vec Ideal S1x512x1024 .f32) (x1 : Vec Ideal S1x512x512 .bf16) (x2 : Vec Ideal S1x512x512 .f32) (x3 : Vec Ideal S1x512 .f32) (x4 : Vec Ideal S1024x1024 .bf16)
  (x5 x6 x7 : Vec Ideal S1x1x1024 .f32) (x8 : Vec Ideal S1x1024 .f32) (x9 : Vec Ideal S1024x128 .f32) (x10 : Vec Ideal S1x128 .f32)

/-- The stream's row `r` of the block with the mixer's product. -/
def mrow (r : Fin 512) : Fin 1024 → EReal :=
  withMixer (fun k => x0 (ix3 0 r k)) (fun k => x5 (ix3 0 0 k)) (fun k => x1 (ix3 0 r k)) (normed 0x44000000#32 (fun k => x2 (ix3 0 r k)) (fun k => x3 (ix2 0 k))) (fun k j => x4 (ix2 k j))

theorem pay2_at (r : Fin 512) (j : Fin 1024) :
    k0_pay2 (F := Ideal) x2 x3 x1 (View.ld x4 r0_2) (View.ld x4 r0_3) x0 x5 (ix2 r j) = mrow x0 x1 x2 x3 x4 x5 r j := by
  unfold mrow withMixer
  rw [mixed_sum]
  pointwise [k0_pay2, normed]

theorem pay5_at (v : FVec Ideal S512x1024 .f32) (r : Fin 512) (j : Fin 1024) :
    k0_pay5 (F := Ideal) v x8 x7 x6 (ix3 0 r j) = hiddenRow (fun k => v (ix2 r k)) (fun k => x6 (ix3 0 0 k)) (fun k => x7 (ix3 0 0 k)) (fun k => x8 (ix2 0 k)) j := by
  pointwise [k0_pay5, k0_pay4, hiddenRow, normed]

theorem pay3_at (v : FVec Ideal S512x1024 .f32) (r : Fin 512) (j : Fin 1024) : k0_pay3 (F := Ideal) v (ix3 0 r j) = v (ix2 r j) := by
  pointwise [k0_pay3]

theorem block11_at (r : Fin 512) (j : Fin 1024) : out0_11 (F := Ideal) x0 x1 x2 x3 x4 x5 x6 x7 x8 x9 x10 (ix3 0 r j) = mrow x0 x1 x2 x3 x4 x5 r j := by
  unfold out0_11 k0_pay37
  frame_out
  exact (pay3_at _ r j).trans (pay2_at x0 x1 x2 x3 x4 x5 r j)

theorem block12_at (r : Fin 512) (j : Fin 1024) :
    out0_12 (F := Ideal) x0 x1 x2 x3 x4 x5 x6 x7 x8 x9 x10 (ix3 0 r j)
      = hiddenRow (mrow x0 x1 x2 x3 x4 x5 r) (fun k => x6 (ix3 0 0 k)) (fun k => x7 (ix3 0 0 k)) (fun k => x8 (ix2 0 k)) j := by
  unfold out0_12 k0_pay37
  frame_out
  refine (pay5_at x6 x7 x8 _ r j).trans ?_
  exact congrArg (fun v => hiddenRow v _ _ _ j) (funext fun k => pay2_at x0 x1 x2 x3 x4 x5 r k)

end block

variable (m : (ℓ : Loc nD τ sig) → Buf (Elt Ideal) ℓ)

/-! ## The points: sixteen blocks of rows to a sequence -/

/-- A point's sequence. -/
def seqOf (t : Fin cfg0.N) : Fin 4 := ⟨t.val / 16, by have h : t.val < 64 := t.isLt; omega⟩

/-- Row `r` of a point's block, in the sequence. -/
def rowOf (t : Fin cfg0.N) (r : Fin 512) : Fin 8192 := ⟨t.val % 16 * 512 + r.val, by omega⟩

theorem idxRow : ∀ t : Fin cfg0.N, (win0_0.index t 0 = t.val / 16 ∧ win0_0.index t 1 = t.val % 16 ∧ win0_0.index t 2 = 0) ∧ (win0_1.index t 0 = t.val / 16 ∧ win0_1.index t 1 = t.val % 16 ∧ win0_1.index t 2 = 0) ∧ (win0_2.index t 0 = t.val / 16 ∧ win0_2.index t 1 = t.val % 16 ∧ win0_2.index t 2 = 0) :=
  (by decide +kernel : ∀ t : Fin grid0.N, _)

theorem idxSeq : ∀ t : Fin cfg0.N, (win0_5.index t 0 = t.val / 16 ∧ win0_5.index t 1 = 0 ∧ win0_5.index t 2 = 0) ∧ (win0_6.index t 0 = t.val / 16 ∧ win0_6.index t 1 = 0 ∧ win0_6.index t 2 = 0) ∧ (win0_7.index t 0 = t.val / 16 ∧ win0_7.index t 1 = 0 ∧ win0_7.index t 2 = 0) :=
  (by decide +kernel : ∀ t : Fin grid0.N, _)

theorem idxAll : ∀ t : Fin cfg0.N, (win0_3.index t 0 = 0 ∧ win0_3.index t 1 = 0) ∧ (win0_4.index t 0 = 0 ∧ win0_4.index t 1 = 0) ∧ (win0_8.index t 0 = 0 ∧ win0_8.index t 1 = 0) :=
  (by decide +kernel : ∀ t : Fin grid0.N, _)

theorem idxOut11 : ∀ t : Fin cfg0.N, win0_11.index t 0 = t.val / 16 ∧ win0_11.index t 1 = t.val % 16 ∧ win0_11.index t 2 = 0 :=
  (by decide +kernel : ∀ t : Fin grid0.N, _)

theorem idxOut12 : ∀ t : Fin cfg0.N, win0_12.index t 0 = t.val / 16 ∧ win0_12.index t 1 = t.val % 16 ∧ win0_12.index t 2 = 0 :=
  (by decide +kernel : ∀ t : Fin grid0.N, _)

/-- The arrays as the region finds them. -/
theorem entry (c : Dev nD) :
    (V m c main_v9 : S1x512.Idx → EReal) = shapeCast S1x512 (shapeCast S512 (m ((c : Thread nD τ).loc main_arg6) : S1x512.Idx → EReal) shapeCasts_S1x512_S512) shapeCasts_S512_S1x512
    ∧ (V m c main_v1 : S1024x1024.Idx → EReal) = truncf (F := Ideal) (φ := .f32) .bf16 (shapeCast S1024x1024 (m ((c : Thread nD τ).loc main_arg7) : S1x1024x1024.Idx → EReal) shapeCasts_S1x1024x1024_S1024x1024) bitsLt_bf16_f32
    ∧ (V m c main_v10 : S1x1024.Idx → EReal) = shapeCast S1x1024 (shapeCast S1024 (m ((c : Thread nD τ).loc main_arg8) : S1x1024.Idx → EReal) shapeCasts_S1x1024_S1024) shapeCasts_S1024_S1x1024 := by
  refine ⟨?_, ?_, ?_⟩ <;>
  · show StableHlo.after (List.flatten [hostOps0, hostOps0_1, hostOps0_2, hostOps0_3, hostOps0_4]) (fun b => m (c, b)) _ = _
    simp only [hostOps0, hostOps0_1, hostOps0_2, hostOps0_3, hostOps0_4, List.flatten_cons, List.flatten_nil, List.append_nil, List.cons_append, List.nil_append]
    after_results
    try rfl

theorem move6 (a : S1x512.Idx → EReal) (k : Fin 512) : shapeCast S1x512 (shapeCast S512 a shapeCasts_S1x512_S512) shapeCasts_S512_S1x512 (ix2 0 k) = a (ix2 0 k) := by pointwise

theorem move7 (a : S1x1024x1024.Idx → EReal) (k j : Fin 1024) :
    truncf (F := Ideal) (φ := .f32) .bf16 (shapeCast S1024x1024 a shapeCasts_S1x1024x1024_S1024x1024) bitsLt_bf16_f32 (ix2 k j) = a (ix3 0 k j) := by pointwise

theorem move8 (a : S1x1024.Idx → EReal) (k : Fin 1024) : shapeCast S1x1024 (shapeCast S1024 a shapeCasts_S1x1024_S1024) shapeCasts_S1024_S1x1024 (ix2 0 k) = a (ix2 0 k) := by pointwise

theorem iblk0_at (c : Dev nD) (t : Fin cfg0.N) (r : Fin 512) (k : Fin 1024) :
    (iblk m c 0 t : S1x512x1024.Idx → EReal) (ix3 0 r k) = (m ((c : Thread nD τ).loc main_arg0) : S4x8192x1024.Idx → EReal) (ix3 (seqOf t) (rowOf t r) k) := by
  refine Eq.trans (b := (V m c main_arg0 : S4x8192x1024.Idx → EReal) (ix3 (seqOf t) (rowOf t r) k)) ?_ (by rw [V_main_arg0])
  refine congrArg (V m c main_arg0 : S4x8192x1024.Idx → EReal) (funext fun a => Fin.ext ?_)
  have e := idxRow t
  match a with
  | ⟨0, _⟩ => show win0_0.index t 0 * 1 + 1 * 0 = t.val / 16; omega
  | ⟨1, _⟩ => show win0_0.index t 1 * 512 + 1 * r.val = t.val % 16 * 512 + r.val; omega
  | ⟨2, _⟩ => show win0_0.index t 2 * 1024 + 1 * k.val = k.val; omega

theorem iblk1_at (c : Dev nD) (t : Fin cfg0.N) (r : Fin 512) (k : Fin 512) :
    (iblk m c 1 t : S1x512x512.Idx → EReal) (ix3 0 r k) = (m ((c : Thread nD τ).loc main_arg1) : S4x8192x512.Idx → EReal) (ix3 (seqOf t) (rowOf t r) k) := by
  refine Eq.trans (b := (V m c main_arg1 : S4x8192x512.Idx → EReal) (ix3 (seqOf t) (rowOf t r) k)) ?_ (by rw [V_main_arg1])
  refine congrArg (V m c main_arg1 : S4x8192x512.Idx → EReal) (funext fun a => Fin.ext ?_)
  have e := idxRow t
  match a with
  | ⟨0, _⟩ => show win0_1.index t 0 * 1 + 1 * 0 = t.val / 16; omega
  | ⟨1, _⟩ => show win0_1.index t 1 * 512 + 1 * r.val = t.val % 16 * 512 + r.val; omega
  | ⟨2, _⟩ => show win0_1.index t 2 * 512 + 1 * k.val = k.val; omega

theorem iblk2_at (c : Dev nD) (t : Fin cfg0.N) (r : Fin 512) (k : Fin 512) :
    (iblk m c 2 t : S1x512x512.Idx → EReal) (ix3 0 r k) = (m ((c : Thread nD τ).loc main_arg2) : S4x8192x512.Idx → EReal) (ix3 (seqOf t) (rowOf t r) k) := by
  refine Eq.trans (b := (V m c main_arg2 : S4x8192x512.Idx → EReal) (ix3 (seqOf t) (rowOf t r) k)) ?_ (by rw [V_main_arg2])
  refine congrArg (V m c main_arg2 : S4x8192x512.Idx → EReal) (funext fun a => Fin.ext ?_)
  have e := idxRow t
  match a with
  | ⟨0, _⟩ => show win0_2.index t 0 * 1 + 1 * 0 = t.val / 16; omega
  | ⟨1, _⟩ => show win0_2.index t 1 * 512 + 1 * r.val = t.val % 16 * 512 + r.val; omega
  | ⟨2, _⟩ => show win0_2.index t 2 * 512 + 1 * k.val = k.val; omega

theorem iblk5_at (c : Dev nD) (t : Fin cfg0.N) (k : Fin 1024) : (iblk m c 5 t : S1x1x1024.Idx → EReal) (ix3 0 0 k) = (m ((c : Thread nD τ).loc main_arg3) : S4x1x1024.Idx → EReal) (ix3 (seqOf t) 0 k) := by
  refine Eq.trans (b := (V m c main_arg3 : S4x1x1024.Idx → EReal) (ix3 (seqOf t) 0 k)) ?_ (by rw [V_main_arg3])
  refine congrArg (V m c main_arg3 : S4x1x1024.Idx → EReal) (funext fun a => Fin.ext ?_)
  have e := idxSeq t
  match a with
  | ⟨0, _⟩ => show win0_5.index t 0 * 1 + 1 * 0 = t.val / 16; omega
  | ⟨1, _⟩ => show win0_5.index t 1 * 1 + 1 * 0 = 0; omega
  | ⟨2, _⟩ => show win0_5.index t 2 * 1024 + 1 * k.val = k.val; omega

theorem iblk6_at (c : Dev nD) (t : Fin cfg0.N) (k : Fin 1024) : (iblk m c 6 t : S1x1x1024.Idx → EReal) (ix3 0 0 k) = (m ((c : Thread nD τ).loc main_arg4) : S4x1x1024.Idx → EReal) (ix3 (seqOf t) 0 k) := by
  refine Eq.trans (b := (V m c main_arg4 : S4x1x1024.Idx → EReal) (ix3 (seqOf t) 0 k)) ?_ (by rw [V_main_arg4])
  refine congrArg (V m c main_arg4 : S4x1x1024.Idx → EReal) (funext fun a => Fin.ext ?_)
  have e := idxSeq t
  match a with
  | ⟨0, _⟩ => show win0_6.index t 0 * 1 + 1 * 0 = t.val / 16; omega
  | ⟨1, _⟩ => show win0_6.index t 1 * 1 + 1 * 0 = 0; omega
  | ⟨2, _⟩ => show win0_6.index t 2 * 1024 + 1 * k.val = k.val; omega

theorem iblk7_at (c : Dev nD) (t : Fin cfg0.N) (k : Fin 1024) : (iblk m c 7 t : S1x1x1024.Idx → EReal) (ix3 0 0 k) = (m ((c : Thread nD τ).loc main_arg5) : S4x1x1024.Idx → EReal) (ix3 (seqOf t) 0 k) := by
  refine Eq.trans (b := (V m c main_arg5 : S4x1x1024.Idx → EReal) (ix3 (seqOf t) 0 k)) ?_ (by rw [V_main_arg5])
  refine congrArg (V m c main_arg5 : S4x1x1024.Idx → EReal) (funext fun a => Fin.ext ?_)
  have e := idxSeq t
  match a with
  | ⟨0, _⟩ => show win0_7.index t 0 * 1 + 1 * 0 = t.val / 16; omega
  | ⟨1, _⟩ => show win0_7.index t 1 * 1 + 1 * 0 = 0; omega
  | ⟨2, _⟩ => show win0_7.index t 2 * 1024 + 1 * k.val = k.val; omega

theorem iblk3_at (c : Dev nD) (t : Fin cfg0.N) (k : Fin 512) : (iblk m c 3 t : S1x512.Idx → EReal) (ix2 0 k) = (m ((c : Thread nD τ).loc main_arg6) : S1x512.Idx → EReal) (ix2 0 k) := by
  refine Eq.trans (b := (V m c main_v9 : S1x512.Idx → EReal) (ix2 0 k)) (by blk_ext [iblk, idxAll t]) ?_
  exact (congrFun (entry m c).1 _).trans (move6 _ k)

theorem iblk4_at (c : Dev nD) (t : Fin cfg0.N) (k j : Fin 1024) : (iblk m c 4 t : S1024x1024.Idx → EReal) (ix2 k j) = (m ((c : Thread nD τ).loc main_arg7) : S1x1024x1024.Idx → EReal) (ix3 0 k j) := by
  refine Eq.trans (b := (V m c main_v1 : S1024x1024.Idx → EReal) (ix2 k j)) (by blk_ext [iblk, idxAll t]) ?_
  exact (congrFun (entry m c).2.1 _).trans (move7 _ k j)

theorem iblk8_at (c : Dev nD) (t : Fin cfg0.N) (k : Fin 1024) : (iblk m c 8 t : S1x1024.Idx → EReal) (ix2 0 k) = (m ((c : Thread nD τ).loc main_arg8) : S1x1024.Idx → EReal) (ix2 0 k) := by
  refine Eq.trans (b := (V m c main_v10 : S1x1024.Idx → EReal) (ix2 0 k)) (by blk_ext [iblk, idxAll t]) ?_
  exact (congrFun (entry m c).2.2 _).trans (move8 _ k)

/-! ## The result arrays -/

/-- The stream's row `p` of sequence `b` with the mixer's product, over the arguments. -/
def mixArg (c : Dev nD) (b : Fin 4) (p : Fin 8192) : Fin 1024 → EReal :=
  withMixer (fun k => (m ((c : Thread nD τ).loc main_arg0) : S4x8192x1024.Idx → EReal) (ix3 b p k)) (fun k => (m ((c : Thread nD τ).loc main_arg3) : S4x1x1024.Idx → EReal) (ix3 b 0 k)) (fun k => (m ((c : Thread nD τ).loc main_arg1) : S4x8192x512.Idx → EReal) (ix3 b p k))
    (normed 0x44000000#32 (fun k => (m ((c : Thread nD τ).loc main_arg2) : S4x8192x512.Idx → EReal) (ix3 b p k)) (fun k => (m ((c : Thread nD τ).loc main_arg6) : S1x512.Idx → EReal) (ix2 0 k))) (fun k j => (m ((c : Thread nD τ).loc main_arg7) : S1x1024x1024.Idx → EReal) (ix3 0 k j))

theorem mrow_iblk (c : Dev nD) (t : Fin cfg0.N) (r : Fin 512) :
    mrow (iblk m c 0 t) (iblk m c 1 t) (iblk m c 2 t) (iblk m c 3 t) (iblk m c 4 t) (iblk m c 5 t) r = mixArg m c (seqOf t) (rowOf t r) := by
  unfold mrow mixArg
  exact congr (congr (congr (congr (congrArg withMixer (funext (iblk0_at m c t r))) (funext (iblk5_at m c t))) (funext (iblk1_at m c t r)))
    (congr (congrArg (normed 0x44000000#32) (funext (iblk2_at m c t r))) (funext (iblk3_at m c t)))) (funext fun k => funext (iblk4_at m c t k))

/-- The stream with the mixer's product. -/
def merged (c : Dev nD) : S4x8192x1024.Idx → EReal := fun i => mixArg m c (i 0) (i 1) (i 2)

/-- The experts' input. -/
def expertIn (c : Dev nD) : S4x8192x1024.Idx → EReal := fun i =>
  hiddenRow (mixArg m c (i 0) (i 1)) (fun k => (m ((c : Thread nD τ).loc main_arg4) : S4x1x1024.Idx → EReal) (ix3 (i 0) 0 k)) (fun k => (m ((c : Thread nD τ).loc main_arg5) : S4x1x1024.Idx → EReal) (ix3 (i 0) 0 k)) (fun k => (m ((c : Thread nD τ).loc main_arg8) : S1x1024.Idx → EReal) (ix2 0 k)) (i 2)

theorem covers11 : (cfg0.win 11).Covers :=
  Pipeline.Window.covers_of_index_surj _ rfl (fun a => by match a with | ⟨0, _⟩ => exact (by decide : 0 < 1) | ⟨1, _⟩ => exact (by decide : 0 < 512) | ⟨2, _⟩ => exact (by decide : 0 < 1024)) fun β => by
    have h0 : (β (0 : Fin 3)).val < 4 := (β (0 : Fin 3)).isLt
    have h1 : (β (1 : Fin 3)).val < 16 := Nat.lt_of_lt_of_eq (β (1 : Fin 3)).isLt (show (8192 + 512 - 1) / 512 = 16 from by norm_num)
    have h2 : (β (2 : Fin 3)).val < 1 := Nat.lt_of_lt_of_eq (β (2 : Fin 3)).isLt (show (1024 + 1024 - 1) / 1024 = 1 from by norm_num)
    have ht : (β (0 : Fin 3)).val * 16 + (β (1 : Fin 3)).val < cfg0.N := by show _ < 64; omega
    have e := idxOut11 ⟨_, ht⟩
    refine ⟨⟨_, ht⟩, fun a => ?_⟩
    match a with
    | ⟨0, _⟩ => exact e.1.trans (by show ((β (0 : Fin 3)).val * 16 + (β (1 : Fin 3)).val) / 16 = (β (0 : Fin 3)).val; omega)
    | ⟨1, _⟩ => exact e.2.1.trans (by show ((β (0 : Fin 3)).val * 16 + (β (1 : Fin 3)).val) % 16 = (β (1 : Fin 3)).val; omega)
    | ⟨2, _⟩ => exact e.2.2.trans (by omega : 0 = (β (2 : Fin 3)).val)

theorem emb11 (t : Fin cfg0.N) (r : Fin 512) (j : Fin 1024) : ((cfg0.win 11).blk t).view.emb (ix3 0 r j : S1x512x1024.Idx) = (ix3 (seqOf t) (rowOf t r) j : S4x8192x1024.Idx) := by
  have e := idxOut11 t
  refine funext fun a => Fin.ext ?_
  match a with
  | ⟨0, _⟩ => show win0_11.index t 0 * 1 + 1 * 0 = t.val / 16; omega
  | ⟨1, _⟩ => show win0_11.index t 1 * 512 + 1 * r.val = t.val % 16 * 512 + r.val; omega
  | ⟨2, _⟩ => show win0_11.index t 2 * 1024 + 1 * j.val = j.val; omega

theorem covers12 : (cfg0.win 12).Covers :=
  Pipeline.Window.covers_of_index_surj _ rfl (fun a => by match a with | ⟨0, _⟩ => exact (by decide : 0 < 1) | ⟨1, _⟩ => exact (by decide : 0 < 512) | ⟨2, _⟩ => exact (by decide : 0 < 1024)) fun β => by
    have h0 : (β (0 : Fin 3)).val < 4 := (β (0 : Fin 3)).isLt
    have h1 : (β (1 : Fin 3)).val < 16 := Nat.lt_of_lt_of_eq (β (1 : Fin 3)).isLt (show (8192 + 512 - 1) / 512 = 16 from by norm_num)
    have h2 : (β (2 : Fin 3)).val < 1 := Nat.lt_of_lt_of_eq (β (2 : Fin 3)).isLt (show (1024 + 1024 - 1) / 1024 = 1 from by norm_num)
    have ht : (β (0 : Fin 3)).val * 16 + (β (1 : Fin 3)).val < cfg0.N := by show _ < 64; omega
    have e := idxOut12 ⟨_, ht⟩
    refine ⟨⟨_, ht⟩, fun a => ?_⟩
    match a with
    | ⟨0, _⟩ => exact e.1.trans (by show ((β (0 : Fin 3)).val * 16 + (β (1 : Fin 3)).val) / 16 = (β (0 : Fin 3)).val; omega)
    | ⟨1, _⟩ => exact e.2.1.trans (by show ((β (0 : Fin 3)).val * 16 + (β (1 : Fin 3)).val) % 16 = (β (1 : Fin 3)).val; omega)
    | ⟨2, _⟩ => exact e.2.2.trans (by omega : 0 = (β (2 : Fin 3)).val)

theorem emb12 (t : Fin cfg0.N) (r : Fin 512) (j : Fin 1024) : ((cfg0.win 12).blk t).view.emb (ix3 0 r j : S1x512x1024.Idx) = (ix3 (seqOf t) (rowOf t r) j : S4x8192x1024.Idx) := by
  have e := idxOut12 t
  refine funext fun a => Fin.ext ?_
  match a with
  | ⟨0, _⟩ => show win0_12.index t 0 * 1 + 1 * 0 = t.val / 16; omega
  | ⟨1, _⟩ => show win0_12.index t 1 * 512 + 1 * r.val = t.val % 16 * 512 + r.val; omega
  | ⟨2, _⟩ => show win0_12.index t 2 * 1024 + 1 * j.val = j.val; omega

attribute [local irreducible] out0_11 out0_12

theorem arr11 (c : Dev nD) : ((dats m 0 c).arrAt 11 cfg0.N : S4x8192x1024.Idx → EReal) = merged m c := by
  refine (dats m 0 c).arrAt_eq_of_covers 11 _ covers11 (fun t _ y => ?_) (Memref.isWhole_whole _)
  rw [after0_11]
  obtain ⟨z, r, j, rfl⟩ : ∃ (z : Fin 1) (r : Fin 512) (j : Fin 1024), y = (ix3 z r j : S1x512x1024.Idx) := ⟨_, _, _, eq_ix3 (n0 := 1) (n1 := 512) (n2 := 1024) y⟩
  obtain rfl := Subsingleton.elim z 0
  refine Eq.trans ?_ (congrArg (merged m c) (emb11 t r j).symm)
  exact (block11_at _ _ _ _ _ _ _ _ _ _ _ r j).trans (congrFun (mrow_iblk m c t r) j)

theorem arr12 (c : Dev nD) : ((dats m 0 c).arrAt 12 cfg0.N : S4x8192x1024.Idx → EReal) = expertIn m c := by
  refine (dats m 0 c).arrAt_eq_of_covers 12 _ covers12 (fun t _ y => ?_) (Memref.isWhole_whole _)
  rw [after0_12]
  obtain ⟨z, r, j, rfl⟩ : ∃ (z : Fin 1) (r : Fin 512) (j : Fin 1024), y = (ix3 z r j : S1x512x1024.Idx) := ⟨_, _, _, eq_ix3 (n0 := 1) (n1 := 512) (n2 := 1024) y⟩
  obtain rfl := Subsingleton.elim z 0
  refine Eq.trans ?_ (congrArg (expertIn m c) (emb12 t r j).symm)
  refine (block12_at _ _ _ _ _ _ _ _ _ _ _ r j).trans ?_
  exact congr (congr (congr (congr (congrArg hiddenRow (mrow_iblk m c t r)) (funext (iblk6_at m c t))) (funext (iblk7_at m c t))) (funext (iblk8_at m c t))) rfl

end Cert.MergeIdeal.Residual

namespace Cert.MergeRefIdeal.Residual

open Idealize.ShloMosaic Cert.MergeRefIdeal Cert.MergeRefIdeal.Gen Cert.Residual Cert.Inproj

/-- The convolution's rows and the attention's normed rows side by side. -/
def sides (a1 : FVec Ideal S4x8192x512 .bf16) (a2 : FVec Ideal S4x8192x512 .f32) (a6 : FVec Ideal S1x512 .f32) : FVec Ideal S4x8192x1024 .f32 :=
  concatenate S4x8192x1024 2 [⟨S4x8192x512, (extf .f32 a1 bitsLt_bf16_f32)⟩, ⟨S4x8192x512, (mulf (mulf a2 (broadcastInDim S4x8192x512 ![0, 1, 2] bcast_S4x8192x1_S4x8192x512_0_1_2
      (Host.rsqrt (addf (Host.divf (broadcastInDim S4x8192x1 ![0, 1] bcast_S4x8192_S4x8192x1_0_1 (Host.reduceAdd (mulf a2 a2) (constant S_ .f32 0x00000000#32) reducesTo_S4x8192x512_S4x8192_d2 h_S_))
        (broadcastInDim S4x8192x1 ![] bcast_S_S4x8192x1 (constant S_ .f32 0x44000000#32))) (broadcastInDim S4x8192x1 ![] bcast_S_S4x8192x1 (constant S_ .f32 0x358637BD#32))))))
      (broadcastInDim S4x8192x512 ![0, 1, 2] bcast_S1x1x512_S4x8192x512_0_1_2 (broadcastInDim S1x1x512 ![2] bcast_S512_S1x1x512_2 (shapeCast _ a6 shapeCasts_S1x512_S512))))⟩] concatenates_S4x8192x512_S4x8192x512_S4x8192x1024_d2

/-- The stream with the mixer's product. -/
def plus (a0 : FVec Ideal S4x8192x1024 .f32) (a3 : FVec Ideal S4x1x1024 .f32) (y : FVec Ideal S4x8192x1024 .f32) (a7 : FVec Ideal S1x1024x1024 .f32) : FVec Ideal S4x8192x1024 .f32 :=
  addf a0 (mulf (broadcastInDim S4x8192x1024 ![0, 1, 2] bcast_S4x1x1024_S4x8192x1024_0_1_2 a3)
    (Host.dotGeneral dot_S4x8192x1024_S1024x1024_S4x8192x1024_2_0_01_1_n_n none y (shapeCast _ a7 shapeCasts_S1x1024x1024_S1024x1024)))

/-- The experts' input. -/
def hid (x : FVec Ideal S4x8192x1024 .f32) (a4 a5 : FVec Ideal S4x1x1024 .f32) (a8 : FVec Ideal S1x1024 .f32) : FVec Ideal S4x8192x1024 .f32 :=
  addf (mulf (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1
      (Host.reduceAdd (mulf x x) (constant S_ .f32 0x00000000#32) reducesTo_S4x8192x1024_S4x8192_d2 h_S_)) (broadcastInDim S4x8192x1 ![] bcast_S_S4x8192x1 (constant S_ .f32 0x44800000#32)))
      (broadcastInDim S4x8192x1 ![] bcast_S_S4x8192x1 (constant S_ .f32 0x358637BD#32)))))) (broadcastInDim S4x8192x1024 ![0, 1, 2] bcast_S1x1x1024_S4x8192x1024_0_1_2
      (broadcastInDim S1x1x1024 ![2] bcast_S1024_S1x1x1024_2 (shapeCast _ a8 shapeCasts_S1x1024_S1024))))
      (broadcastInDim S4x8192x1024 ![0, 1, 2] bcast_S4x1x1024_S4x8192x1024_0_1_2 (addf (broadcastInDim S4x1x1024 ![] bcast_S_S4x1x1024 (constant S_ .f32 0x3F800000#32)) a5)))
    (broadcastInDim S4x8192x1024 ![0, 1, 2] bcast_S4x1x1024_S4x8192x1024_0_1_2 a4)

theorem sides_left (a1 : FVec Ideal S4x8192x512 .bf16) (a2 : FVec Ideal S4x8192x512 .f32) (a6 : FVec Ideal S1x512 .f32) (b : Fin 4) (p : Fin 8192) (k : Fin 1024) (h : k.val < 512) :
    sides a1 a2 a6 (ix3 b p k) = a1 (ix3 b p ⟨k.val, h⟩) := by
  pointwise [sides, dif_pos h]

theorem sides_right (a1 : FVec Ideal S4x8192x512 .bf16) (a2 : FVec Ideal S4x8192x512 .f32) (a6 : FVec Ideal S1x512 .f32) (b : Fin 4) (p : Fin 8192) (k : Fin 1024) (h : ¬ k.val < 512) :
    sides a1 a2 a6 (ix3 b p k) = normed 0x44000000#32 (fun k => a2 (ix3 b p k)) (fun k => a6 (ix2 0 k)) ⟨k.val - 512, by omega⟩ := by
  pointwise [sides, normed, dif_neg h]

theorem sides_at (a1 : FVec Ideal S4x8192x512 .bf16) (a2 : FVec Ideal S4x8192x512 .f32) (a6 : FVec Ideal S1x512 .f32) (b : Fin 4) (p : Fin 8192) (k : Fin 1024) :
    sides a1 a2 a6 (ix3 b p k) = mixed (fun k => a1 (ix3 b p k)) (normed 0x44000000#32 (fun k => a2 (ix3 b p k)) (fun k => a6 (ix2 0 k))) k := by
  unfold mixed
  by_cases h : k.val < 512
  · rw [dif_pos h]
    exact sides_left a1 a2 a6 b p k h
  · rw [dif_neg h]
    exact sides_right a1 a2 a6 b p k h

theorem plus_at (a0 : FVec Ideal S4x8192x1024 .f32) (a3 : FVec Ideal S4x1x1024 .f32) (y : FVec Ideal S4x8192x1024 .f32) (a7 : FVec Ideal S1x1024x1024 .f32) (b : Fin 4) (p : Fin 8192) (j : Fin 1024) :
    plus a0 a3 y a7 (ix3 b p j) = a0 (ix3 b p j) + a3 (ix3 b 0 j) * ∑ k : Fin 1024, y (ix3 b p k) * a7 (ix3 0 k j) := by
  pointwise [plus]

theorem hid_at (x : FVec Ideal S4x8192x1024 .f32) (a4 a5 : FVec Ideal S4x1x1024 .f32) (a8 : FVec Ideal S1x1024 .f32) (b : Fin 4) (p : Fin 8192) (k : Fin 1024) :
    hid x a4 a5 a8 (ix3 b p k) = hiddenRow (fun k => x (ix3 b p k)) (fun k => a4 (ix3 b 0 k)) (fun k => a5 (ix3 b 0 k)) (fun k => a8 (ix2 0 k)) k := by
  pointwise [hid, hiddenRow, normed]

theorem mixer_at (a0 : FVec Ideal S4x8192x1024 .f32) (a1 : FVec Ideal S4x8192x512 .bf16) (a2 : FVec Ideal S4x8192x512 .f32) (a3 : FVec Ideal S4x1x1024 .f32) (a6 : FVec Ideal S1x512 .f32) (a7 : FVec Ideal S1x1024x1024 .f32)
    (b : Fin 4) (p : Fin 8192) (j : Fin 1024) :
    plus a0 a3 (sides a1 a2 a6) a7 (ix3 b p j) = withMixer (fun k => a0 (ix3 b p k)) (fun k => a3 (ix3 b 0 k)) (fun k => a1 (ix3 b p k))
      (normed 0x44000000#32 (fun k => a2 (ix3 b p k)) (fun k => a6 (ix2 0 k))) (fun k j => a7 (ix3 0 k j)) j := by
  refine (plus_at _ _ _ _ b p j).trans ?_
  unfold withMixer
  exact congrArg (fun s => a0 (ix3 b p j) + a3 (ix3 b 0 j) * s) (Finset.sum_congr rfl fun k _ => congrArg (· * a7 (ix3 0 k j)) (sides_at a1 a2 a6 b p k))

variable (m : (ℓ : Loc nD τ sig) → Buf (Elt Ideal) ℓ) in
/-- The stream with the mixer's product, over the arguments. -/
def xOf (c : Dev nD) : FVec Ideal S4x8192x1024 .f32 :=
  plus (m ((c.tc : Thread nD τ).loc main_arg0)) (m ((c.tc : Thread nD τ).loc main_arg3)) (sides (m ((c.tc : Thread nD τ).loc main_arg1)) (m ((c.tc : Thread nD τ).loc main_arg2)) (m ((c.tc : Thread nD τ).loc main_arg6))) (m ((c.tc : Thread nD τ).loc main_arg7))

variable (m : (ℓ : Loc nD τ sig) → Buf (Elt Ideal) ℓ) in
/-- The run's results by stages. -/
theorem run_stages (ρ : Dev nD → PrngReg) :
    θ_run defs (onTc (τ := τ) (main (F := Ideal))) ⟨m, fun _ => 0, ρ⟩ fun r => ∀ c : Dev nD,
      r.2.mem ((c.tc : Thread nD τ).loc main_v20) = xOf m c
      ∧ r.2.mem ((c.tc : Thread nD τ).loc main_v40) = hid (xOf m c) (m ((c.tc : Thread nD τ).loc main_arg4)) (m ((c.tc : Thread nD τ).loc main_arg5)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run _ _ _).mono (fun _ h c => h c) (Value.run m ρ)

end Cert.MergeRefIdeal.Residual

namespace Cert.Residual

open Idealize.ShloMosaic Idealize.ShloMosaic.TcCoe
open Cert.MergeRefIdeal.Residual (sides plus hid mixer_at hid_at)
open Cert.MergeIdeal.Residual (merged expertIn mixArg arr11 arr12)

variable (m : (ℓ : Loc MergeIdeal.nD MergeIdeal.τ MergeIdeal.sig) → Buf (Elt Ideal) ℓ)

/-- The reference's stream at the kernel's arguments. -/
def stream (c : Dev MergeIdeal.nD) : FVec Ideal MergeRefIdeal.S4x8192x1024 .f32 :=
  plus (m (c.tc.loc MergeIdeal.main_arg0)) (m (c.tc.loc MergeIdeal.main_arg3)) (sides (m (c.tc.loc MergeIdeal.main_arg1)) (m (c.tc.loc MergeIdeal.main_arg2)) (m (c.tc.loc MergeIdeal.main_arg6))) (m (c.tc.loc MergeIdeal.main_arg7))

theorem stream_at (c : Dev MergeIdeal.nD) (b : Fin 4) (p : Fin 8192) (j : Fin 1024) : stream m c (ix3 b p j) = mixArg m c b p j := mixer_at _ _ _ _ _ _ b p j

theorem merged_eq (c : Dev MergeIdeal.nD) : merged m c = stream m c := by
  funext i
  obtain ⟨b, p, j, rfl⟩ : ∃ (b : Fin 4) (p : Fin 8192) (j : Fin 1024), i = (ix3 b p j : MergeIdeal.S4x8192x1024.Idx) := ⟨_, _, _, eq_ix3 (n0 := 4) (n1 := 8192) (n2 := 1024) i⟩
  exact (stream_at m c b p j).symm

theorem expertIn_eq (c : Dev MergeIdeal.nD) :
    expertIn m c = hid (stream m c) (m (c.tc.loc MergeIdeal.main_arg4)) (m (c.tc.loc MergeIdeal.main_arg5)) (m (c.tc.loc MergeIdeal.main_arg8)) := by
  funext i
  obtain ⟨b, p, j, rfl⟩ : ∃ (b : Fin 4) (p : Fin 8192) (j : Fin 1024), i = (ix3 b p j : MergeIdeal.S4x8192x1024.Idx) := ⟨_, _, _, eq_ix3 (n0 := 4) (n1 := 8192) (n2 := 1024) i⟩
  exact ((hid_at _ _ _ _ b p j).trans (congrArg (fun x => Inproj.hiddenRow x _ _ _ j) (funext (stream_at m c b p)))).symm

/-- The prompt's merge computes the reference's functions over the extended reals. -/
theorem value_merge : @Cert.algebraic_MergeIdeal_MergeRefIdeal Cert.MergeIdeal.Gen.facts Cert.MergeRefIdeal.Gen.facts := by
  intro m g m' g' _ hagree
  refine ⟨fun c => stream m c, fun c => hid (stream m c) (m (c.tc.loc MergeIdeal.main_arg4)) (m (c.tc.loc MergeIdeal.main_arg5)) (m (c.tc.loc MergeIdeal.main_arg8)), ?_, ?_⟩
  · refine (θ_run _ _ _).mono (fun r h c => ?_) (θ_run_and (MergeIdeal.Gen.frame m g) (MergeIdeal.Gen.run_main m g))
    exact ⟨((h.2 c).1 11).trans ((arr11 m c).trans (merged_eq m c)), ((h.2 c).1 12).trans ((arr12 m c).trans (expertIn_eq m c)), h.1.1 c⟩
  · refine (θ_run _ _ _).mono (fun r h c => ?_) (MergeRefIdeal.Residual.run_stages m' g')
    obtain ⟨e0, e1, e2, e3, e4, e5, e6, e7, e8, e9, e10⟩ := hagree c
    have hx : MergeRefIdeal.Residual.xOf m' c = stream m c := by unfold MergeRefIdeal.Residual.xOf stream; rw [e0, e1, e2, e3, e6, e7]
    have hc := h c
    rw [hx, e4, e5, e8] at hc
    rw [e4, e5, e8]
    exact hc

end Cert.Residual
-- ==== Proof.ResJoin.lean ====
/-
  The sample's merge: the mixer's product added to the residual stream, and the sum normed and modulated for the
  experts.
-/
module

public import proofs.«01_k».proof.Defs
public import proofs.«01_k».proof.Proof.Gen.JoinIdeal.Frame
public import proofs.«01_k».proof.Proof.Gen.JoinRefIdeal.Run
public import proofs.«01_k».proof.Proof.ResRow
public import Idealize.ShloMosaic.Lib.Pipeline.ValueKit
public import Idealize.ShloMosaic.Lib.Pipeline.Covers
public import Idealize.ShloMosaic.Lib.ValueIdxRank6
public import Idealize.ShloMosaic.Lib.Claim

@[expose] public section

set_option maxRecDepth 16384

noncomputable section

namespace Cert.JoinIdeal.Residual

open Idealize.ShloMosaic Idealize.ShloMosaic.TcCoe Cert.JoinIdeal Cert.JoinIdeal.Gen Cert.Residual Cert.Inproj

/-! ## The block: the whole batch -/

section block

variable (x0 : Vec Ideal S1x32x1024 .f32) (x1 : Vec Ideal S1x32x512 .bf16) (x2 : Vec Ideal S1x32x512 .f32) (x3 : Vec Ideal S1x512 .f32) (x4 : Vec Ideal S1024x1024 .bf16)
  (x5 x6 x7 : Vec Ideal S1x32x1024 .f32) (x8 : Vec Ideal S1x1024 .f32) (x9 : Vec Ideal S1024x128 .f32) (x10 : Vec Ideal S1x128 .f32)

/-- The stream's row `r` of the block with the mixer's product. -/
def mrow (r : Fin 32) : Fin 1024 → EReal :=
  withMixer (fun k => x0 (ix3 0 r k)) (fun k => x5 (ix3 0 r k)) (fun k => x1 (ix3 0 r k)) (normed 0x44000000#32 (fun k => x2 (ix3 0 r k)) (fun k => x3 (ix2 0 k))) (fun k j => x4 (ix2 k j))

theorem pay2_at (r : Fin 32) (j : Fin 1024) :
    k0_pay2 (F := Ideal) x2 x3 x1 (View.ld x4 r0_2) (View.ld x4 r0_3) x0 x5 (ix2 r j) = mrow x0 x1 x2 x3 x4 x5 r j := by
  unfold mrow withMixer
  rw [mixed_sum]
  pointwise [k0_pay2, normed]

theorem pay5_at (v : FVec Ideal S32x1024 .f32) (r : Fin 32) (j : Fin 1024) :
    k0_pay5 (F := Ideal) v x8 x7 x6 (ix3 0 r j) = hiddenRow (fun k => v (ix2 r k)) (fun k => x6 (ix3 0 r k)) (fun k => x7 (ix3 0 r k)) (fun k => x8 (ix2 0 k)) j := by
  pointwise [k0_pay5, k0_pay4, hiddenRow, normed]

theorem pay3_at (v : FVec Ideal S32x1024 .f32) (r : Fin 32) (j : Fin 1024) : k0_pay3 (F := Ideal) v (ix3 0 r j) = v (ix2 r j) := by
  pointwise [k0_pay3]

theorem block11_at (r : Fin 32) (j : Fin 1024) : out0_11 (F := Ideal) x0 x1 x2 x3 x4 x5 x6 x7 x8 x9 x10 (ix3 0 r j) = mrow x0 x1 x2 x3 x4 x5 r j := by
  unfold out0_11 k0_pay38
  frame_out
  exact (pay3_at _ r j).trans (pay2_at x0 x1 x2 x3 x4 x5 r j)

theorem block12_at (r : Fin 32) (j : Fin 1024) :
    out0_12 (F := Ideal) x0 x1 x2 x3 x4 x5 x6 x7 x8 x9 x10 (ix3 0 r j)
      = hiddenRow (mrow x0 x1 x2 x3 x4 x5 r) (fun k => x6 (ix3 0 r k)) (fun k => x7 (ix3 0 r k)) (fun k => x8 (ix2 0 k)) j := by
  unfold out0_12 k0_pay38
  frame_out
  refine (pay5_at x6 x7 x8 _ r j).trans ?_
  exact congrArg (fun v => hiddenRow v _ _ _ j) (funext fun k => pay2_at x0 x1 x2 x3 x4 x5 r k)

end block

variable (m : (ℓ : Loc nD τ sig) → Buf (Elt Ideal) ℓ)

/-! ## The operands: each read whole -/

theorem idxIn : ∀ t : Fin cfg0.N, (win0_0.index t 0 = 0 ∧ win0_0.index t 1 = 0 ∧ win0_0.index t 2 = 0)
    ∧ (win0_1.index t 0 = 0 ∧ win0_1.index t 1 = 0 ∧ win0_1.index t 2 = 0)
    ∧ (win0_2.index t 0 = 0 ∧ win0_2.index t 1 = 0 ∧ win0_2.index t 2 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0 ∧ win0_7.index t 2 = 0)
    ∧ (win0_11.index t 0 = 0 ∧ win0_11.index t 1 = 0 ∧ win0_11.index t 2 = 0)
    ∧ (win0_12.index t 0 = 0 ∧ win0_12.index t 1 = 0 ∧ win0_12.index t 2 = 0)
    ∧ (win0_3.index t 0 = 0 ∧ win0_3.index t 1 = 0) ∧ (win0_4.index t 0 = 0 ∧ win0_4.index t 1 = 0) ∧ (win0_8.index t 0 = 0 ∧ win0_8.index t 1 = 0) :=
  (by decide +kernel : ∀ t : Fin grid0.N, _)

/-- The arrays as the region finds them. -/
theorem entry (c : Dev nD) :
    (V m c main_v7 : S1x32x1024.Idx → EReal) = shapeCast S1x32x1024 (m ((c : Thread nD τ).loc main_arg0) : S32x1x1024.Idx → EReal) shapeCasts_S32x1x1024_S1x32x1024
    ∧ (V m c main_v10 : S1x512.Idx → EReal) = shapeCast S1x512 (shapeCast S512 (m ((c : Thread nD τ).loc main_arg6) : S1x512.Idx → EReal) shapeCasts_S1x512_S512) shapeCasts_S512_S1x512
    ∧ (V m c main_v1 : S1024x1024.Idx → EReal) = truncf (F := Ideal) (φ := .f32) .bf16 (shapeCast S1024x1024 (m ((c : Thread nD τ).loc main_arg7) : S1x1024x1024.Idx → EReal) shapeCasts_S1x1024x1024_S1024x1024) bitsLt_bf16_f32
    ∧ (V m c main_v11 : S1x1024.Idx → EReal) = shapeCast S1x1024 (shapeCast S1024 (m ((c : Thread nD τ).loc main_arg8) : S1x1024.Idx → EReal) shapeCasts_S1x1024_S1024) shapeCasts_S1024_S1x1024 := by
  refine ⟨?_, ?_, ?_, ?_⟩ <;>
  · show StableHlo.after (List.flatten [hostOps0, hostOps0_1, hostOps0_2, hostOps0_3, hostOps0_4]) (fun b => m (c, b)) _ = _
    simp only [hostOps0, hostOps0_1, hostOps0_2, hostOps0_3, hostOps0_4, List.flatten_cons, List.flatten_nil, List.append_nil, List.cons_append, List.nil_append]
    after_results
    try rfl

theorem move6 (a : S1x512.Idx → EReal) (k : Fin 512) : shapeCast S1x512 (shapeCast S512 a shapeCasts_S1x512_S512) shapeCasts_S512_S1x512 (ix2 0 k) = a (ix2 0 k) := by pointwise

theorem move7 (a : S1x1024x1024.Idx → EReal) (k j : Fin 1024) :
    truncf (F := Ideal) (φ := .f32) .bf16 (shapeCast S1024x1024 a shapeCasts_S1x1024x1024_S1024x1024) bitsLt_bf16_f32 (ix2 k j) = a (ix3 0 k j) := by pointwise

theorem move8 (a : S1x1024.Idx → EReal) (k : Fin 1024) : shapeCast S1x1024 (shapeCast S1024 a shapeCasts_S1x1024_S1024) shapeCasts_S1024_S1x1024 (ix2 0 k) = a (ix2 0 k) := by pointwise

theorem move0 (a : S32x1x1024.Idx → EReal) (r : Fin 32) (k : Fin 1024) : shapeCast S1x32x1024 a shapeCasts_S32x1x1024_S1x32x1024 (ix3 0 r k) = a (ix3 r 0 k) := by pointwise

theorem iblk0_at (c : Dev nD) (t : Fin cfg0.N) (r : Fin 32) (k : Fin 1024) : (iblk m c 0 t : S1x32x1024.Idx → EReal) (ix3 0 r k) = (m ((c : Thread nD τ).loc main_arg0) : S32x1x1024.Idx → EReal) (ix3 r 0 k) := by
  refine Eq.trans (b := (V m c main_v7 : S1x32x1024.Idx → EReal) (ix3 0 r k)) (by blk_ext [iblk, idxIn t]) ?_
  exact (congrFun (entry m c).1 _).trans (move0 _ r k)

theorem iblk1_at (c : Dev nD) (t : Fin cfg0.N) (r : Fin 32) (k : Fin 512) : (iblk m c 1 t : S1x32x512.Idx → EReal) (ix3 0 r k) = (m ((c : Thread nD τ).loc main_arg1) : S1x32x512.Idx → EReal) (ix3 0 r k) := by
  refine Eq.trans (b := (V m c main_arg1 : S1x32x512.Idx → EReal) (ix3 0 r k)) (by blk_ext [iblk, idxIn t]) (by rw [V_main_arg1])

theorem iblk2_at (c : Dev nD) (t : Fin cfg0.N) (r : Fin 32) (k : Fin 512) : (iblk m c 2 t : S1x32x512.Idx → EReal) (ix3 0 r k) = (m ((c : Thread nD τ).loc main_arg2) : S1x32x512.Idx → EReal) (ix3 0 r k) := by
  refine Eq.trans (b := (V m c main_arg2 : S1x32x512.Idx → EReal) (ix3 0 r k)) (by blk_ext [iblk, idxIn t]) (by rw [V_main_arg2])

theorem iblk5_at (c : Dev nD) (t : Fin cfg0.N) (r : Fin 32) (k : Fin 1024) : (iblk m c 5 t : S1x32x1024.Idx → EReal) (ix3 0 r k) = (m ((c : Thread nD τ).loc main_arg3) : S1x32x1024.Idx → EReal) (ix3 0 r k) := by
  refine Eq.trans (b := (V m c main_arg3 : S1x32x1024.Idx → EReal) (ix3 0 r k)) (by blk_ext [iblk, idxIn t]) (by rw [V_main_arg3])

theorem iblk6_at (c : Dev nD) (t : Fin cfg0.N) (r : Fin 32) (k : Fin 1024) : (iblk m c 6 t : S1x32x1024.Idx → EReal) (ix3 0 r k) = (m ((c : Thread nD τ).loc main_arg4) : S1x32x1024.Idx → EReal) (ix3 0 r k) := by
  refine Eq.trans (b := (V m c main_arg4 : S1x32x1024.Idx → EReal) (ix3 0 r k)) (by blk_ext [iblk, idxIn t]) (by rw [V_main_arg4])

theorem iblk7_at (c : Dev nD) (t : Fin cfg0.N) (r : Fin 32) (k : Fin 1024) : (iblk m c 7 t : S1x32x1024.Idx → EReal) (ix3 0 r k) = (m ((c : Thread nD τ).loc main_arg5) : S1x32x1024.Idx → EReal) (ix3 0 r k) := by
  refine Eq.trans (b := (V m c main_arg5 : S1x32x1024.Idx → EReal) (ix3 0 r k)) (by blk_ext [iblk, idxIn t]) (by rw [V_main_arg5])

theorem iblk3_at (c : Dev nD) (t : Fin cfg0.N) (k : Fin 512) : (iblk m c 3 t : S1x512.Idx → EReal) (ix2 0 k) = (m ((c : Thread nD τ).loc main_arg6) : S1x512.Idx → EReal) (ix2 0 k) := by
  refine Eq.trans (b := (V m c main_v10 : S1x512.Idx → EReal) (ix2 0 k)) (by blk_ext [iblk, idxIn t]) ?_
  exact (congrFun (entry m c).2.1 _).trans (move6 _ k)

theorem iblk4_at (c : Dev nD) (t : Fin cfg0.N) (k j : Fin 1024) : (iblk m c 4 t : S1024x1024.Idx → EReal) (ix2 k j) = (m ((c : Thread nD τ).loc main_arg7) : S1x1024x1024.Idx → EReal) (ix3 0 k j) := by
  refine Eq.trans (b := (V m c main_v1 : S1024x1024.Idx → EReal) (ix2 k j)) (by blk_ext [iblk, idxIn t]) ?_
  exact (congrFun (entry m c).2.2.1 _).trans (move7 _ k j)

theorem iblk8_at (c : Dev nD) (t : Fin cfg0.N) (k : Fin 1024) : (iblk m c 8 t : S1x1024.Idx → EReal) (ix2 0 k) = (m ((c : Thread nD τ).loc main_arg8) : S1x1024.Idx → EReal) (ix2 0 k) := by
  refine Eq.trans (b := (V m c main_v11 : S1x1024.Idx → EReal) (ix2 0 k)) (by blk_ext [iblk, idxIn t]) ?_
  exact (congrFun (entry m c).2.2.2 _).trans (move8 _ k)

/-! ## The result arrays -/

/-- The stream's row `r` with the mixer's product, over the arguments. -/
def mixArg (c : Dev nD) (r : Fin 32) : Fin 1024 → EReal :=
  withMixer (fun k => (m ((c : Thread nD τ).loc main_arg0) : S32x1x1024.Idx → EReal) (ix3 r 0 k)) (fun k => (m ((c : Thread nD τ).loc main_arg3) : S1x32x1024.Idx → EReal) (ix3 0 r k)) (fun k => (m ((c : Thread nD τ).loc main_arg1) : S1x32x512.Idx → EReal) (ix3 0 r k))
    (normed 0x44000000#32 (fun k => (m ((c : Thread nD τ).loc main_arg2) : S1x32x512.Idx → EReal) (ix3 0 r k)) (fun k => (m ((c : Thread nD τ).loc main_arg6) : S1x512.Idx → EReal) (ix2 0 k))) (fun k j => (m ((c : Thread nD τ).loc main_arg7) : S1x1024x1024.Idx → EReal) (ix3 0 k j))

theorem mrow_iblk (c : Dev nD) (t : Fin cfg0.N) (r : Fin 32) :
    mrow (iblk m c 0 t) (iblk m c 1 t) (iblk m c 2 t) (iblk m c 3 t) (iblk m c 4 t) (iblk m c 5 t) r = mixArg m c r := by
  unfold mrow mixArg
  exact congr (congr (congr (congr (congrArg withMixer (funext (iblk0_at m c t r))) (funext (iblk5_at m c t r))) (funext (iblk1_at m c t r)))
    (congr (congrArg (normed 0x44000000#32) (funext (iblk2_at m c t r))) (funext (iblk3_at m c t)))) (funext fun k => funext (iblk4_at m c t k))

/-- The stream with the mixer's product. -/
def merged (c : Dev nD) : S1x32x1024.Idx → EReal := fun i => mixArg m c (i 1) (i 2)

/-- The experts' input. -/
def expertIn (c : Dev nD) : S1x32x1024.Idx → EReal := fun i =>
  hiddenRow (mixArg m c (i 1)) (fun k => (m ((c : Thread nD τ).loc main_arg4) : S1x32x1024.Idx → EReal) (ix3 0 (i 1) k)) (fun k => (m ((c : Thread nD τ).loc main_arg5) : S1x32x1024.Idx → EReal) (ix3 0 (i 1) k)) (fun k => (m ((c : Thread nD τ).loc main_arg8) : S1x1024.Idx → EReal) (ix2 0 k)) (i 2)

attribute [local irreducible] out0_11 out0_12

theorem arr11 (c : Dev nD) : ((dats m 0 c).arrAt 11 cfg0.N : S1x32x1024.Idx → EReal) = merged m c := by
  funext i
  obtain ⟨z, r, j, rfl⟩ : ∃ (z : Fin 1) (r : Fin 32) (j : Fin 1024), i = (ix3 z r j : S1x32x1024.Idx) := ⟨_, _, _, eq_ix3 (n0 := 1) (n1 := 32) (n2 := 1024) i⟩
  obtain rfl := Subsingleton.elim z 0
  refine Eq.trans (b := out0_11 (F := Ideal) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (ix3 0 r j)) (congrFun ((dats m 0 c).arrAt_eq_of_after_last 11 t0_0 (by decide +kernel) _ fun y => ?_) _) ?_
  · blk_simp
    rw [after0_11]
    blk_ext [idxIn t0_0]
  exact (block11_at (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) r j).trans (congrFun (mrow_iblk m c t0_0 r) j)

theorem arr12 (c : Dev nD) : ((dats m 0 c).arrAt 12 cfg0.N : S1x32x1024.Idx → EReal) = expertIn m c := by
  funext i
  obtain ⟨z, r, j, rfl⟩ : ∃ (z : Fin 1) (r : Fin 32) (j : Fin 1024), i = (ix3 z r j : S1x32x1024.Idx) := ⟨_, _, _, eq_ix3 (n0 := 1) (n1 := 32) (n2 := 1024) i⟩
  obtain rfl := Subsingleton.elim z 0
  refine Eq.trans (b := out0_12 (F := Ideal) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (ix3 0 r j)) (congrFun ((dats m 0 c).arrAt_eq_of_after_last 12 t0_0 (by decide +kernel) _ fun y => ?_) _) ?_
  · blk_simp
    rw [after0_12]
    blk_ext [idxIn t0_0]
  refine (block12_at (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) r j).trans ?_
  exact congr (congr (congr (congr (congrArg hiddenRow (mrow_iblk m c t0_0 r)) (funext (iblk6_at m c t0_0 r))) (funext (iblk7_at m c t0_0 r))) (funext (iblk8_at m c t0_0))) rfl

end Cert.JoinIdeal.Residual

namespace Cert.JoinRefIdeal.Residual

open Idealize.ShloMosaic Cert.JoinRefIdeal Cert.JoinRefIdeal.Gen Cert.Residual Cert.Inproj

/-- The convolution's rows and the attention's normed rows side by side. -/
def sides (a1 : FVec Ideal S1x32x512 .bf16) (a2 : FVec Ideal S1x32x512 .f32) (a6 : FVec Ideal S1x512 .f32) : FVec Ideal S1x32x1024 .f32 :=
  concatenate S1x32x1024 2 [⟨S1x32x512, (extf .f32 a1 bitsLt_bf16_f32)⟩, ⟨S1x32x512, (mulf (mulf a2 (broadcastInDim S1x32x512 ![0, 1, 2] bcast_S1x32x1_S1x32x512_0_1_2
      (Host.rsqrt (addf (Host.divf (broadcastInDim S1x32x1 ![0, 1] bcast_S1x32_S1x32x1_0_1 (Host.reduceAdd (mulf a2 a2) (constant S_ .f32 0x00000000#32) reducesTo_S1x32x512_S1x32_d2 h_S_))
        (broadcastInDim S1x32x1 ![] bcast_S_S1x32x1 (constant S_ .f32 0x44000000#32))) (broadcastInDim S1x32x1 ![] bcast_S_S1x32x1 (constant S_ .f32 0x358637BD#32))))))
      (broadcastInDim S1x32x512 ![0, 1, 2] bcast_S1x1x512_S1x32x512_0_1_2 (broadcastInDim S1x1x512 ![2] bcast_S512_S1x1x512_2 (shapeCast _ a6 shapeCasts_S1x512_S512))))⟩] concatenates_S1x32x512_S1x32x512_S1x32x1024_d2

/-- The stream with the mixer's product. -/
def plus (a0 : FVec Ideal S32x1x1024 .f32) (a3 : FVec Ideal S1x32x1024 .f32) (y : FVec Ideal S1x32x1024 .f32) (a7 : FVec Ideal S1x1024x1024 .f32) : FVec Ideal S1x32x1024 .f32 :=
  addf (shapeCast _ a0 shapeCasts_S32x1x1024_S1x32x1024) (mulf a3
    (Host.dotGeneral dot_S1x32x1024_S1024x1024_S1x32x1024_2_0_01_1_n_n none y (shapeCast _ a7 shapeCasts_S1x1024x1024_S1024x1024)))

/-- The experts' input. -/
def hid (x : FVec Ideal S1x32x1024 .f32) (a4 a5 : FVec Ideal S1x32x1024 .f32) (a8 : FVec Ideal S1x1024 .f32) : FVec Ideal S1x32x1024 .f32 :=
  addf (mulf (mulf (mulf x (broadcastInDim S1x32x1024 ![0, 1, 2] bcast_S1x32x1_S1x32x1024_0_1_2 (Host.rsqrt (addf (Host.divf (broadcastInDim S1x32x1 ![0, 1] bcast_S1x32_S1x32x1_0_1
      (Host.reduceAdd (mulf x x) (constant S_ .f32 0x00000000#32) reducesTo_S1x32x1024_S1x32_d2 h_S_)) (broadcastInDim S1x32x1 ![] bcast_S_S1x32x1 (constant S_ .f32 0x44800000#32)))
      (broadcastInDim S1x32x1 ![] bcast_S_S1x32x1 (constant S_ .f32 0x358637BD#32)))))) (broadcastInDim S1x32x1024 ![0, 1, 2] bcast_S1x1x1024_S1x32x1024_0_1_2
      (broadcastInDim S1x1x1024 ![2] bcast_S1024_S1x1x1024_2 (shapeCast _ a8 shapeCasts_S1x1024_S1024))))
      (addf (broadcastInDim S1x32x1024 ![] bcast_S_S1x32x1024 (constant S_ .f32 0x3F800000#32)) a5))
    a4

theorem sides_left (a1 : FVec Ideal S1x32x512 .bf16) (a2 : FVec Ideal S1x32x512 .f32) (a6 : FVec Ideal S1x512 .f32) (p : Fin 32) (k : Fin 1024) (h : k.val < 512) :
    sides a1 a2 a6 (ix3 0 p k) = a1 (ix3 0 p ⟨k.val, h⟩) := by
  pointwise [sides, dif_pos h]

theorem sides_right (a1 : FVec Ideal S1x32x512 .bf16) (a2 : FVec Ideal S1x32x512 .f32) (a6 : FVec Ideal S1x512 .f32) (p : Fin 32) (k : Fin 1024) (h : ¬ k.val < 512) :
    sides a1 a2 a6 (ix3 0 p k) = normed 0x44000000#32 (fun k => a2 (ix3 0 p k)) (fun k => a6 (ix2 0 k)) ⟨k.val - 512, by omega⟩ := by
  pointwise [sides, normed, dif_neg h]

theorem sides_at (a1 : FVec Ideal S1x32x512 .bf16) (a2 : FVec Ideal S1x32x512 .f32) (a6 : FVec Ideal S1x512 .f32) (p : Fin 32) (k : Fin 1024) :
    sides a1 a2 a6 (ix3 0 p k) = mixed (fun k => a1 (ix3 0 p k)) (normed 0x44000000#32 (fun k => a2 (ix3 0 p k)) (fun k => a6 (ix2 0 k))) k := by
  unfold mixed
  by_cases h : k.val < 512
  · rw [dif_pos h]
    exact sides_left a1 a2 a6 p k h
  · rw [dif_neg h]
    exact sides_right a1 a2 a6 p k h

theorem plus_at (a0 : FVec Ideal S32x1x1024 .f32) (a3 : FVec Ideal S1x32x1024 .f32) (y : FVec Ideal S1x32x1024 .f32) (a7 : FVec Ideal S1x1024x1024 .f32) (p : Fin 32) (j : Fin 1024) :
    plus a0 a3 y a7 (ix3 0 p j) = a0 (ix3 p 0 j) + a3 (ix3 0 p j) * ∑ k : Fin 1024, y (ix3 0 p k) * a7 (ix3 0 k j) := by
  pointwise [plus]

theorem hid_at (x : FVec Ideal S1x32x1024 .f32) (a4 a5 : FVec Ideal S1x32x1024 .f32) (a8 : FVec Ideal S1x1024 .f32) (p : Fin 32) (k : Fin 1024) :
    hid x a4 a5 a8 (ix3 0 p k) = hiddenRow (fun k => x (ix3 0 p k)) (fun k => a4 (ix3 0 p k)) (fun k => a5 (ix3 0 p k)) (fun k => a8 (ix2 0 k)) k := by
  pointwise [hid, hiddenRow, normed]

theorem mixer_at (a0 : FVec Ideal S32x1x1024 .f32) (a1 : FVec Ideal S1x32x512 .bf16) (a2 : FVec Ideal S1x32x512 .f32) (a3 : FVec Ideal S1x32x1024 .f32) (a6 : FVec Ideal S1x512 .f32) (a7 : FVec Ideal S1x1024x1024 .f32)
    (p : Fin 32) (j : Fin 1024) :
    plus a0 a3 (sides a1 a2 a6) a7 (ix3 0 p j) = withMixer (fun k => a0 (ix3 p 0 k)) (fun k => a3 (ix3 0 p k)) (fun k => a1 (ix3 0 p k))
      (normed 0x44000000#32 (fun k => a2 (ix3 0 p k)) (fun k => a6 (ix2 0 k))) (fun k j => a7 (ix3 0 k j)) j := by
  refine (plus_at _ _ _ _ p j).trans ?_
  unfold withMixer
  exact congrArg (fun s => a0 (ix3 p 0 j) + a3 (ix3 0 p j) * s) (Finset.sum_congr rfl fun k _ => congrArg (· * a7 (ix3 0 k j)) (sides_at a1 a2 a6 p k))

variable (m : (ℓ : Loc nD τ sig) → Buf (Elt Ideal) ℓ) in
/-- The stream with the mixer's product, over the arguments. -/
def xOf (c : Dev nD) : FVec Ideal S1x32x1024 .f32 :=
  plus (m ((c.tc : Thread nD τ).loc main_arg0)) (m ((c.tc : Thread nD τ).loc main_arg3)) (sides (m ((c.tc : Thread nD τ).loc main_arg1)) (m ((c.tc : Thread nD τ).loc main_arg2)) (m ((c.tc : Thread nD τ).loc main_arg6))) (m ((c.tc : Thread nD τ).loc main_arg7))

variable (m : (ℓ : Loc nD τ sig) → Buf (Elt Ideal) ℓ) in
/-- The run's results by stages. -/
theorem run_stages (ρ : Dev nD → PrngReg) :
    θ_run defs (onTc (τ := τ) (main (F := Ideal))) ⟨m, fun _ => 0, ρ⟩ fun r => ∀ c : Dev nD,
      r.2.mem ((c.tc : Thread nD τ).loc main_v20) = xOf m c
      ∧ r.2.mem ((c.tc : Thread nD τ).loc main_v38) = hid (xOf m c) (m ((c.tc : Thread nD τ).loc main_arg4)) (m ((c.tc : Thread nD τ).loc main_arg5)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run _ _ _).mono (fun _ h c => h c) (Value.run m ρ)

end Cert.JoinRefIdeal.Residual

namespace Cert.Residual

open Idealize.ShloMosaic Idealize.ShloMosaic.TcCoe
open Cert.JoinRefIdeal.Residual (sides plus hid mixer_at hid_at)
open Cert.JoinIdeal.Residual (merged expertIn mixArg arr11 arr12)

variable (m : (ℓ : Loc JoinIdeal.nD JoinIdeal.τ JoinIdeal.sig) → Buf (Elt Ideal) ℓ)

/-- The reference's stream at the kernel's arguments. -/
def rowsStream (c : Dev JoinIdeal.nD) : FVec Ideal JoinRefIdeal.S1x32x1024 .f32 :=
  plus (m (c.tc.loc JoinIdeal.main_arg0)) (m (c.tc.loc JoinIdeal.main_arg3)) (sides (m (c.tc.loc JoinIdeal.main_arg1)) (m (c.tc.loc JoinIdeal.main_arg2)) (m (c.tc.loc JoinIdeal.main_arg6))) (m (c.tc.loc JoinIdeal.main_arg7))

theorem rowsStream_at (c : Dev JoinIdeal.nD) (p : Fin 32) (j : Fin 1024) : rowsStream m c (ix3 0 p j) = mixArg m c p j := mixer_at _ _ _ _ _ _ p j

theorem rowsMerged_eq (c : Dev JoinIdeal.nD) : merged m c = rowsStream m c := by
  funext i
  obtain ⟨z, p, j, rfl⟩ : ∃ (z : Fin 1) (p : Fin 32) (j : Fin 1024), i = (ix3 z p j : JoinIdeal.S1x32x1024.Idx) := ⟨_, _, _, eq_ix3 (n0 := 1) (n1 := 32) (n2 := 1024) i⟩
  obtain rfl := Subsingleton.elim z 0
  exact (rowsStream_at m c p j).symm

theorem rowsIn_eq (c : Dev JoinIdeal.nD) :
    expertIn m c = hid (rowsStream m c) (m (c.tc.loc JoinIdeal.main_arg4)) (m (c.tc.loc JoinIdeal.main_arg5)) (m (c.tc.loc JoinIdeal.main_arg8)) := by
  funext i
  obtain ⟨z, p, j, rfl⟩ : ∃ (z : Fin 1) (p : Fin 32) (j : Fin 1024), i = (ix3 z p j : JoinIdeal.S1x32x1024.Idx) := ⟨_, _, _, eq_ix3 (n0 := 1) (n1 := 32) (n2 := 1024) i⟩
  obtain rfl := Subsingleton.elim z 0
  exact ((hid_at _ _ _ _ p j).trans (congrArg (fun x => Inproj.hiddenRow x _ _ _ j) (funext (rowsStream_at m c p)))).symm

/-- The sample's merge computes the reference's functions over the extended reals. -/
theorem value_join : @Cert.algebraic_JoinIdeal_JoinRefIdeal Cert.JoinIdeal.Gen.facts Cert.JoinRefIdeal.Gen.facts := by
  intro m g m' g' _ hagree
  refine ⟨fun c => rowsStream m c, fun c => hid (rowsStream m c) (m (c.tc.loc JoinIdeal.main_arg4)) (m (c.tc.loc JoinIdeal.main_arg5)) (m (c.tc.loc JoinIdeal.main_arg8)), ?_, ?_⟩
  · refine (θ_run _ _ _).mono (fun r h c => ?_) (θ_run_and (JoinIdeal.Gen.frame m g) (JoinIdeal.Gen.run_main m g))
    exact ⟨((h.2 c).1 11).trans ((arr11 m c).trans (rowsMerged_eq m c)), ((h.2 c).1 12).trans ((arr12 m c).trans (rowsIn_eq m c)), h.1.1 c⟩
  · refine (θ_run _ _ _).mono (fun r h c => ?_) (JoinRefIdeal.Residual.run_stages m' g')
    obtain ⟨e0, e1, e2, e3, e4, e5, e6, e7, e8, e9, e10⟩ := hagree c
    have hx : JoinRefIdeal.Residual.xOf m' c = rowsStream m c := by unfold JoinRefIdeal.Residual.xOf rowsStream; rw [e0, e1, e2, e3, e6, e7]
    have hc := h c
    rw [hx, e4, e5, e8] at hc
    rw [e4, e5, e8]
    exact hc

end Cert.Residual
-- ==== Proof.ResFinal.lean ====
/-
  The prompt's last step: the experts' rows added to the residual stream, and the sum normed.
-/
module

public import proofs.«01_k».proof.Defs
public import proofs.«01_k».proof.Proof.Gen.FinalIdeal.Frame
public import proofs.«01_k».proof.Proof.Gen.FinalRefIdeal.Run
public import proofs.«01_k».proof.Proof.ResRow
public import Idealize.ShloMosaic.Lib.Pipeline.ValueKit
public import Idealize.ShloMosaic.Lib.Pipeline.Covers
public import Idealize.ShloMosaic.Lib.ValueIdxRank6
public import Idealize.ShloMosaic.Lib.Claim

@[expose] public section

set_option maxRecDepth 16384

noncomputable section

namespace Cert.FinalIdeal.Residual

open Idealize.ShloMosaic Idealize.ShloMosaic.TcCoe Cert.FinalIdeal Cert.FinalIdeal.Gen Cert.Residual Cert.Inproj

/-! ## A block -/

section block

variable (x0 : Vec Ideal S1x512x1024 .f32) (x1 : Vec Ideal S1x4x512x1024 .f32) (x2 : Vec Ideal S1x512x128 .f32) (x3 : Vec Ideal S1x1x1024 .f32) (x4 : Vec Ideal S1x1024 .f32)

/-- The sum before the norm. -/
theorem sum_at (r : Fin 512) (k : Fin 1024) :
    k0_pay2 (F := Ideal) x2 (View.ld x1 r0_1) (View.ld x1 r0_2) (View.ld x1 r0_3) (View.ld x1 r0_4) x0 x3 (ix2 r k)
      = withExperts (fun k => x0 (ix3 0 r k)) (fun k => x3 (ix3 0 0 k)) (fun e k => x1 (ix4 0 e r k)) (fun e => x2 (ix3 0 r ⟨e.val, by omega⟩)) k := by
  unfold withExperts
  rw [Fin.sum_univ_four, mul_comm (x1 (ix4 0 0 r k)), mul_comm (x1 (ix4 0 1 r k)), mul_comm (x1 (ix4 0 2 r k)), mul_comm (x1 (ix4 0 3 r k))]
  pointwise [k0_pay2]

theorem pay1_at (v : FVec Ideal S512x1024 .f32) (r : Fin 512) (j : Fin 1024) :
    k0_pay1 (F := Ideal) v x4 (ix3 0 r j) = normed 0x44800000#32 (fun k => v (ix2 r k)) (fun k => x4 (ix2 0 k)) j := by
  pointwise [k0_pay1, normed]

theorem block_at (r : Fin 512) (j : Fin 1024) :
    out0_5 (F := Ideal) x0 x1 x2 x3 x4 (ix3 0 r j)
      = finalRow (fun k => x0 (ix3 0 r k)) (fun k => x3 (ix3 0 0 k)) (fun e k => x1 (ix4 0 e r k)) (fun e => x2 (ix3 0 r ⟨e.val, by omega⟩)) (fun k => x4 (ix2 0 k)) j := by
  unfold out0_5 finalRow
  frame_out
  refine (pay1_at _ _ r j).trans ?_
  exact congr (congr (congrArg (normed 0x44800000#32) (funext fun k => sum_at x0 x1 x2 x3 r k)) (funext fun k => by pointwise)) rfl

end block

variable (m : (ℓ : Loc nD τ sig) → Buf (Elt Ideal) ℓ)

/-! ## The points: sixteen blocks of rows to a sequence -/

/-- A point's sequence. -/
def seqOf (t : Fin cfg0.N) : Fin 4 := ⟨t.val / 16, by have h : t.val < 64 := t.isLt; omega⟩

/-- Row `r` of a point's block, in the sequence. -/
def rowOf (t : Fin cfg0.N) (r : Fin 512) : Fin 8192 := ⟨t.val % 16 * 512 + r.val, by omega⟩

theorem idxRow : ∀ t : Fin cfg0.N, (win0_0.index t 0 = t.val / 16 ∧ win0_0.index t 1 = t.val % 16 ∧ win0_0.index t 2 = 0)
    ∧ (win0_1.index t 0 = t.val / 16 ∧ win0_1.index t 1 = 0 ∧ win0_1.index t 2 = t.val % 16 ∧ win0_1.index t 3 = 0)
    ∧ (win0_2.index t 0 = t.val / 16 ∧ win0_2.index t 1 = t.val % 16 ∧ win0_2.index t 2 = 0)
    ∧ (win0_3.index t 0 = t.val / 16 ∧ win0_3.index t 1 = 0 ∧ win0_3.index t 2 = 0)
    ∧ (win0_5.index t 0 = t.val / 16 ∧ win0_5.index t 1 = t.val % 16 ∧ win0_5.index t 2 = 0) :=
  (by decide +kernel : ∀ t : Fin grid0.N, _)

theorem idxAll : ∀ t : Fin cfg0.N, win0_4.index t 0 = 0 ∧ win0_4.index t 1 = 0 :=
  (by decide +kernel : ∀ t : Fin grid0.N, _)

theorem entry (c : Dev nD) : (V m c main_v0 : S1x1024.Idx → EReal) = shapeCast S1x1024 (m ((c : Thread nD τ).loc main_arg4) : S1024.Idx → EReal) shapeCasts_S1024_S1x1024 := by
  show StableHlo.after hostOps0 (fun b => m (c, b)) _ = _
  simp only [hostOps0]
  after_results
  try rfl

theorem moved (a : S1024.Idx → EReal) (k : Fin 1024) : shapeCast S1x1024 a shapeCasts_S1024_S1x1024 (ix2 0 k) = a (ix1 k) := by pointwise

theorem iblk0_at (c : Dev nD) (t : Fin cfg0.N) (r : Fin 512) (k : Fin 1024) :
    (iblk m c 0 t : S1x512x1024.Idx → EReal) (ix3 0 r k) = (m ((c : Thread nD τ).loc main_arg0) : S4x8192x1024.Idx → EReal) (ix3 (seqOf t) (rowOf t r) k) := by
  refine Eq.trans (b := (V m c main_arg0 : S4x8192x1024.Idx → EReal) (ix3 (seqOf t) (rowOf t r) k)) ?_ (by rw [V_main_arg0])
  refine congrArg (V m c main_arg0 : S4x8192x1024.Idx → EReal) (funext fun a => Fin.ext ?_)
  have e := (idxRow t).1
  match a with
  | ⟨0, _⟩ => show win0_0.index t 0 * 1 + 1 * 0 = t.val / 16; omega
  | ⟨1, _⟩ => show win0_0.index t 1 * 512 + 1 * r.val = t.val % 16 * 512 + r.val; omega
  | ⟨2, _⟩ => show win0_0.index t 2 * 1024 + 1 * k.val = k.val; omega

theorem iblk1_at (c : Dev nD) (t : Fin cfg0.N) (e : Fin 4) (r : Fin 512) (k : Fin 1024) :
    (iblk m c 1 t : S1x4x512x1024.Idx → EReal) (ix4 0 e r k) = (m ((c : Thread nD τ).loc main_arg1) : S4x4x8192x1024.Idx → EReal) (ix4 (seqOf t) e (rowOf t r) k) := by
  refine Eq.trans (b := (V m c main_arg1 : S4x4x8192x1024.Idx → EReal) (ix4 (seqOf t) e (rowOf t r) k)) ?_ (by rw [V_main_arg1])
  refine congrArg (V m c main_arg1 : S4x4x8192x1024.Idx → EReal) (funext fun a => Fin.ext ?_)
  have h := (idxRow t).2.1
  match a with
  | ⟨0, _⟩ => show win0_1.index t 0 * 1 + 1 * 0 = t.val / 16; omega
  | ⟨1, _⟩ => show win0_1.index t 1 * 4 + 1 * e.val = e.val; omega
  | ⟨2, _⟩ => show win0_1.index t 2 * 512 + 1 * r.val = t.val % 16 * 512 + r.val; omega
  | ⟨3, _⟩ => show win0_1.index t 3 * 1024 + 1 * k.val = k.val; omega

theorem iblk2_at (c : Dev nD) (t : Fin cfg0.N) (r : Fin 512) (k : Fin 128) :
    (iblk m c 2 t : S1x512x128.Idx → EReal) (ix3 0 r k) = (m ((c : Thread nD τ).loc main_arg2) : S4x8192x128.Idx → EReal) (ix3 (seqOf t) (rowOf t r) k) := by
  refine Eq.trans (b := (V m c main_arg2 : S4x8192x128.Idx → EReal) (ix3 (seqOf t) (rowOf t r) k)) ?_ (by rw [V_main_arg2])
  refine congrArg (V m c main_arg2 : S4x8192x128.Idx → EReal) (funext fun a => Fin.ext ?_)
  have e := (idxRow t).2.2.1
  match a with
  | ⟨0, _⟩ => show win0_2.index t 0 * 1 + 1 * 0 = t.val / 16; omega
  | ⟨1, _⟩ => show win0_2.index t 1 * 512 + 1 * r.val = t.val % 16 * 512 + r.val; omega
  | ⟨2, _⟩ => show win0_2.index t 2 * 128 + 1 * k.val = k.val; omega

theorem iblk3_at (c : Dev nD) (t : Fin cfg0.N) (k : Fin 1024) : (iblk m c 3 t : S1x1x1024.Idx → EReal) (ix3 0 0 k) = (m ((c : Thread nD τ).loc main_arg3) : S4x1x1024.Idx → EReal) (ix3 (seqOf t) 0 k) := by
  refine Eq.trans (b := (V m c main_arg3 : S4x1x1024.Idx → EReal) (ix3 (seqOf t) 0 k)) ?_ (by rw [V_main_arg3])
  refine congrArg (V m c main_arg3 : S4x1x1024.Idx → EReal) (funext fun a => Fin.ext ?_)
  have e := (idxRow t).2.2.2.1
  match a with
  | ⟨0, _⟩ => show win0_3.index t 0 * 1 + 1 * 0 = t.val / 16; omega
  | ⟨1, _⟩ => show win0_3.index t 1 * 1 + 1 * 0 = 0; omega
  | ⟨2, _⟩ => show win0_3.index t 2 * 1024 + 1 * k.val = k.val; omega

theorem iblk4_at (c : Dev nD) (t : Fin cfg0.N) (k : Fin 1024) : (iblk m c 4 t : S1x1024.Idx → EReal) (ix2 0 k) = (m ((c : Thread nD τ).loc main_arg4) : S1024.Idx → EReal) (ix1 k) := by
  refine Eq.trans (b := (V m c main_v0 : S1x1024.Idx → EReal) (ix2 0 k)) (by blk_ext [iblk, idxAll t]) ?_
  exact (congrFun (entry m c) _).trans (moved _ k)

/-! ## The result array -/

/-- The rows over the arguments. -/
def rows (c : Dev nD) : S4x8192x1024.Idx → EReal := fun i =>
  finalRow (fun k => (m ((c : Thread nD τ).loc main_arg0) : S4x8192x1024.Idx → EReal) (ix3 (i 0) (i 1) k)) (fun k => (m ((c : Thread nD τ).loc main_arg3) : S4x1x1024.Idx → EReal) (ix3 (i 0) 0 k))
    (fun e k => (m ((c : Thread nD τ).loc main_arg1) : S4x4x8192x1024.Idx → EReal) (ix4 (i 0) e (i 1) k)) (fun e => (m ((c : Thread nD τ).loc main_arg2) : S4x8192x128.Idx → EReal) (ix3 (i 0) (i 1) ⟨e.val, by omega⟩))
    (fun k => (m ((c : Thread nD τ).loc main_arg4) : S1024.Idx → EReal) (ix1 k)) (i 2)

theorem covers5 : (cfg0.win 5).Covers :=
  Pipeline.Window.covers_of_index_surj _ rfl (fun a => by match a with | ⟨0, _⟩ => exact (by decide : 0 < 1) | ⟨1, _⟩ => exact (by decide : 0 < 512) | ⟨2, _⟩ => exact (by decide : 0 < 1024)) fun β => by
    have h0 : (β (0 : Fin 3)).val < 4 := (β (0 : Fin 3)).isLt
    have h1 : (β (1 : Fin 3)).val < 16 := Nat.lt_of_lt_of_eq (β (1 : Fin 3)).isLt (show (8192 + 512 - 1) / 512 = 16 from by norm_num)
    have h2 : (β (2 : Fin 3)).val < 1 := Nat.lt_of_lt_of_eq (β (2 : Fin 3)).isLt (show (1024 + 1024 - 1) / 1024 = 1 from by norm_num)
    have ht : (β (0 : Fin 3)).val * 16 + (β (1 : Fin 3)).val < cfg0.N := by show _ < 64; omega
    have e := (idxRow ⟨_, ht⟩).2.2.2.2
    refine ⟨⟨_, ht⟩, fun a => ?_⟩
    match a with
    | ⟨0, _⟩ => exact e.1.trans (by show ((β (0 : Fin 3)).val * 16 + (β (1 : Fin 3)).val) / 16 = (β (0 : Fin 3)).val; omega)
    | ⟨1, _⟩ => exact e.2.1.trans (by show ((β (0 : Fin 3)).val * 16 + (β (1 : Fin 3)).val) % 16 = (β (1 : Fin 3)).val; omega)
    | ⟨2, _⟩ => exact e.2.2.trans (by omega : 0 = (β (2 : Fin 3)).val)

theorem emb5 (t : Fin cfg0.N) (r : Fin 512) (j : Fin 1024) : ((cfg0.win 5).blk t).view.emb (ix3 0 r j : S1x512x1024.Idx) = (ix3 (seqOf t) (rowOf t r) j : S4x8192x1024.Idx) := by
  have e := (idxRow t).2.2.2.2
  refine funext fun a => Fin.ext ?_
  match a with
  | ⟨0, _⟩ => show win0_5.index t 0 * 1 + 1 * 0 = t.val / 16; omega
  | ⟨1, _⟩ => show win0_5.index t 1 * 512 + 1 * r.val = t.val % 16 * 512 + r.val; omega
  | ⟨2, _⟩ => show win0_5.index t 2 * 1024 + 1 * j.val = j.val; omega

attribute [local irreducible] out0_5

theorem arr5 (c : Dev nD) : ((dats m 0 c).arrAt 5 cfg0.N : S4x8192x1024.Idx → EReal) = rows m c := by
  refine (dats m 0 c).arrAt_eq_of_covers 5 _ covers5 (fun t _ y => ?_) (Memref.isWhole_whole _)
  rw [after0_5]
  obtain ⟨z, r, j, rfl⟩ : ∃ (z : Fin 1) (r : Fin 512) (j : Fin 1024), y = (ix3 z r j : S1x512x1024.Idx) := ⟨_, _, _, eq_ix3 (n0 := 1) (n1 := 512) (n2 := 1024) y⟩
  obtain rfl := Subsingleton.elim z 0
  refine Eq.trans ?_ (congrArg (rows m c) (emb5 t r j).symm)
  refine (block_at _ _ _ _ _ r j).trans ?_
  exact congr (congr (congr (congr (congr (congrArg finalRow (funext (iblk0_at m c t r))) (funext (iblk3_at m c t))) (funext fun e => funext (iblk1_at m c t e r))) (funext fun e => iblk2_at m c t r _)) (funext (iblk4_at m c t))) rfl

end Cert.FinalIdeal.Residual

namespace Cert.FinalRefIdeal.Residual

open Idealize.ShloMosaic Cert.FinalRefIdeal Cert.FinalRefIdeal.Gen Cert.Residual Cert.Inproj

/-- The experts' rows added to the stream. -/
def added (a0 : FVec Ideal S4x8192x1024 .f32) (a1 : FVec Ideal S4x4x8192x1024 .f32) (a2 : FVec Ideal S4x8192x128 .f32) (a3 : FVec Ideal S4x1x1024 .f32) : FVec Ideal S4x8192x1024 .f32 :=
  addf a0 (mulf (broadcastInDim S4x8192x1024 ![0, 1, 2] bcast_S4x1x1024_S4x8192x1024_0_1_2 a3) (Host.reduceAdd (mulf a1 (broadcastInDim S4x4x8192x1024 ![0, 1, 2, 3] bcast_S4x4x8192x1_S4x4x8192x1024_0_1_2_3
    (broadcastInDim S4x4x8192x1 ![0, 1, 2] bcast_S4x4x8192_S4x4x8192x1_0_1_2 (transpose S4x4x8192 [0, 2, 1] (extractStridedSlice S4x8192x4 ![0, 0, 0] a2 slices_S4x8192x128_S4x8192x4_0_0_0) transposes_S4x8192x4_S4x4x8192_0_2_1))))
    (constant S_ .f32 0x00000000#32) reducesTo_S4x4x8192x1024_S4x8192x1024_d1 h_S_))

/-- The sum normed. -/
def ended (x : FVec Ideal S4x8192x1024 .f32) (a4 : FVec Ideal S1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1
      (Host.reduceAdd (mulf x x) (constant S_ .f32 0x00000000#32) reducesTo_S4x8192x1024_S4x8192_d2 h_S_)) (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 a4))

theorem added_at (a0 : FVec Ideal S4x8192x1024 .f32) (a1 : FVec Ideal S4x4x8192x1024 .f32) (a2 : FVec Ideal S4x8192x128 .f32) (a3 : FVec Ideal S4x1x1024 .f32) (b : Fin 4) (p : Fin 8192) (k : Fin 1024) :
    added a0 a1 a2 a3 (ix3 b p k) = withExperts (fun k => a0 (ix3 b p k)) (fun k => a3 (ix3 b 0 k)) (fun e k => a1 (ix4 b e p k)) (fun e => a2 (ix3 b p ⟨e.val, by omega⟩)) k := by
  pointwise [added, withExperts]

theorem ended_at (x : FVec Ideal S4x8192x1024 .f32) (a4 : FVec Ideal S1024 .f32) (b : Fin 4) (p : Fin 8192) (k : Fin 1024) :
    ended x a4 (ix3 b p k) = normed 0x44800000#32 (fun k => x (ix3 b p k)) (fun k => a4 (ix1 k)) k := by
  pointwise [ended, normed]

variable (m : (ℓ : Loc nD τ sig) → Buf (Elt Ideal) ℓ) in
/-- The run's result by stages. -/
theorem run_stages (ρ : Dev nD → PrngReg) :
    θ_run defs (onTc (τ := τ) (main (F := Ideal))) ⟨m, fun _ => 0, ρ⟩ fun r => ∀ c : Dev nD,
      r.2.mem ((c.tc : Thread nD τ).loc main_v21) = ended (added (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => h c) (Value.run m ρ)

end Cert.FinalRefIdeal.Residual

namespace Cert.Residual

open Idealize.ShloMosaic Idealize.ShloMosaic.TcCoe
open Cert.FinalRefIdeal.Residual (added ended added_at ended_at)
open Cert.FinalIdeal.Residual (rows arr5)

theorem rows_eq (m : (ℓ : Loc FinalIdeal.nD FinalIdeal.τ FinalIdeal.sig) → Buf (Elt Ideal) ℓ) (c : Dev FinalIdeal.nD) :
    rows m c = ended (added (m (c.tc.loc FinalIdeal.main_arg0)) (m (c.tc.loc FinalIdeal.main_arg1)) (m (c.tc.loc FinalIdeal.main_arg2)) (m (c.tc.loc FinalIdeal.main_arg3))) (m (c.tc.loc FinalIdeal.main_arg4)) := by
  funext i
  obtain ⟨b, p, j, rfl⟩ : ∃ (b : Fin 4) (p : Fin 8192) (j : Fin 1024), i = (ix3 b p j : FinalIdeal.S4x8192x1024.Idx) := ⟨_, _, _, eq_ix3 (n0 := 4) (n1 := 8192) (n2 := 1024) i⟩
  exact ((ended_at _ _ b p j).trans (congrArg (fun x => Inproj.normed 0x44800000#32 x _ j) (funext (added_at _ _ _ _ b p)))).symm

/-- The prompt's last step computes the reference's function over the extended reals. -/
theorem value_final : @Cert.algebraic_FinalIdeal_FinalRefIdeal Cert.FinalIdeal.Gen.facts Cert.FinalRefIdeal.Gen.facts := by
  intro m g m' g' _ hagree
  refine ⟨fun c => ended (added (m (c.tc.loc FinalIdeal.main_arg0)) (m (c.tc.loc FinalIdeal.main_arg1)) (m (c.tc.loc FinalIdeal.main_arg2)) (m (c.tc.loc FinalIdeal.main_arg3))) (m (c.tc.loc FinalIdeal.main_arg4)), ?_, ?_⟩
  · refine (θ_run _ _ _).mono (fun r h c => ?_) (θ_run_and (FinalIdeal.Gen.frame m g) (FinalIdeal.Gen.run_main m g))
    exact ⟨((h.2 c).1 5).trans ((arr5 m c).trans (rows_eq m c)), h.1.1 c⟩
  · refine (θ_run _ _ _).mono (fun r h c => ?_) (Cert.FinalRefIdeal.Residual.run_stages m' g')
    obtain ⟨e0, e1, e2, e3, e4⟩ := hagree c
    have hc := h c
    rw [e0, e1, e2, e3, e4] at hc ⊢
    exact hc

end Cert.Residual
-- ==== Proof.ResLast.lean ====
/-
  The sample's last step: the experts' rows added to the residual stream, and the sum normed.
-/
module

public import proofs.«01_k».proof.Defs
public import proofs.«01_k».proof.Proof.Gen.LastIdeal.Frame
public import proofs.«01_k».proof.Proof.Gen.LastRefIdeal.Run
public import proofs.«01_k».proof.Proof.ResRow
public import Idealize.ShloMosaic.Lib.Pipeline.ValueKit
public import Idealize.ShloMosaic.Lib.Pipeline.Covers
public import Idealize.ShloMosaic.Lib.ValueIdxRank6
public import Idealize.ShloMosaic.Lib.Claim

@[expose] public section

set_option maxRecDepth 16384

noncomputable section

namespace Cert.LastIdeal.Residual

open Idealize.ShloMosaic Idealize.ShloMosaic.TcCoe Cert.LastIdeal Cert.LastIdeal.Gen Cert.Residual Cert.Inproj

/-! ## The block: the whole batch -/

section block

variable (x0 : Vec Ideal S1x32x1024 .f32) (x1 : Vec Ideal S1x4x32x1024 .f32) (x2 : Vec Ideal S1x32x128 .f32) (x3 : Vec Ideal S1x32x1024 .f32) (x4 : Vec Ideal S1x1024 .f32)

/-- The sum before the norm. -/
theorem sum_at (r : Fin 32) (k : Fin 1024) :
    k0_pay2 (F := Ideal) x2 (View.ld x1 r0_1) (View.ld x1 r0_2) (View.ld x1 r0_3) (View.ld x1 r0_4) x0 x3 (ix2 r k)
      = withExperts (fun k => x0 (ix3 0 r k)) (fun k => x3 (ix3 0 r k)) (fun e k => x1 (ix4 0 e r k)) (fun e => x2 (ix3 0 r ⟨e.val, by omega⟩)) k := by
  unfold withExperts
  rw [Fin.sum_univ_four, mul_comm (x1 (ix4 0 0 r k)), mul_comm (x1 (ix4 0 1 r k)), mul_comm (x1 (ix4 0 2 r k)), mul_comm (x1 (ix4 0 3 r k))]
  pointwise [k0_pay2]

theorem pay1_at (v : FVec Ideal S32x1024 .f32) (r : Fin 32) (j : Fin 1024) :
    k0_pay1 (F := Ideal) v x4 (ix3 0 r j) = normed 0x44800000#32 (fun k => v (ix2 r k)) (fun k => x4 (ix2 0 k)) j := by
  pointwise [k0_pay1, normed]

theorem block_at (r : Fin 32) (j : Fin 1024) :
    out0_5 (F := Ideal) x0 x1 x2 x3 x4 (ix3 0 r j)
      = finalRow (fun k => x0 (ix3 0 r k)) (fun k => x3 (ix3 0 r k)) (fun e k => x1 (ix4 0 e r k)) (fun e => x2 (ix3 0 r ⟨e.val, by omega⟩)) (fun k => x4 (ix2 0 k)) j := by
  unfold out0_5 finalRow
  frame_out
  refine (pay1_at _ _ r j).trans ?_
  exact congr (congr (congrArg (normed 0x44800000#32) (funext fun k => sum_at x0 x1 x2 x3 r k)) rfl) rfl

end block

variable (m : (ℓ : Loc nD τ sig) → Buf (Elt Ideal) ℓ)

/-! ## The operands: each read whole -/

theorem idxIn : ∀ t : Fin cfg0.N, (win0_0.index t 0 = 0 ∧ win0_0.index t 1 = 0 ∧ win0_0.index t 2 = 0)
    ∧ (win0_1.index t 0 = 0 ∧ win0_1.index t 1 = 0 ∧ win0_1.index t 2 = 0 ∧ win0_1.index t 3 = 0)
    ∧ (win0_2.index t 0 = 0 ∧ win0_2.index t 1 = 0 ∧ win0_2.index t 2 = 0)
    ∧ (win0_3.index t 0 = 0 ∧ win0_3.index t 1 = 0 ∧ win0_3.index t 2 = 0)
    ∧ (win0_4.index t 0 = 0 ∧ win0_4.index t 1 = 0)
    ∧ (win0_5.index t 0 = 0 ∧ win0_5.index t 1 = 0 ∧ win0_5.index t 2 = 0) :=
  (by decide +kernel : ∀ t : Fin grid0.N, _)

theorem entry (c : Dev nD) : (V m c main_v0 : S1x1024.Idx → EReal) = shapeCast S1x1024 (m ((c : Thread nD τ).loc main_arg4) : S1024.Idx → EReal) shapeCasts_S1024_S1x1024 := by
  show StableHlo.after (List.flatten [hostOps0]) (fun b => m (c, b)) _ = _
  simp only [hostOps0, List.flatten_cons, List.flatten_nil, List.append_nil]
  after_results
  try rfl

theorem moved (a : S1024.Idx → EReal) (k : Fin 1024) : shapeCast S1x1024 a shapeCasts_S1024_S1x1024 (ix2 0 k) = a (ix1 k) := by pointwise

theorem iblk0_at (c : Dev nD) (t : Fin cfg0.N) (r : Fin 32) (k : Fin 1024) : (iblk m c 0 t : S1x32x1024.Idx → EReal) (ix3 0 r k) = (m ((c : Thread nD τ).loc main_arg0) : S1x32x1024.Idx → EReal) (ix3 0 r k) := by
  refine Eq.trans (b := (V m c main_arg0 : S1x32x1024.Idx → EReal) (ix3 0 r k)) (by blk_ext [iblk, idxIn t]) (by rw [V_main_arg0])

theorem iblk1_at (c : Dev nD) (t : Fin cfg0.N) (e : Fin 4) (r : Fin 32) (k : Fin 1024) : (iblk m c 1 t : S1x4x32x1024.Idx → EReal) (ix4 0 e r k) = (m ((c : Thread nD τ).loc main_arg1) : S1x4x32x1024.Idx → EReal) (ix4 0 e r k) := by
  refine Eq.trans (b := (V m c main_arg1 : S1x4x32x1024.Idx → EReal) (ix4 0 e r k)) (by blk_ext [iblk, idxIn t]) (by rw [V_main_arg1])

theorem iblk2_at (c : Dev nD) (t : Fin cfg0.N) (r : Fin 32) (k : Fin 128) : (iblk m c 2 t : S1x32x128.Idx → EReal) (ix3 0 r k) = (m ((c : Thread nD τ).loc main_arg2) : S1x32x128.Idx → EReal) (ix3 0 r k) := by
  refine Eq.trans (b := (V m c main_arg2 : S1x32x128.Idx → EReal) (ix3 0 r k)) (by blk_ext [iblk, idxIn t]) (by rw [V_main_arg2])

theorem iblk3_at (c : Dev nD) (t : Fin cfg0.N) (r : Fin 32) (k : Fin 1024) : (iblk m c 3 t : S1x32x1024.Idx → EReal) (ix3 0 r k) = (m ((c : Thread nD τ).loc main_arg3) : S1x32x1024.Idx → EReal) (ix3 0 r k) := by
  refine Eq.trans (b := (V m c main_arg3 : S1x32x1024.Idx → EReal) (ix3 0 r k)) (by blk_ext [iblk, idxIn t]) (by rw [V_main_arg3])

theorem iblk4_at (c : Dev nD) (t : Fin cfg0.N) (k : Fin 1024) : (iblk m c 4 t : S1x1024.Idx → EReal) (ix2 0 k) = (m ((c : Thread nD τ).loc main_arg4) : S1024.Idx → EReal) (ix1 k) := by
  refine Eq.trans (b := (V m c main_v0 : S1x1024.Idx → EReal) (ix2 0 k)) (by blk_ext [iblk, idxIn t]) ?_
  exact (congrFun (entry m c) _).trans (moved _ k)

/-! ## The result -/

/-- The rows over the arguments. -/
def rowAt (c : Dev nD) (r : Fin 32) : Fin 1024 → EReal :=
  finalRow (fun k => (m ((c : Thread nD τ).loc main_arg0) : S1x32x1024.Idx → EReal) (ix3 0 r k)) (fun k => (m ((c : Thread nD τ).loc main_arg3) : S1x32x1024.Idx → EReal) (ix3 0 r k))
    (fun e k => (m ((c : Thread nD τ).loc main_arg1) : S1x4x32x1024.Idx → EReal) (ix4 0 e r k)) (fun e => (m ((c : Thread nD τ).loc main_arg2) : S1x32x128.Idx → EReal) (ix3 0 r ⟨e.val, by omega⟩))
    (fun k => (m ((c : Thread nD τ).loc main_arg4) : S1024.Idx → EReal) (ix1 k))

attribute [local irreducible] out0_5

/-- What a buffer holds at the end. -/
abbrev last (c : Dev nD) (b : Ref sig .tc) := Pipeline.afterTail₀ cfgs (dats m) 0 (V0 m) [hostOps1] c b

/-- A window's array when the launch ends. -/
abbrev fin (c : Dev nD) (w : Fin 6) := (dats m 0 c).arrAt w (cfgs 0).N

theorem at_arr (c : Dev nD) (w : Fin 6) :
    Pipeline.withArrays (cfgs 0).spec c (V0 m c) (fun w => (dats m 0 c).arrAt w (cfgs 0).N) (Proc.tc.devRef (Pipeline.arrRef spec0 w)) = fin m c w :=
  Pipeline.withArrays_arr _ launch0.win.arr_inj c (V0 m c) _ w

theorem arr5 (c : Dev nD) (r : Fin 32) (j : Fin 1024) : (fin m c 5 : S1x32x1024.Idx → EReal) (ix3 0 r j) = rowAt m c r j := by
  refine Eq.trans (congrFun ((dats m 0 c).arrAt_eq_of_after_last 5 t0_0 (by decide +kernel) _ fun y => ?_) _) ((block_at (iblk m c 0 t0_0) (iblk m c 1 t0_0) (iblk m c 2 t0_0) (iblk m c 3 t0_0) (iblk m c 4 t0_0) r j).trans ?_)
  · blk_simp
    rw [after0_5]
    blk_ext [idxIn t0_0]
  · exact congr (congr (congr (congr (congr (congrArg finalRow (funext (iblk0_at m c t0_0 r))) (funext (iblk3_at m c t0_0 r))) (funext fun e => funext (iblk1_at m c t0_0 e r))) (funext fun e => iblk2_at m c t0_0 r _)) (funext (iblk4_at m c t0_0))) rfl

/-- The batch's rows, each a sequence of one. -/
def apart (x : FVec Ideal S1x32x1024 .f32) : FVec Ideal S32x1x1024 .f32 := shapeCast _ x shapeCasts_S1x32x1024_S32x1x1024

theorem apart_at (x : FVec Ideal S1x32x1024 .f32) (r : Fin 32) (j : Fin 1024) : apart x (ix3 r 0 j) = x (ix3 0 r j) := by
  pointwise [apart]

theorem last_rows (c : Dev nD) : last m c main_v2 = apart (fin m c 5) := by
  unfold last Pipeline.afterTail₀
  simp only [hostOps1, List.flatten_cons, List.flatten_nil, List.append_nil, List.cons_append, List.nil_append]
  after_results
  exact congrArg apart (at_arr m c 5)

end Cert.LastIdeal.Residual

namespace Cert.LastRefIdeal.Residual

open Idealize.ShloMosaic Cert.LastRefIdeal Cert.LastRefIdeal.Gen Cert.Residual Cert.Inproj

/-- The experts' rows added to the stream. -/
def added (a0 : FVec Ideal S1x32x1024 .f32) (a1 : FVec Ideal S1x4x32x1024 .f32) (a2 : FVec Ideal S1x32x128 .f32) (a3 : FVec Ideal S1x32x1024 .f32) : FVec Ideal S1x32x1024 .f32 :=
  addf a0 (mulf a3 (Host.reduceAdd (mulf a1 (broadcastInDim S1x4x32x1024 ![0, 1, 2, 3] bcast_S1x4x32x1_S1x4x32x1024_0_1_2_3
    (broadcastInDim S1x4x32x1 ![0, 1, 2] bcast_S1x4x32_S1x4x32x1_0_1_2 (transpose S1x4x32 [0, 2, 1] (extractStridedSlice S1x32x4 ![0, 0, 0] a2 slices_S1x32x128_S1x32x4_0_0_0) transposes_S1x32x4_S1x4x32_0_2_1))))
    (constant S_ .f32 0x00000000#32) reducesTo_S1x4x32x1024_S1x32x1024_d1 h_S_))

/-- The sum normed. -/
def ended (x : FVec Ideal S1x32x1024 .f32) (a4 : FVec Ideal S1024 .f32) : FVec Ideal S32x1x1024 .f32 :=
  shapeCast _ (mulf (mulf x (broadcastInDim S1x32x1024 ![0, 1, 2] bcast_S1x32x1_S1x32x1024_0_1_2 (Host.rsqrt (addf (Host.divf (broadcastInDim S1x32x1 ![0, 1] bcast_S1x32_S1x32x1_0_1
      (Host.reduceAdd (mulf x x) (constant S_ .f32 0x00000000#32) reducesTo_S1x32x1024_S1x32_d2 h_S_)) (broadcastInDim S1x32x1 ![] bcast_S_S1x32x1 (constant S_ .f32 0x44800000#32)))
      (broadcastInDim S1x32x1 ![] bcast_S_S1x32x1 (constant S_ .f32 0x358637BD#32))))))
    (broadcastInDim S1x32x1024 ![0, 1, 2] bcast_S1x1x1024_S1x32x1024_0_1_2 (broadcastInDim S1x1x1024 ![2] bcast_S1024_S1x1x1024_2 a4))) shapeCasts_S1x32x1024_S32x1x1024

theorem added_at (a0 : FVec Ideal S1x32x1024 .f32) (a1 : FVec Ideal S1x4x32x1024 .f32) (a2 : FVec Ideal S1x32x128 .f32) (a3 : FVec Ideal S1x32x1024 .f32) (r : Fin 32) (k : Fin 1024) :
    added a0 a1 a2 a3 (ix3 0 r k) = withExperts (fun k => a0 (ix3 0 r k)) (fun k => a3 (ix3 0 r k)) (fun e k => a1 (ix4 0 e r k)) (fun e => a2 (ix3 0 r ⟨e.val, by omega⟩)) k := by
  pointwise [added, withExperts]

theorem ended_at (x : FVec Ideal S1x32x1024 .f32) (a4 : FVec Ideal S1024 .f32) (r : Fin 32) (k : Fin 1024) :
    ended x a4 (ix3 r 0 k) = normed 0x44800000#32 (fun k => x (ix3 0 r k)) (fun k => a4 (ix1 k)) k := by
  pointwise [ended, normed]

variable (m : (ℓ : Loc nD τ sig) → Buf (Elt Ideal) ℓ) in
/-- The run's result by stages. -/
theorem run_stages (ρ : Dev nD → PrngReg) :
    θ_run defs (onTc (τ := τ) (main (F := Ideal))) ⟨m, fun _ => 0, ρ⟩ fun r => ∀ c : Dev nD,
      r.2.mem ((c.tc : Thread nD τ).loc main_v21) = ended (added (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => h c) (Value.run m ρ)

end Cert.LastRefIdeal.Residual

namespace Cert.Residual

open Idealize.ShloMosaic Idealize.ShloMosaic.TcCoe
open Cert.LastRefIdeal.Residual (added ended added_at ended_at)
open Cert.LastIdeal.Residual (apart apart_at arr5 last_rows)

theorem last_eq (m : (ℓ : Loc LastIdeal.nD LastIdeal.τ LastIdeal.sig) → Buf (Elt Ideal) ℓ) (c : Dev LastIdeal.nD) :
    apart (LastIdeal.Residual.fin m c 5) = ended (added (m (c.tc.loc LastIdeal.main_arg0)) (m (c.tc.loc LastIdeal.main_arg1)) (m (c.tc.loc LastIdeal.main_arg2)) (m (c.tc.loc LastIdeal.main_arg3))) (m (c.tc.loc LastIdeal.main_arg4)) := by
  funext i
  obtain ⟨r, z, j, rfl⟩ : ∃ (r : Fin 32) (z : Fin 1) (j : Fin 1024), i = (ix3 r z j : LastIdeal.S32x1x1024.Idx) := ⟨_, _, _, eq_ix3 (n0 := 32) (n1 := 1) (n2 := 1024) i⟩
  obtain rfl := Subsingleton.elim z 0
  refine (apart_at _ r j).trans ((arr5 m c r j).trans ?_)
  exact ((ended_at _ _ r j).trans (congrArg (fun x => Inproj.normed 0x44800000#32 x _ j) (funext (added_at _ _ _ _ r)))).symm

/-- The sample's last step computes the reference's function over the extended reals. -/
theorem value_last : @Cert.algebraic_LastIdeal_LastRefIdeal Cert.LastIdeal.Gen.facts Cert.LastRefIdeal.Gen.facts := by
  intro m g m' g' _ hagree
  refine ⟨fun c => ended (added (m (c.tc.loc LastIdeal.main_arg0)) (m (c.tc.loc LastIdeal.main_arg1)) (m (c.tc.loc LastIdeal.main_arg2)) (m (c.tc.loc LastIdeal.main_arg3))) (m (c.tc.loc LastIdeal.main_arg4)), ?_, ?_⟩
  · refine (θ_run _ _ _).mono (fun r h c => ?_) (θ_run_and (LastIdeal.Gen.frame m g) (LastIdeal.Gen.run_main m g))
    exact ⟨((h.2 c).2 LastIdeal.main_v2 (Pipeline.mem_restRefs_of LastIdeal.main_v2 (by decide) (by decide))).trans ((last_rows m c).trans (last_eq m c)), h.1.1 c⟩
  · refine (θ_run _ _ _).mono (fun r h c => ?_) (Cert.LastRefIdeal.Residual.run_stages m' g')
    obtain ⟨e0, e1, e2, e3, e4⟩ := hagree c
    have hc := h c
    rw [e0, e1, e2, e3, e4] at hc ⊢
    exact hc

end Cert.Residual
-- ==== Proof.lean ====
/-
  The claim: the frames of the expert pass, of the two input projections, of the two merges and of the two last steps, and
  that over the reals their results are the references'.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_names_experts
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.PromptRefIdeal
public import proofs.«01_k».proof.Proof.Gen.PromptRefIdeal.Run
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleRefIdeal
public import proofs.«01_k».proof.Proof.Gen.SampleRefIdeal.Run
public import proofs.«01_k».proof.Proof.Gen.Merge
public import proofs.«01_k».proof.Proof.Gen.Join
public import proofs.«01_k».proof.Proof.Gen.Merge.Skeleton
public import proofs.«01_k».proof.Proof.Gen.Join.Skeleton
public import proofs.«01_k».proof.Proof.Gen.Merge.Launch
public import proofs.«01_k».proof.Proof.Gen.Join.Launch
public import proofs.«01_k».proof.Proof.Gen.Merge.Points
public import proofs.«01_k».proof.Proof.Gen.Join.Points
public import proofs.«01_k».proof.Proof.Gen.Merge.Frame
public import proofs.«01_k».proof.Proof.Gen.Join.Frame
public import proofs.«01_k».proof.Proof.Gen.MergeIdeal
public import proofs.«01_k».proof.Proof.Gen.JoinIdeal
public import proofs.«01_k».proof.Proof.Gen.MergeIdeal.Skeleton
public import proofs.«01_k».proof.Proof.Gen.JoinIdeal.Skeleton
public import proofs.«01_k».proof.Proof.Gen.MergeIdeal.Launch
public import proofs.«01_k».proof.Proof.Gen.JoinIdeal.Launch
public import proofs.«01_k».proof.Proof.Gen.MergeIdeal.Points
public import proofs.«01_k».proof.Proof.Gen.JoinIdeal.Points
public import proofs.«01_k».proof.Proof.Gen.MergeIdeal.Frame
public import proofs.«01_k».proof.Proof.Gen.JoinIdeal.Frame
public import proofs.«01_k».proof.Proof.Gen.MergeRefIdeal
public import proofs.«01_k».proof.Proof.Gen.JoinRefIdeal
public import proofs.«01_k».proof.Proof.Gen.MergeRefIdeal.Run
public import proofs.«01_k».proof.Proof.Gen.JoinRefIdeal.Run
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.FinalRefIdeal.Run
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.LastRefIdeal.Run
public import proofs.«01_k».proof.Proof.MoeCarry
public import proofs.«01_k».proof.Proof.MoeValue
public import proofs.«01_k».proof.Proof.InpSampleEnd
public import proofs.«01_k».proof.Proof.InpPromptCarry
public import proofs.«01_k».proof.Proof.InpPromptEnd
public import proofs.«01_k».proof.Proof.ResMerge
public import proofs.«01_k».proof.Proof.ResJoin
public import proofs.«01_k».proof.Proof.ResFinal
public import proofs.«01_k».proof.Proof.ResLast
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Over the reals the kernel's result and the reference's are one array. -/
theorem value : Cert.algebraic_KernelIdeal_ReferenceIdeal (hKernelIdeal := Cert.KernelIdeal.Gen.facts) (hReferenceIdeal := Cert.ReferenceIdeal.Gen.facts)
    (hPre_names_experts := Cert.Pre_names_experts.Gen.facts) := by
  intro m g m' g' hpre hagree
  have hw : ∀ (c : Dev Cert.KernelIdeal.nD) (j : Cert.KernelIdeal.S289.Idx),
      ((m ((c.tc : Thread Cert.KernelIdeal.nD Cert.KernelIdeal.τ).loc Cert.KernelIdeal.main_arg0) : Cert.KernelIdeal.S289.Idx → BitVec 32) j).toNat < 32 :=
    fun c => Cert.Pre_names_experts.Gen.word_lt _ _ _ _ _ _ _ (hpre c)
  have hO := Cert.KernelIdeal.Gen.ok_of_words m (hw 0)
  refine ⟨fun c => (Cert.KernelIdeal.Gen.dats m hO 0 c).arrAt 5 (Cert.KernelIdeal.Gen.cfgM m hO).N,
    (θ_run _ _ _).mono (fun r h c => ?_) (Cert.KernelIdeal.Gen.run_main m g hO),
    (θ_run _ _ _).mono (fun r h c => ?_) (Cert.ReferenceIdeal.Value.run m' g')⟩
  · have h' := Cert.KernelIdeal.Gen.final_mem hO h.1 c
    exact ⟨h'.2, h'.1⟩
  · refine ⟨(h c).1.trans ?_, (h c).2⟩
    obtain ⟨h0, h1, h2, h3, h4, h5, h6⟩ := hagree c
    refine Eq.trans (Cert.ReferenceIdeal.Experts.res_eq m' c) ?_
    rw [h0, h1, h2, h3, h4, h5, h6]
    exact (Cert.KernelIdeal.Experts.final m hO c (hw c)).symm

theorem claim : Cert.Claim := ⟨Cert.Kernel.Gen.facts, Cert.KernelIdeal.Gen.facts, Cert.ReferenceIdeal.Gen.facts, Cert.Sample.Gen.facts, Cert.SampleIdeal.Gen.facts,
    Cert.SampleRefIdeal.Gen.facts, Cert.Prompt.Gen.facts, Cert.PromptIdeal.Gen.facts, Cert.PromptRefIdeal.Gen.facts, Cert.Merge.Gen.facts, Cert.MergeIdeal.Gen.facts, Cert.MergeRefIdeal.Gen.facts,
    Cert.Final.Gen.facts, Cert.FinalIdeal.Gen.facts, Cert.FinalRefIdeal.Gen.facts, Cert.Last.Gen.facts, Cert.LastIdeal.Gen.facts, Cert.LastRefIdeal.Gen.facts, Cert.Join.Gen.facts, Cert.JoinIdeal.Gen.facts, Cert.JoinRefIdeal.Gen.facts, Cert.Pre_names_experts.Gen.facts, by
  refine ⟨Cert.Experts.frame_kernel, Cert.Experts.frame_ideal, ?_, fun m ρ _ => Cert.Sample.Gen.frame m ρ, fun m ρ _ => Cert.SampleIdeal.Gen.frame m ρ, ?_,
    fun m ρ _ => Cert.Inproj.frame_prompt m ρ, fun m ρ _ => Cert.PromptIdeal.Gen.frame m ρ, ?_, fun m ρ _ => Cert.Merge.Gen.frame m ρ, fun m ρ _ => Cert.MergeIdeal.Gen.frame m ρ, ?_,
    fun m ρ _ => Cert.Final.Gen.frame m ρ, fun m ρ _ => Cert.FinalIdeal.Gen.frame m ρ, ?_, fun m ρ _ => Cert.Last.Gen.frame m ρ, fun m ρ _ => Cert.LastIdeal.Gen.frame m ρ, ?_,
    fun m ρ _ => Cert.Join.Gen.frame m ρ, fun m ρ _ => Cert.JoinIdeal.Gen.frame m ρ, ?_,
    trivial, value, trivial, Cert.Inproj.value_sample, trivial, Cert.Inproj.value_prompt, trivial, Cert.Residual.value_merge, trivial, Cert.Residual.value_final, trivial, Cert.Residual.value_last, trivial, Cert.Residual.value_join⟩
  · intro m g _
    exact (θ_run _ _ _).mono (fun r h => ⟨fun c => (h c).2, sem_eq_zero_of_no_sems rfl r.2⟩) (Cert.ReferenceIdeal.Value.run m g)
  · intro m g _
    exact (θ_run _ _ _).mono (fun r h => ⟨fun c => (h c).2.2.2.2.2.2.2, sem_eq_zero_of_no_sems rfl r.2⟩) (Cert.SampleRefIdeal.Value.run m g)
  · intro m g _
    exact (θ_run _ _ _).mono (fun r h => ⟨fun c => (h c).2.2.2.2.2.2.2.2.2, sem_eq_zero_of_no_sems rfl r.2⟩) (Cert.PromptRefIdeal.Value.run m g)
  · intro m g _
    exact (θ_run _ _ _).mono (fun r h => ⟨fun c => (h c).2.2, sem_eq_zero_of_no_sems rfl r.2⟩) (Cert.MergeRefIdeal.Value.run m g)
  · intro m g _
    exact (θ_run _ _ _).mono (fun r h => ⟨fun c => (h c).2, sem_eq_zero_of_no_sems rfl r.2⟩) (Cert.FinalRefIdeal.Value.run m g)
  · intro m g _
    exact (θ_run _ _ _).mono (fun r h => ⟨fun c => (h c).2, sem_eq_zero_of_no_sems rfl r.2⟩) (Cert.LastRefIdeal.Value.run m g)
  · intro m g _
    exact (θ_run _ _ _).mono (fun r h => ⟨fun c => (h c).2.2, sem_eq_zero_of_no_sems rfl r.2⟩) (Cert.JoinRefIdeal.Value.run m g)⟩

end Cert.Proof

end
